-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨4, ![4, 1024, 8, 128]⟩ ⟨4, ![4, 4096, 8, 128]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨4, ![4, 1024, 8, 128]⟩ ⟨4, ![4, 4096, 8, 128]⟩ 1 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v101) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S4x256x1024 : Shape := ⟨3, ![4, 256, 1024]⟩
abbrev S1024x1024 : Shape := ⟨2, ![1024, 1024]⟩
abbrev S4x1024x8x128 : Shape := ⟨4, ![4, 1024, 8, 128]⟩
abbrev S_ : Shape := ⟨0, ![]⟩

class Facts : Prop where
  bcast_S_S4x256x1024 : S_.BroadcastsInDim S4x256x1024 (![] : Fin 0 → Fin S4x256x1024.rank)
  bcast_S_S1024x1024 : S_.BroadcastsInDim S1024x1024 (![] : Fin 0 → Fin S1024x1024.rank)
  bcast_S_S4x1024x8x128 : S_.BroadcastsInDim S4x1024x8x128 (![] : Fin 0 → Fin S4x1024x8x128.rank)

variable [Facts]

def fn {F : FTy → Type} [FloatOps F] (main_arg0 : FVec F S4x256x1024 .f32) (main_arg1 : FVec F S1024x1024 .f32) (main_arg2 : FVec F S1024x1024 .f32) (main_arg3 : FVec F S4x1024x8x128 .f32) (main_arg4 : FVec F S4x1024x8x128 .f32) : IVec S4x256x1024 1 × IVec S1024x1024 1 × IVec S4x1024x8x128 1 :=
  let main_cst : FVec F S_ .f32 := constant S_ .f32 0xFF800000#32
  let main_v0 : FVec F S4x256x1024 .f32 := broadcastInDim S4x256x1024 ![] bcast_S_S4x256x1024 main_cst
  let main_v1 : IVec S4x256x1024 1 := cmpf .olt main_v0 main_arg0
  let main_cst_0 : FVec F S_ .f32 := constant S_ .f32 0x7F800000#32
  let main_v2 : FVec F S4x256x1024 .f32 := broadcastInDim S4x256x1024 ![] bcast_S_S4x256x1024 main_cst_0
  let main_v3 : IVec S4x256x1024 1 := cmpf .olt main_arg0 main_v2
  let main_v4 : IVec S4x256x1024 1 := andi main_v1 main_v3
  let main_cst_1 : FVec F S_ .f32 := constant S_ .f32 0xFF800000#32
  let main_v5 : FVec F S1024x1024 .f32 := broadcastInDim S1024x1024 ![] bcast_S_S1024x1024 main_cst_1
  let main_v6 : IVec S1024x1024 1 := cmpf .olt main_v5 main_arg1
  let main_cst_2 : FVec F S_ .f32 := constant S_ .f32 0x7F800000#32
  let main_v7 : FVec F S1024x1024 .f32 := broadcastInDim S1024x1024 ![] bcast_S_S1024x1024 main_cst_2
  let main_v8 : IVec S1024x1024 1 := cmpf .olt main_arg1 main_v7
  let main_v9 : IVec S1024x1024 1 := andi main_v6 main_v8
  let main_cst_3 : FVec F S_ .f32 := constant S_ .f32 0xFF800000#32
  let main_v10 : FVec F S4x1024x8x128 .f32 := broadcastInDim S4x1024x8x128 ![] bcast_S_S4x1024x8x128 main_cst_3
  let main_v11 : IVec S4x1024x8x128 1 := cmpf .olt main_v10 main_arg3
  let main_cst_4 : FVec F S_ .f32 := constant S_ .f32 0x7F800000#32
  let main_v12 : FVec F S4x1024x8x128 .f32 := broadcastInDim S4x1024x8x128 ![] bcast_S_S4x1024x8x128 main_cst_4
  let main_v13 : IVec S4x1024x8x128 1 := cmpf .olt main_arg3 main_v12
  let main_v14 : IVec S4x1024x8x128 1 := andi main_v11 main_v13
  (main_v4, main_v9, main_v14)
-- ==== Pre_finite_scores_ReferenceIdeal.lean ====
abbrev S4x256x1024 : Shape := ⟨3, ![4, 256, 1024]⟩
abbrev S1024x1024 : Shape := ⟨2, ![1024, 1024]⟩
abbrev S4x4096x8x128 : Shape := ⟨4, ![4, 4096, 8, 128]⟩
abbrev S_ : Shape := ⟨0, ![]⟩

class Facts : Prop where
  bcast_S_S4x256x1024 : S_.BroadcastsInDim S4x256x1024 (![] : Fin 0 → Fin S4x256x1024.rank)
  bcast_S_S1024x1024 : S_.BroadcastsInDim S1024x1024 (![] : Fin 0 → Fin S1024x1024.rank)
  bcast_S_S4x4096x8x128 : S_.BroadcastsInDim S4x4096x8x128 (![] : Fin 0 → Fin S4x4096x8x128.rank)

variable [Facts]

def fn {F : FTy → Type} [FloatOps F] (main_arg0 : FVec F S4x256x1024 .f32) (main_arg1 : FVec F S1024x1024 .f32) (main_arg2 : FVec F S1024x1024 .f32) (main_arg3 : FVec F S4x4096x8x128 .f32) (main_arg4 : FVec F S4x4096x8x128 .f32) : IVec S4x256x1024 1 × IVec S1024x1024 1 × IVec S4x4096x8x128 1 :=
  let main_cst : FVec F S_ .f32 := constant S_ .f32 0xFF800000#32
  let main_v0 : FVec F S4x256x1024 .f32 := broadcastInDim S4x256x1024 ![] bcast_S_S4x256x1024 main_cst
  let main_v1 : IVec S4x256x1024 1 := cmpf .olt main_v0 main_arg0
  let main_cst_0 : FVec F S_ .f32 := constant S_ .f32 0x7F800000#32
  let main_v2 : FVec F S4x256x1024 .f32 := broadcastInDim S4x256x1024 ![] bcast_S_S4x256x1024 main_cst_0
  let main_v3 : IVec S4x256x1024 1 := cmpf .olt main_arg0 main_v2
  let main_v4 : IVec S4x256x1024 1 := andi main_v1 main_v3
  let main_cst_1 : FVec F S_ .f32 := constant S_ .f32 0xFF800000#32
  let main_v5 : FVec F S1024x1024 .f32 := broadcastInDim S1024x1024 ![] bcast_S_S1024x1024 main_cst_1
  let main_v6 : IVec S1024x1024 1 := cmpf .olt main_v5 main_arg1
  let main_cst_2 : FVec F S_ .f32 := constant S_ .f32 0x7F800000#32
  let main_v7 : FVec F S1024x1024 .f32 := broadcastInDim S1024x1024 ![] bcast_S_S1024x1024 main_cst_2
  let main_v8 : IVec S1024x1024 1 := cmpf .olt main_arg1 main_v7
  let main_v9 : IVec S1024x1024 1 := andi main_v6 main_v8
  let main_cst_3 : FVec F S_ .f32 := constant S_ .f32 0xFF800000#32
  let main_v10 : FVec F S4x4096x8x128 .f32 := broadcastInDim S4x4096x8x128 ![] bcast_S_S4x4096x8x128 main_cst_3
  let main_v11 : IVec S4x4096x8x128 1 := cmpf .olt main_v10 main_arg3
  let main_cst_4 : FVec F S_ .f32 := constant S_ .f32 0x7F800000#32
  let main_v12 : FVec F S4x4096x8x128 .f32 := broadcastInDim S4x4096x8x128 ![] bcast_S_S4x4096x8x128 main_cst_4
  let main_v13 : IVec S4x4096x8x128 1 := cmpf .olt main_arg3 main_v12
  let main_v14 : IVec S4x4096x8x128 1 := andi main_v11 main_v13
  (main_v4, main_v9, main_v14)
-- ==== Kernel.lean ====
abbrev S4x256x1024 : Shape := ⟨3, ![4, 256, 1024]⟩
abbrev S1024x1024 : Shape := ⟨2, ![1024, 1024]⟩
abbrev S4x1024x8x128 : Shape := ⟨4, ![4, 1024, 8, 128]⟩
abbrev S4x256x16 : Shape := ⟨3, ![4, 256, 16]⟩
abbrev S2x4x256x1024 : Shape := ⟨4, ![2, 4, 256, 1024]⟩
abbrev S2x4x256x16 : Shape := ⟨4, ![2, 4, 256, 16]⟩
abbrev S4x1024x128 : Shape := ⟨3, ![4, 1024, 128]⟩
abbrev S4x2 : Shape := ⟨2, ![4, 2]⟩
abbrev S16 : Shape := ⟨1, ![16]⟩
abbrev S_ : Shape := ⟨0, ![]⟩
abbrev S1x1 : Shape := ⟨2, ![1, 1]⟩
abbrev S1x1024x128 : Shape := ⟨3, ![1, 1024, 128]⟩
abbrev S1024x128 : Shape := ⟨2, ![1024, 128]⟩
abbrev S1x1024x1x128 : Shape := ⟨4, ![1, 1024, 1, 128]⟩
abbrev S1x256x1024 : Shape := ⟨3, ![1, 256, 1024]⟩
abbrev S256x1024 : Shape := ⟨2, ![256, 1024]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x256x1024 : Shape := ⟨4, ![1, 1, 256, 1024]⟩
abbrev S1x1x256x16 : Shape := ⟨4, ![1, 1, 256, 16]⟩
abbrev S1x256x16 : Shape := ⟨3, ![1, 256, 16]⟩
abbrev S256x16 : Shape := ⟨2, ![256, 16]⟩
abbrev S256x8 : Shape := ⟨2, ![256, 8]⟩
abbrev S1x256x8 : Shape := ⟨3, ![1, 256, 8]⟩
abbrev S1x1x256x128 : Shape := ⟨4, ![1, 1, 256, 128]⟩

abbrev nBuf : Space → Nat
  | .hbm => 6
  | .vmem => 13
  | .smem => 0
  | _ => 0

abbrev bufTy : (tb : Table) → Fin (tcTables nBuf tb) → BufTy
  | .hbm, ⟨0, _⟩ => ⟨S4x256x1024, .f32⟩
  | .hbm, ⟨1, _⟩ => ⟨S1024x1024, .f32⟩
  | .hbm, ⟨2, _⟩ => ⟨S1024x1024, .f32⟩
  | .hbm, ⟨3, _⟩ => ⟨S4x1024x8x128, .f32⟩
  | .hbm, ⟨4, _⟩ => ⟨S4x1024x8x128, .f32⟩
  | .hbm, ⟨5, _⟩ => ⟨S4x256x1024, .f32⟩
  | .local _ .vmem, ⟨0, _⟩ => ⟨S4x256x1024, .f32⟩
  | .local _ .vmem, ⟨1, _⟩ => ⟨S1024x1024, .f32⟩
  | .local _ .vmem, ⟨2, _⟩ => ⟨S1024x1024, .f32⟩
  | .local _ .vmem, ⟨3, _⟩ => ⟨S4x256x1024, .f32⟩
  | .local _ .vmem, ⟨4, _⟩ => ⟨S4x256x1024, .bf16⟩
  | .local _ .vmem, ⟨5, _⟩ => ⟨S4x256x1024, .f32⟩
  | .local _ .vmem, ⟨6, _⟩ => ⟨S4x256x16, .f32⟩
  | .local _ .vmem, ⟨7, _⟩ => ⟨S4x256x16, .f32⟩
  | .local _ .vmem, ⟨8, _⟩ => ⟨S2x4x256x1024, .bf16⟩
  | .local _ .vmem, ⟨9, _⟩ => ⟨S2x4x256x16, .f32⟩
  | .local _ .vmem, ⟨10, _⟩ => ⟨S4x1024x128, .f32⟩
  | .local _ .vmem, ⟨11, _⟩ => ⟨S4x1024x128, .f32⟩
  | .local _ .vmem, ⟨12, _⟩ => ⟨S1024x1024, .bf16⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  (ofTc nBuf bufTy 1 44 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2 : BitVec 32 := 1#32
  let v6 : BitVec 32 := Scalar.muli v3 c1_i32_2
  let v7 : BitVec 32 := Scalar.addi c0_i32 v6
  v7.toNat
def k0_dev2 (d0 : Dev nD) : Nat :=
  let c0_i32_5 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_4 : BitVec 32 := 1#32
  let v8 : BitVec 32 := Scalar.muli v4 c1_i32_4
  let v9 : BitVec 32 := Scalar.addi c0_i32_5 v8
  v9.toNat
def k0_cond1 : BitVec 1 :=
  let c0_i32_63 : BitVec 32 := 0#32
  let c8_i32 : BitVec 32 := 8#32
  let v65 : BitVec 32 := Scalar.muli c0_i32_63 c8_i32
  let c0_i32_71 : BitVec 32 := 0#32
  let v66 : BitVec 32 := Scalar.addi v65 c0_i32_71
  let c3_i32_72 : BitVec 32 := 3#32
  let v67 : BitVec 32 := Scalar.addi v66 c3_i32_72
  let c32_i32 : BitVec 32 := 32#32
  let v68 : BitVec 1 := Scalar.cmpi .slt v67 c32_i32
  let v69 : BitVec 32 := Scalar.extui v68
  let c0_i32_73 : BitVec 32 := 0#32
  let v70 : BitVec 1 := Scalar.cmpi .ne v69 c0_i32_73
  v70

def k0_off1 : Fin 4 → Nat :=
  let c0_i32_63 : BitVec 32 := 0#32
  let c8_i32 : BitVec 32 := 8#32
  let v65 : BitVec 32 := Scalar.muli c0_i32_63 c8_i32
  let c0_i32_71 : BitVec 32 := 0#32
  let v66 : BitVec 32 := Scalar.addi v65 c0_i32_71
  let c3_i32_3532 : BitVec 32 := 3#32
  let v4538 : BitVec 32 := Scalar.addi v66 c3_i32_3532
  let c0_i32_3534 : BitVec 32 := 0#32
  let v4540 : BitVec 1 := Scalar.cmpi .sgt v4538 c0_i32_3534
  let v4541 : BitVec 32 := Scalar.extui v4540
  let c0_i32_3535 : BitVec 32 := 0#32
  let v4542 : BitVec 1 := Scalar.cmpi .slt v4538 c0_i32_3535
  let v4543 : BitVec 32 := Scalar.extui v4542
  let v4544 : BitVec 32 := Scalar.subi v4541 v4543
  let c8_i32_3533 : BitVec 32 := 8#32
  let c0_i32_3536 : BitVec 32 := 0#32
  let v4545 : BitVec 1 := Scalar.cmpi .sgt c8_i32_3533 c0_i32_3536
  let v4546 : BitVec 32 := Scalar.extui v4545
  let c0_i32_3537 : BitVec 32 := 0#32
  let v4547 : BitVec 1 := Scalar.cmpi .slt c8_i32_3533 c0_i32_3537
  let v4548 : BitVec 32 := Scalar.extui v4547
  let v4549 : BitVec 32 := Scalar.subi v4546 v4548
  let v4550 : BitVec 1 := Scalar.cmpi .ne v4544 v4549
  let v4551 : BitVec 32 := Scalar.remsi v4538 c8_i32_3533
  let c0_i32_3538 : BitVec 32 := 0#32
  let v4552 : BitVec 1 := Scalar.cmpi .ne v4551 c0_i32_3538
  let v4553 : BitVec 1 := Scalar.andi v4550 v4552
  let v4539 : BitVec 32 := Scalar.divsi v4538 c8_i32_3533
  let c1_i32_3539 : BitVec 32 := 1#32
  let v4554 : BitVec 32 := Scalar.subi v4539 c1_i32_3539
  let v4555 : BitVec 32 := Scalar.select v4553 v4554 v4539
  let c0_i32_3551 : BitVec 32 := 0#32
  let c8_i32_3540 : BitVec 32 := 8#32
  let c0_i32_3541 : BitVec 32 := 0#32
  let v4556 : BitVec 1 := Scalar.cmpi .eq c8_i32_3540 c0_i32_3541
  let c1_i32_3542 : BitVec 32 := 1#32
  let v4557 : BitVec 32 := Scalar.select v4556 c1_i32_3542 c8_i32_3540
  let v4558 : BitVec 32 := Scalar.remsi v4538 v4557
  let c0_i32_3544 : BitVec 32 := 0#32
  let v4560 : BitVec 1 := Scalar.cmpi .slt v4558 c0_i32_3544
  let c0_i32_3545 : BitVec 32 := 0#32
  let v4561 : BitVec 1 := Scalar.cmpi .slt v4557 c0_i32_3545
  let v4562 : BitVec 1 := Scalar.xori v4560 v4561
  let c0_i32_3543 : BitVec 32 := 0#32
  let v4559 : BitVec 1 := Scalar.cmpi .ne v4558 c0_i32_3543
  let v4563 : BitVec 1 := Scalar.andi v4562 v4559
  let v4564 : BitVec 32 := Scalar.addi v4558 v4557
  let v4565 : BitVec 32 := Scalar.select v4563 v4564 v4558
  let c0_i32_3552 : BitVec 32 := 0#32
  ![v4555.toNat, 0, v4565.toNat, 0]
def k0_off2 (c0_i32_63 : BitVec 32) (c0_i32_71 : BitVec 32) : Fin 4 → Nat :=
  let c8_i32 : BitVec 32 := 8#32
  let v65 : BitVec 32 := Scalar.muli c0_i32_63 c8_i32
  let v66 : BitVec 32 := Scalar.addi v65 c0_i32_71
  let c0_i32_75 : BitVec 32 := 0#32
  let v72 : BitVec 1 := Scalar.cmpi .sgt v66 c0_i32_75
  let v73 : BitVec 32 := Scalar.extui v72
  let c0_i32_76 : BitVec 32 := 0#32
  let v74 : BitVec 1 := Scalar.cmpi .slt v66 c0_i32_76
  let v75 : BitVec 32 := Scalar.extui v74
  let v76 : BitVec 32 := Scalar.subi v73 v75
  let c8_i32_74 : BitVec 32 := 8#32
  let c0_i32_77 : BitVec 32 := 0#32
  let v77 : BitVec 1 := Scalar.cmpi .sgt c8_i32_74 c0_i32_77
  let v78 : BitVec 32 := Scalar.extui v77
  let c0_i32_78 : BitVec 32 := 0#32
  let v79 : BitVec 1 := Scalar.cmpi .slt c8_i32_74 c0_i32_78
  let v80 : BitVec 32 := Scalar.extui v79
  let v81 : BitVec 32 := Scalar.subi v78 v80
  let v82 : BitVec 1 := Scalar.cmpi .ne v76 v81
  let v83 : BitVec 32 := Scalar.remsi v66 c8_i32_74
  let c0_i32_79 : BitVec 32 := 0#32
  let v84 : BitVec 1 := Scalar.cmpi .ne v83 c0_i32_79
  let v85 : BitVec 1 := Scalar.andi v82 v84
  let v71 : BitVec 32 := Scalar.divsi v66 c8_i32_74
  let c1_i32_80 : BitVec 32 := 1#32
  let v86 : BitVec 32 := Scalar.subi v71 c1_i32_80
  let v87 : BitVec 32 := Scalar.select v85 v86 v71
  let c0_i32_92 : BitVec 32 := 0#32
  let c8_i32_81 : BitVec 32 := 8#32
  let c0_i32_82 : BitVec 32 := 0#32
  let v88 : BitVec 1 := Scalar.cmpi .eq c8_i32_81 c0_i32_82
  let c1_i32_83 : BitVec 32 := 1#32
  let v89 : BitVec 32 := Scalar.select v88 c1_i32_83 c8_i32_81
  let v90 : BitVec 32 := Scalar.remsi v66 v89
  let c0_i32_85 : BitVec 32 := 0#32
  let v92 : BitVec 1 := Scalar.cmpi .slt v90 c0_i32_85
  let c0_i32_86 : BitVec 32 := 0#32
  let v93 : BitVec 1 := Scalar.cmpi .slt v89 c0_i32_86
  let v94 : BitVec 1 := Scalar.xori v92 v93
  let c0_i32_84 : BitVec 32 := 0#32
  let v91 : BitVec 1 := Scalar.cmpi .ne v90 c0_i32_84
  let v95 : BitVec 1 := Scalar.andi v94 v91
  let v96 : BitVec 32 := Scalar.addi v90 v89
  let v97 : BitVec 32 := Scalar.select v95 v96 v90
  let c0_i32_93 : BitVec 32 := 0#32
  ![v87.toNat, 0, v97.toNat, 0]
def k0_cond2 : BitVec 1 :=
  let c0_i32_63 : BitVec 32 := 0#32
  let c8_i32_120 : BitVec 32 := 8#32
  let v146 : BitVec 32 := Scalar.muli c0_i32_63 c8_i32_120
  let c1_i32_121 : BitVec 32 := 1#32
  let v147 : BitVec 32 := Scalar.addi v146 c1_i32_121
  let c3_i32_122 : BitVec 32 := 3#32
  let v148 : BitVec 32 := Scalar.addi v147 c3_i32_122
  let c32_i32_123 : BitVec 32 := 32#32
  let v149 : BitVec 1 := Scalar.cmpi .slt v148 c32_i32_123
  let v150 : BitVec 32 := Scalar.extui v149
  let c0_i32_124 : BitVec 32 := 0#32
  let v151 : BitVec 1 := Scalar.cmpi .ne v150 c0_i32_124
  v151

def k0_off3 : Fin 4 → Nat :=
  let c0_i32_63 : BitVec 32 := 0#32
  let c8_i32_120 : BitVec 32 := 8#32
  let v146 : BitVec 32 := Scalar.muli c0_i32_63 c8_i32_120
  let c1_i32_121 : BitVec 32 := 1#32
  let v147 : BitVec 32 := Scalar.addi v146 c1_i32_121
  let c3_i32_3532 : BitVec 32 := 3#32
  let v4538 : BitVec 32 := Scalar.addi v147 c3_i32_3532
  let c0_i32_3534 : BitVec 32 := 0#32
  let v4540 : BitVec 1 := Scalar.cmpi .sgt v4538 c0_i32_3534
  let v4541 : BitVec 32 := Scalar.extui v4540
  let c0_i32_3535 : BitVec 32 := 0#32
  let v4542 : BitVec 1 := Scalar.cmpi .slt v4538 c0_i32_3535
  let v4543 : BitVec 32 := Scalar.extui v4542
  let v4544 : BitVec 32 := Scalar.subi v4541 v4543
  let c8_i32_3533 : BitVec 32 := 8#32
  let c0_i32_3536 : BitVec 32 := 0#32
  let v4545 : BitVec 1 := Scalar.cmpi .sgt c8_i32_3533 c0_i32_3536
  let v4546 : BitVec 32 := Scalar.extui v4545
  let c0_i32_3537 : BitVec 32 := 0#32
  let v4547 : BitVec 1 := Scalar.cmpi .slt c8_i32_3533 c0_i32_3537
  let v4548 : BitVec 32 := Scalar.extui v4547
  let v4549 : BitVec 32 := Scalar.subi v4546 v4548
  let v4550 : BitVec 1 := Scalar.cmpi .ne v4544 v4549
  let v4551 : BitVec 32 := Scalar.remsi v4538 c8_i32_3533
  let c0_i32_3538 : BitVec 32 := 0#32
  let v4552 : BitVec 1 := Scalar.cmpi .ne v4551 c0_i32_3538
  let v4553 : BitVec 1 := Scalar.andi v4550 v4552
  let v4539 : BitVec 32 := Scalar.divsi v4538 c8_i32_3533
  let c1_i32_3539 : BitVec 32 := 1#32
  let v4554 : BitVec 32 := Scalar.subi v4539 c1_i32_3539
  let v4555 : BitVec 32 := Scalar.select v4553 v4554 v4539
  let c0_i32_3551 : BitVec 32 := 0#32
  let c8_i32_3540 : BitVec 32 := 8#32
  let c0_i32_3541 : BitVec 32 := 0#32
  let v4556 : BitVec 1 := Scalar.cmpi .eq c8_i32_3540 c0_i32_3541
  let c1_i32_3542 : BitVec 32 := 1#32
  let v4557 : BitVec 32 := Scalar.select v4556 c1_i32_3542 c8_i32_3540
  let v4558 : BitVec 32 := Scalar.remsi v4538 v4557
  let c0_i32_3544 : BitVec 32 := 0#32
  let v4560 : BitVec 1 := Scalar.cmpi .slt v4558 c0_i32_3544
  let c0_i32_3545 : BitVec 32 := 0#32
  let v4561 : BitVec 1 := Scalar.cmpi .slt v4557 c0_i32_3545
  let v4562 : BitVec 1 := Scalar.xori v4560 v4561
  let c0_i32_3543 : BitVec 32 := 0#32
  let v4559 : BitVec 1 := Scalar.cmpi .ne v4558 c0_i32_3543
  let v4563 : BitVec 1 := Scalar.andi v4562 v4559
  let v4564 : BitVec 32 := Scalar.addi v4558 v4557
  let v4565 : BitVec 32 := Scalar.select v4563 v4564 v4558
  let c0_i32_3552 : BitVec 32 := 0#32
  ![v4555.toNat, 0, v4565.toNat, 0]
def k0_cond3 : BitVec 1 :=
  let c0_i32_63 : BitVec 32 := 0#32
  let c8_i32_169 : BitVec 32 := 8#32
  let v227 : BitVec 32 := Scalar.muli c0_i32_63 c8_i32_169
  let c2_i32_170 : BitVec 32 := 2#32
  let v228 : BitVec 32 := Scalar.addi v227 c2_i32_170
  let c3_i32_171 : BitVec 32 := 3#32
  let v229 : BitVec 32 := Scalar.addi v228 c3_i32_171
  let c32_i32_172 : BitVec 32 := 32#32
  let v230 : BitVec 1 := Scalar.cmpi .slt v229 c32_i32_172
  let v231 : BitVec 32 := Scalar.extui v230
  let c0_i32_173 : BitVec 32 := 0#32
  let v232 : BitVec 1 := Scalar.cmpi .ne v231 c0_i32_173
  v232

def k0_off4 : Fin 4 → Nat :=
  let c0_i32_63 : BitVec 32 := 0#32
  let c8_i32_169 : BitVec 32 := 8#32
  let v227 : BitVec 32 := Scalar.muli c0_i32_63 c8_i32_169
  let c2_i32_170 : BitVec 32 := 2#32
  let v228 : BitVec 32 := Scalar.addi v227 c2_i32_170
  let c3_i32_3532 : BitVec 32 := 3#32
  let v4538 : BitVec 32 := Scalar.addi v228 c3_i32_3532
  let c0_i32_3534 : BitVec 32 := 0#32
  let v4540 : BitVec 1 := Scalar.cmpi .sgt v4538 c0_i32_3534
  let v4541 : BitVec 32 := Scalar.extui v4540
  let c0_i32_3535 : BitVec 32 := 0#32
  let v4542 : BitVec 1 := Scalar.cmpi .slt v4538 c0_i32_3535
  let v4543 : BitVec 32 := Scalar.extui v4542
  let v4544 : BitVec 32 := Scalar.subi v4541 v4543
  let c8_i32_3533 : BitVec 32 := 8#32
  let c0_i32_3536 : BitVec 32 := 0#32
  let v4545 : BitVec 1 := Scalar.cmpi .sgt c8_i32_3533 c0_i32_3536
  let v4546 : BitVec 32 := Scalar.extui v4545
  let c0_i32_3537 : BitVec 32 := 0#32
  let v4547 : BitVec 1 := Scalar.cmpi .slt c8_i32_3533 c0_i32_3537
  let v4548 : BitVec 32 := Scalar.extui v4547
  let v4549 : BitVec 32 := Scalar.subi v4546 v4548
  let v4550 : BitVec 1 := Scalar.cmpi .ne v4544 v4549
  let v4551 : BitVec 32 := Scalar.remsi v4538 c8_i32_3533
  let c0_i32_3538 : BitVec 32 := 0#32
  let v4552 : BitVec 1 := Scalar.cmpi .ne v4551 c0_i32_3538
  let v4553 : BitVec 1 := Scalar.andi v4550 v4552
  let v4539 : BitVec 32 := Scalar.divsi v4538 c8_i32_3533
  let c1_i32_3539 : BitVec 32 := 1#32
  let v4554 : BitVec 32 := Scalar.subi v4539 c1_i32_3539
  let v4555 : BitVec 32 := Scalar.select v4553 v4554 v4539
  let c0_i32_3551 : BitVec 32 := 0#32
  let c8_i32_3540 : BitVec 32 := 8#32
  let c0_i32_3541 : BitVec 32 := 0#32
  let v4556 : BitVec 1 := Scalar.cmpi .eq c8_i32_3540 c0_i32_3541
  let c1_i32_3542 : BitVec 32 := 1#32
  let v4557 : BitVec 32 := Scalar.select v4556 c1_i32_3542 c8_i32_3540
  let v4558 : BitVec 32 := Scalar.remsi v4538 v4557
  let c0_i32_3544 : BitVec 32 := 0#32
  let v4560 : BitVec 1 := Scalar.cmpi .slt v4558 c0_i32_3544
  let c0_i32_3545 : BitVec 32 := 0#32
  let v4561 : BitVec 1 := Scalar.cmpi .slt v4557 c0_i32_3545
  let v4562 : BitVec 1 := Scalar.xori v4560 v4561
  let c0_i32_3543 : BitVec 32 := 0#32
  let v4559 : BitVec 1 := Scalar.cmpi .ne v4558 c0_i32_3543
  let v4563 : BitVec 1 := Scalar.andi v4562 v4559
  let v4564 : BitVec 32 := Scalar.addi v4558 v4557
  let v4565 : BitVec 32 := Scalar.select v4563 v4564 v4558
  let c0_i32_3552 : BitVec 32 := 0#32
  ![v4555.toNat, 0, v4565.toNat, 0]
def k0_cond4 : BitVec 1 :=
  let c0_i32_63 : BitVec 32 := 0#32
  let c8_i32_218 : BitVec 32 := 8#32
  let v308 : BitVec 32 := Scalar.muli c0_i32_63 c8_i32_218
  let c3_i32_219 : BitVec 32 := 3#32
  let v309 : BitVec 32 := Scalar.addi v308 c3_i32_219
  let c3_i32_220 : BitVec 32 := 3#32
  let v310 : BitVec 32 := Scalar.addi v309 c3_i32_220
  let c32_i32_221 : BitVec 32 := 32#32
  let v311 : BitVec 1 := Scalar.cmpi .slt v310 c32_i32_221
  let v312 : BitVec 32 := Scalar.extui v311
  let c0_i32_222 : BitVec 32 := 0#32
  let v313 : BitVec 1 := Scalar.cmpi .ne v312 c0_i32_222
  v313

def k0_off5 : Fin 4 → Nat :=
  let c0_i32_63 : BitVec 32 := 0#32
  let c8_i32_218 : BitVec 32 := 8#32
  let v308 : BitVec 32 := Scalar.muli c0_i32_63 c8_i32_218
  let c3_i32_219 : BitVec 32 := 3#32
  let v309 : BitVec 32 := Scalar.addi v308 c3_i32_219
  let c3_i32_3532 : BitVec 32 := 3#32
  let v4538 : BitVec 32 := Scalar.addi v309 c3_i32_3532
  let c0_i32_3534 : BitVec 32 := 0#32
  let v4540 : BitVec 1 := Scalar.cmpi .sgt v4538 c0_i32_3534
  let v4541 : BitVec 32 := Scalar.extui v4540
  let c0_i32_3535 : BitVec 32 := 0#32
  let v4542 : BitVec 1 := Scalar.cmpi .slt v4538 c0_i32_3535
  let v4543 : BitVec 32 := Scalar.extui v4542
  let v4544 : BitVec 32 := Scalar.subi v4541 v4543
  let c8_i32_3533 : BitVec 32 := 8#32
  let c0_i32_3536 : BitVec 32 := 0#32
  let v4545 : BitVec 1 := Scalar.cmpi .sgt c8_i32_3533 c0_i32_3536
  let v4546 : BitVec 32 := Scalar.extui v4545
  let c0_i32_3537 : BitVec 32 := 0#32
  let v4547 : BitVec 1 := Scalar.cmpi .slt c8_i32_3533 c0_i32_3537
  let v4548 : BitVec 32 := Scalar.extui v4547
  let v4549 : BitVec 32 := Scalar.subi v4546 v4548
  let v4550 : BitVec 1 := Scalar.cmpi .ne v4544 v4549
  let v4551 : BitVec 32 := Scalar.remsi v4538 c8_i32_3533
  let c0_i32_3538 : BitVec 32 := 0#32
  let v4552 : BitVec 1 := Scalar.cmpi .ne v4551 c0_i32_3538
  let v4553 : BitVec 1 := Scalar.andi v4550 v4552
  let v4539 : BitVec 32 := Scalar.divsi v4538 c8_i32_3533
  let c1_i32_3539 : BitVec 32 := 1#32
  let v4554 : BitVec 32 := Scalar.subi v4539 c1_i32_3539
  let v4555 : BitVec 32 := Scalar.select v4553 v4554 v4539
  let c0_i32_3551 : BitVec 32 := 0#32
  let c8_i32_3540 : BitVec 32 := 8#32
  let c0_i32_3541 : BitVec 32 := 0#32
  let v4556 : BitVec 1 := Scalar.cmpi .eq c8_i32_3540 c0_i32_3541
  let c1_i32_3542 : BitVec 32 := 1#32
  let v4557 : BitVec 32 := Scalar.select v4556 c1_i32_3542 c8_i32_3540
  let v4558 : BitVec 32 := Scalar.remsi v4538 v4557
  let c0_i32_3544 : BitVec 32 := 0#32
  let v4560 : BitVec 1 := Scalar.cmpi .slt v4558 c0_i32_3544
  let c0_i32_3545 : BitVec 32 := 0#32
  let v4561 : BitVec 1 := Scalar.cmpi .slt v4557 c0_i32_3545
  let v4562 : BitVec 1 := Scalar.xori v4560 v4561
  let c0_i32_3543 : BitVec 32 := 0#32
  let v4559 : BitVec 1 := Scalar.cmpi .ne v4558 c0_i32_3543
  let v4563 : BitVec 1 := Scalar.andi v4562 v4559
  let v4564 : BitVec 32 := Scalar.addi v4558 v4557
  let v4565 : BitVec 32 := Scalar.select v4563 v4564 v4558
  let c0_i32_3552 : BitVec 32 := 0#32
  ![v4555.toNat, 0, v4565.toNat, 0]
def k0_cond5 : BitVec 1 :=
  let c0_i32_63 : BitVec 32 := 0#32
  let c8_i32_267 : BitVec 32 := 8#32
  let v389 : BitVec 32 := Scalar.muli c0_i32_63 c8_i32_267
  let c4_i32_268 : BitVec 32 := 4#32
  let v390 : BitVec 32 := Scalar.addi v389 c4_i32_268
  let c3_i32_269 : BitVec 32 := 3#32
  let v391 : BitVec 32 := Scalar.addi v390 c3_i32_269
  let c32_i32_270 : BitVec 32 := 32#32
  let v392 : BitVec 1 := Scalar.cmpi .slt v391 c32_i32_270
  let v393 : BitVec 32 := Scalar.extui v392
  let c0_i32_271 : BitVec 32 := 0#32
  let v394 : BitVec 1 := Scalar.cmpi .ne v393 c0_i32_271
  v394

def k0_off6 : Fin 4 → Nat :=
  let c0_i32_63 : BitVec 32 := 0#32
  let c8_i32_267 : BitVec 32 := 8#32
  let v389 : BitVec 32 := Scalar.muli c0_i32_63 c8_i32_267
  let c4_i32_268 : BitVec 32 := 4#32
  let v390 : BitVec 32 := Scalar.addi v389 c4_i32_268
  let c3_i32_3532 : BitVec 32 := 3#32
  let v4538 : BitVec 32 := Scalar.addi v390 c3_i32_3532
  let c0_i32_3534 : BitVec 32 := 0#32
  let v4540 : BitVec 1 := Scalar.cmpi .sgt v4538 c0_i32_3534
  let v4541 : BitVec 32 := Scalar.extui v4540
  let c0_i32_3535 : BitVec 32 := 0#32
  let v4542 : BitVec 1 := Scalar.cmpi .slt v4538 c0_i32_3535
  let v4543 : BitVec 32 := Scalar.extui v4542
  let v4544 : BitVec 32 := Scalar.subi v4541 v4543
  let c8_i32_3533 : BitVec 32 := 8#32
  let c0_i32_3536 : BitVec 32 := 0#32
  let v4545 : BitVec 1 := Scalar.cmpi .sgt c8_i32_3533 c0_i32_3536
  let v4546 : BitVec 32 := Scalar.extui v4545
  let c0_i32_3537 : BitVec 32 := 0#32
  let v4547 : BitVec 1 := Scalar.cmpi .slt c8_i32_3533 c0_i32_3537
  let v4548 : BitVec 32 := Scalar.extui v4547
  let v4549 : BitVec 32 := Scalar.subi v4546 v4548
  let v4550 : BitVec 1 := Scalar.cmpi .ne v4544 v4549
  let v4551 : BitVec 32 := Scalar.remsi v4538 c8_i32_3533
  let c0_i32_3538 : BitVec 32 := 0#32
  let v4552 : BitVec 1 := Scalar.cmpi .ne v4551 c0_i32_3538
  let v4553 : BitVec 1 := Scalar.andi v4550 v4552
  let v4539 : BitVec 32 := Scalar.divsi v4538 c8_i32_3533
  let c1_i32_3539 : BitVec 32 := 1#32
  let v4554 : BitVec 32 := Scalar.subi v4539 c1_i32_3539
  let v4555 : BitVec 32 := Scalar.select v4553 v4554 v4539
  let c0_i32_3551 : BitVec 32 := 0#32
  let c8_i32_3540 : BitVec 32 := 8#32
  let c0_i32_3541 : BitVec 32 := 0#32
  let v4556 : BitVec 1 := Scalar.cmpi .eq c8_i32_3540 c0_i32_3541
  let c1_i32_3542 : BitVec 32 := 1#32
  let v4557 : BitVec 32 := Scalar.select v4556 c1_i32_3542 c8_i32_3540
  let v4558 : BitVec 32 := Scalar.remsi v4538 v4557
  let c0_i32_3544 : BitVec 32 := 0#32
  let v4560 : BitVec 1 := Scalar.cmpi .slt v4558 c0_i32_3544
  let c0_i32_3545 : BitVec 32 := 0#32
  let v4561 : BitVec 1 := Scalar.cmpi .slt v4557 c0_i32_3545
  let v4562 : BitVec 1 := Scalar.xori v4560 v4561
  let c0_i32_3543 : BitVec 32 := 0#32
  let v4559 : BitVec 1 := Scalar.cmpi .ne v4558 c0_i32_3543
  let v4563 : BitVec 1 := Scalar.andi v4562 v4559
  let v4564 : BitVec 32 := Scalar.addi v4558 v4557
  let v4565 : BitVec 32 := Scalar.select v4563 v4564 v4558
  let c0_i32_3552 : BitVec 32 := 0#32
  ![v4555.toNat, 0, v4565.toNat, 0]
def k0_cond6 : BitVec 1 :=
  let c0_i32_63 : BitVec 32 := 0#32
  let c8_i32_316 : BitVec 32 := 8#32
  let v470 : BitVec 32 := Scalar.muli c0_i32_63 c8_i32_316
  let c5_i32 : BitVec 32 := 5#32
  let v471 : BitVec 32 := Scalar.addi v470 c5_i32
  let c3_i32_317 : BitVec 32 := 3#32
  let v472 : BitVec 32 := Scalar.addi v471 c3_i32_317
  let c32_i32_318 : BitVec 32 := 32#32
  let v473 : BitVec 1 := Scalar.cmpi .slt v472 c32_i32_318
  let v474 : BitVec 32 := Scalar.extui v473
  let c0_i32_319 : BitVec 32 := 0#32
  let v475 : BitVec 1 := Scalar.cmpi .ne v474 c0_i32_319
  v475

def k0_off7 : Fin 4 → Nat :=
  let c0_i32_63 : BitVec 32 := 0#32
  let c8_i32_316 : BitVec 32 := 8#32
  let v470 : BitVec 32 := Scalar.muli c0_i32_63 c8_i32_316
  let c5_i32 : BitVec 32 := 5#32
  let v471 : BitVec 32 := Scalar.addi v470 c5_i32
  let c3_i32_3532 : BitVec 32 := 3#32
  let v4538 : BitVec 32 := Scalar.addi v471 c3_i32_3532
  let c0_i32_3534 : BitVec 32 := 0#32
  let v4540 : BitVec 1 := Scalar.cmpi .sgt v4538 c0_i32_3534
  let v4541 : BitVec 32 := Scalar.extui v4540
  let c0_i32_3535 : BitVec 32 := 0#32
  let v4542 : BitVec 1 := Scalar.cmpi .slt v4538 c0_i32_3535
  let v4543 : BitVec 32 := Scalar.extui v4542
  let v4544 : BitVec 32 := Scalar.subi v4541 v4543
  let c8_i32_3533 : BitVec 32 := 8#32
  let c0_i32_3536 : BitVec 32 := 0#32
  let v4545 : BitVec 1 := Scalar.cmpi .sgt c8_i32_3533 c0_i32_3536
  let v4546 : BitVec 32 := Scalar.extui v4545
  let c0_i32_3537 : BitVec 32 := 0#32
  let v4547 : BitVec 1 := Scalar.cmpi .slt c8_i32_3533 c0_i32_3537
  let v4548 : BitVec 32 := Scalar.extui v4547
  let v4549 : BitVec 32 := Scalar.subi v4546 v4548
  let v4550 : BitVec 1 := Scalar.cmpi .ne v4544 v4549
  let v4551 : BitVec 32 := Scalar.remsi v4538 c8_i32_3533
  let c0_i32_3538 : BitVec 32 := 0#32
  let v4552 : BitVec 1 := Scalar.cmpi .ne v4551 c0_i32_3538
  let v4553 : BitVec 1 := Scalar.andi v4550 v4552
  let v4539 : BitVec 32 := Scalar.divsi v4538 c8_i32_3533
  let c1_i32_3539 : BitVec 32 := 1#32
  let v4554 : BitVec 32 := Scalar.subi v4539 c1_i32_3539
  let v4555 : BitVec 32 := Scalar.select v4553 v4554 v4539
  let c0_i32_3551 : BitVec 32 := 0#32
  let c8_i32_3540 : BitVec 32 := 8#32
  let c0_i32_3541 : BitVec 32 := 0#32
  let v4556 : BitVec 1 := Scalar.cmpi .eq c8_i32_3540 c0_i32_3541
  let c1_i32_3542 : BitVec 32 := 1#32
  let v4557 : BitVec 32 := Scalar.select v4556 c1_i32_3542 c8_i32_3540
  let v4558 : BitVec 32 := Scalar.remsi v4538 v4557
  let c0_i32_3544 : BitVec 32 := 0#32
  let v4560 : BitVec 1 := Scalar.cmpi .slt v4558 c0_i32_3544
  let c0_i32_3545 : BitVec 32 := 0#32
  let v4561 : BitVec 1 := Scalar.cmpi .slt v4557 c0_i32_3545
  let v4562 : BitVec 1 := Scalar.xori v4560 v4561
  let c0_i32_3543 : BitVec 32 := 0#32
  let v4559 : BitVec 1 := Scalar.cmpi .ne v4558 c0_i32_3543
  let v4563 : BitVec 1 := Scalar.andi v4562 v4559
  let v4564 : BitVec 32 := Scalar.addi v4558 v4557
  let v4565 : BitVec 32 := Scalar.select v4563 v4564 v4558
  let c0_i32_3552 : BitVec 32 := 0#32
  ![v4555.toNat, 0, v4565.toNat, 0]
def k0_cond7 : BitVec 1 :=
  let c0_i32_63 : BitVec 32 := 0#32
  let c8_i32_364 : BitVec 32 := 8#32
  let v551 : BitVec 32 := Scalar.muli c0_i32_63 c8_i32_364
  let c6_i32 : BitVec 32 := 6#32
  let v552 : BitVec 32 := Scalar.addi v551 c6_i32
  let c3_i32_365 : BitVec 32 := 3#32
  let v553 : BitVec 32 := Scalar.addi v552 c3_i32_365
  let c32_i32_366 : BitVec 32 := 32#32
  let v554 : BitVec 1 := Scalar.cmpi .slt v553 c32_i32_366
  let v555 : BitVec 32 := Scalar.extui v554
  let c0_i32_367 : BitVec 32 := 0#32
  let v556 : BitVec 1 := Scalar.cmpi .ne v555 c0_i32_367
  v556

def k0_off8 : Fin 4 → Nat :=
  let c0_i32_63 : BitVec 32 := 0#32
  let c8_i32_364 : BitVec 32 := 8#32
  let v551 : BitVec 32 := Scalar.muli c0_i32_63 c8_i32_364
  let c6_i32 : BitVec 32 := 6#32
  let v552 : BitVec 32 := Scalar.addi v551 c6_i32
  let c3_i32_3532 : BitVec 32 := 3#32
  let v4538 : BitVec 32 := Scalar.addi v552 c3_i32_3532
  let c0_i32_3534 : BitVec 32 := 0#32
  let v4540 : BitVec 1 := Scalar.cmpi .sgt v4538 c0_i32_3534
  let v4541 : BitVec 32 := Scalar.extui v4540
  let c0_i32_3535 : BitVec 32 := 0#32
  let v4542 : BitVec 1 := Scalar.cmpi .slt v4538 c0_i32_3535
  let v4543 : BitVec 32 := Scalar.extui v4542
  let v4544 : BitVec 32 := Scalar.subi v4541 v4543
  let c8_i32_3533 : BitVec 32 := 8#32
  let c0_i32_3536 : BitVec 32 := 0#32
  let v4545 : BitVec 1 := Scalar.cmpi .sgt c8_i32_3533 c0_i32_3536
  let v4546 : BitVec 32 := Scalar.extui v4545
  let c0_i32_3537 : BitVec 32 := 0#32
  let v4547 : BitVec 1 := Scalar.cmpi .slt c8_i32_3533 c0_i32_3537
  let v4548 : BitVec 32 := Scalar.extui v4547
  let v4549 : BitVec 32 := Scalar.subi v4546 v4548
  let v4550 : BitVec 1 := Scalar.cmpi .ne v4544 v4549
  let v4551 : BitVec 32 := Scalar.remsi v4538 c8_i32_3533
  let c0_i32_3538 : BitVec 32 := 0#32
  let v4552 : BitVec 1 := Scalar.cmpi .ne v4551 c0_i32_3538
  let v4553 : BitVec 1 := Scalar.andi v4550 v4552
  let v4539 : BitVec 32 := Scalar.divsi v4538 c8_i32_3533
  let c1_i32_3539 : BitVec 32 := 1#32
  let v4554 : BitVec 32 := Scalar.subi v4539 c1_i32_3539
  let v4555 : BitVec 32 := Scalar.select v4553 v4554 v4539
  let c0_i32_3551 : BitVec 32 := 0#32
  let c8_i32_3540 : BitVec 32 := 8#32
  let c0_i32_3541 : BitVec 32 := 0#32
  let v4556 : BitVec 1 := Scalar.cmpi .eq c8_i32_3540 c0_i32_3541
  let c1_i32_3542 : BitVec 32 := 1#32
  let v4557 : BitVec 32 := Scalar.select v4556 c1_i32_3542 c8_i32_3540
  let v4558 : BitVec 32 := Scalar.remsi v4538 v4557
  let c0_i32_3544 : BitVec 32 := 0#32
  let v4560 : BitVec 1 := Scalar.cmpi .slt v4558 c0_i32_3544
  let c0_i32_3545 : BitVec 32 := 0#32
  let v4561 : BitVec 1 := Scalar.cmpi .slt v4557 c0_i32_3545
  let v4562 : BitVec 1 := Scalar.xori v4560 v4561
  let c0_i32_3543 : BitVec 32 := 0#32
  let v4559 : BitVec 1 := Scalar.cmpi .ne v4558 c0_i32_3543
  let v4563 : BitVec 1 := Scalar.andi v4562 v4559
  let v4564 : BitVec 32 := Scalar.addi v4558 v4557
  let v4565 : BitVec 32 := Scalar.select v4563 v4564 v4558
  let c0_i32_3552 : BitVec 32 := 0#32
  ![v4555.toNat, 0, v4565.toNat, 0]
def k0_cond8 : BitVec 1 :=
  let c0_i32_63 : BitVec 32 := 0#32
  let c8_i32_412 : BitVec 32 := 8#32
  let v632 : BitVec 32 := Scalar.muli c0_i32_63 c8_i32_412
  let c7_i32 : BitVec 32 := 7#32
  let v633 : BitVec 32 := Scalar.addi v632 c7_i32
  let c3_i32_413 : BitVec 32 := 3#32
  let v634 : BitVec 32 := Scalar.addi v633 c3_i32_413
  let c32_i32_414 : BitVec 32 := 32#32
  let v635 : BitVec 1 := Scalar.cmpi .slt v634 c32_i32_414
  let v636 : BitVec 32 := Scalar.extui v635
  let c0_i32_415 : BitVec 32 := 0#32
  let v637 : BitVec 1 := Scalar.cmpi .ne v636 c0_i32_415
  v637

def k0_off9 : Fin 4 → Nat :=
  let c0_i32_63 : BitVec 32 := 0#32
  let c8_i32_412 : BitVec 32 := 8#32
  let v632 : BitVec 32 := Scalar.muli c0_i32_63 c8_i32_412
  let c7_i32 : BitVec 32 := 7#32
  let v633 : BitVec 32 := Scalar.addi v632 c7_i32
  let c3_i32_3532 : BitVec 32 := 3#32
  let v4538 : BitVec 32 := Scalar.addi v633 c3_i32_3532
  let c0_i32_3534 : BitVec 32 := 0#32
  let v4540 : BitVec 1 := Scalar.cmpi .sgt v4538 c0_i32_3534
  let v4541 : BitVec 32 := Scalar.extui v4540
  let c0_i32_3535 : BitVec 32 := 0#32
  let v4542 : BitVec 1 := Scalar.cmpi .slt v4538 c0_i32_3535
  let v4543 : BitVec 32 := Scalar.extui v4542
  let v4544 : BitVec 32 := Scalar.subi v4541 v4543
  let c8_i32_3533 : BitVec 32 := 8#32
  let c0_i32_3536 : BitVec 32 := 0#32
  let v4545 : BitVec 1 := Scalar.cmpi .sgt c8_i32_3533 c0_i32_3536
  let v4546 : BitVec 32 := Scalar.extui v4545
  let c0_i32_3537 : BitVec 32 := 0#32
  let v4547 : BitVec 1 := Scalar.cmpi .slt c8_i32_3533 c0_i32_3537
  let v4548 : BitVec 32 := Scalar.extui v4547
  let v4549 : BitVec 32 := Scalar.subi v4546 v4548
  let v4550 : BitVec 1 := Scalar.cmpi .ne v4544 v4549
  let v4551 : BitVec 32 := Scalar.remsi v4538 c8_i32_3533
  let c0_i32_3538 : BitVec 32 := 0#32
  let v4552 : BitVec 1 := Scalar.cmpi .ne v4551 c0_i32_3538
  let v4553 : BitVec 1 := Scalar.andi v4550 v4552
  let v4539 : BitVec 32 := Scalar.divsi v4538 c8_i32_3533
  let c1_i32_3539 : BitVec 32 := 1#32
  let v4554 : BitVec 32 := Scalar.subi v4539 c1_i32_3539
  let v4555 : BitVec 32 := Scalar.select v4553 v4554 v4539
  let c0_i32_3551 : BitVec 32 := 0#32
  let c8_i32_3540 : BitVec 32 := 8#32
  let c0_i32_3541 : BitVec 32 := 0#32
  let v4556 : BitVec 1 := Scalar.cmpi .eq c8_i32_3540 c0_i32_3541
  let c1_i32_3542 : BitVec 32 := 1#32
  let v4557 : BitVec 32 := Scalar.select v4556 c1_i32_3542 c8_i32_3540
  let v4558 : BitVec 32 := Scalar.remsi v4538 v4557
  let c0_i32_3544 : BitVec 32 := 0#32
  let v4560 : BitVec 1 := Scalar.cmpi .slt v4558 c0_i32_3544
  let c0_i32_3545 : BitVec 32 := 0#32
  let v4561 : BitVec 1 := Scalar.cmpi .slt v4557 c0_i32_3545
  let v4562 : BitVec 1 := Scalar.xori v4560 v4561
  let c0_i32_3543 : BitVec 32 := 0#32
  let v4559 : BitVec 1 := Scalar.cmpi .ne v4558 c0_i32_3543
  let v4563 : BitVec 1 := Scalar.andi v4562 v4559
  let v4564 : BitVec 32 := Scalar.addi v4558 v4557
  let v4565 : BitVec 32 := Scalar.select v4563 v4564 v4558
  let c0_i32_3552 : BitVec 32 := 0#32
  ![v4555.toNat, 0, v4565.toNat, 0]
def k0_dev3 (d0 : Dev nD) : Nat :=
  let c0_i32_465 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_464 : BitVec 32 := 1#32
  let v713 : BitVec 32 := Scalar.muli v3 c1_i32_464
  let v714 : BitVec 32 := Scalar.addi c0_i32_465 v713
  v714.toNat
def k0_dev4 (d0 : Dev nD) : Nat :=
  let c0_i32_476 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_475 : BitVec 32 := 1#32
  let v722 : BitVec 32 := Scalar.muli v3 c1_i32_475
  let v723 : BitVec 32 := Scalar.addi c0_i32_476 v722
  v723.toNat
def k0_cond9 : BitVec 1 :=
  let c1_i32_483 : BitVec 32 := 1#32
  let c8_i32_492 : BitVec 32 := 8#32
  let v744 : BitVec 32 := Scalar.muli c1_i32_483 c8_i32_492
  let c0_i32_493 : BitVec 32 := 0#32
  let v745 : BitVec 32 := Scalar.addi v744 c0_i32_493
  let c3_i32_494 : BitVec 32 := 3#32
  let v746 : BitVec 32 := Scalar.addi v745 c3_i32_494
  let c32_i32_495 : BitVec 32 := 32#32
  let v747 : BitVec 1 := Scalar.cmpi .slt v746 c32_i32_495
  let v748 : BitVec 32 := Scalar.extui v747
  let c0_i32_496 : BitVec 32 := 0#32
  let v749 : BitVec 1 := Scalar.cmpi .ne v748 c0_i32_496
  v749

def k0_off10 : Fin 4 → Nat :=
  let c1_i32_483 : BitVec 32 := 1#32
  let c8_i32_492 : BitVec 32 := 8#32
  let v744 : BitVec 32 := Scalar.muli c1_i32_483 c8_i32_492
  let c0_i32_493 : BitVec 32 := 0#32
  let v745 : BitVec 32 := Scalar.addi v744 c0_i32_493
  let c3_i32_3532 : BitVec 32 := 3#32
  let v4538 : BitVec 32 := Scalar.addi v745 c3_i32_3532
  let c0_i32_3534 : BitVec 32 := 0#32
  let v4540 : BitVec 1 := Scalar.cmpi .sgt v4538 c0_i32_3534
  let v4541 : BitVec 32 := Scalar.extui v4540
  let c0_i32_3535 : BitVec 32 := 0#32
  let v4542 : BitVec 1 := Scalar.cmpi .slt v4538 c0_i32_3535
  let v4543 : BitVec 32 := Scalar.extui v4542
  let v4544 : BitVec 32 := Scalar.subi v4541 v4543
  let c8_i32_3533 : BitVec 32 := 8#32
  let c0_i32_3536 : BitVec 32 := 0#32
  let v4545 : BitVec 1 := Scalar.cmpi .sgt c8_i32_3533 c0_i32_3536
  let v4546 : BitVec 32 := Scalar.extui v4545
  let c0_i32_3537 : BitVec 32 := 0#32
  let v4547 : BitVec 1 := Scalar.cmpi .slt c8_i32_3533 c0_i32_3537
  let v4548 : BitVec 32 := Scalar.extui v4547
  let v4549 : BitVec 32 := Scalar.subi v4546 v4548
  let v4550 : BitVec 1 := Scalar.cmpi .ne v4544 v4549
  let v4551 : BitVec 32 := Scalar.remsi v4538 c8_i32_3533
  let c0_i32_3538 : BitVec 32 := 0#32
  let v4552 : BitVec 1 := Scalar.cmpi .ne v4551 c0_i32_3538
  let v4553 : BitVec 1 := Scalar.andi v4550 v4552
  let v4539 : BitVec 32 := Scalar.divsi v4538 c8_i32_3533
  let c1_i32_3539 : BitVec 32 := 1#32
  let v4554 : BitVec 32 := Scalar.subi v4539 c1_i32_3539
  let v4555 : BitVec 32 := Scalar.select v4553 v4554 v4539
  let c0_i32_3551 : BitVec 32 := 0#32
  let c8_i32_3540 : BitVec 32 := 8#32
  let c0_i32_3541 : BitVec 32 := 0#32
  let v4556 : BitVec 1 := Scalar.cmpi .eq c8_i32_3540 c0_i32_3541
  let c1_i32_3542 : BitVec 32 := 1#32
  let v4557 : BitVec 32 := Scalar.select v4556 c1_i32_3542 c8_i32_3540
  let v4558 : BitVec 32 := Scalar.remsi v4538 v4557
  let c0_i32_3544 : BitVec 32 := 0#32
  let v4560 : BitVec 1 := Scalar.cmpi .slt v4558 c0_i32_3544
  let c0_i32_3545 : BitVec 32 := 0#32
  let v4561 : BitVec 1 := Scalar.cmpi .slt v4557 c0_i32_3545
  let v4562 : BitVec 1 := Scalar.xori v4560 v4561
  let c0_i32_3543 : BitVec 32 := 0#32
  let v4559 : BitVec 1 := Scalar.cmpi .ne v4558 c0_i32_3543
  let v4563 : BitVec 1 := Scalar.andi v4562 v4559
  let v4564 : BitVec 32 := Scalar.addi v4558 v4557
  let v4565 : BitVec 32 := Scalar.select v4563 v4564 v4558
  let c0_i32_3552 : BitVec 32 := 0#32
  ![v4555.toNat, 0, v4565.toNat, 0]
def k0_cond10 : BitVec 1 :=
  let c1_i32_483 : BitVec 32 := 1#32
  let c8_i32_544 : BitVec 32 := 8#32
  let v825 : BitVec 32 := Scalar.muli c1_i32_483 c8_i32_544
  let c1_i32_545 : BitVec 32 := 1#32
  let v826 : BitVec 32 := Scalar.addi v825 c1_i32_545
  let c3_i32_546 : BitVec 32 := 3#32
  let v827 : BitVec 32 := Scalar.addi v826 c3_i32_546
  let c32_i32_547 : BitVec 32 := 32#32
  let v828 : BitVec 1 := Scalar.cmpi .slt v827 c32_i32_547
  let v829 : BitVec 32 := Scalar.extui v828
  let c0_i32_548 : BitVec 32 := 0#32
  let v830 : BitVec 1 := Scalar.cmpi .ne v829 c0_i32_548
  v830

def k0_off11 : Fin 4 → Nat :=
  let c1_i32_483 : BitVec 32 := 1#32
  let c8_i32_544 : BitVec 32 := 8#32
  let v825 : BitVec 32 := Scalar.muli c1_i32_483 c8_i32_544
  let c1_i32_545 : BitVec 32 := 1#32
  let v826 : BitVec 32 := Scalar.addi v825 c1_i32_545
  let c3_i32_3532 : BitVec 32 := 3#32
  let v4538 : BitVec 32 := Scalar.addi v826 c3_i32_3532
  let c0_i32_3534 : BitVec 32 := 0#32
  let v4540 : BitVec 1 := Scalar.cmpi .sgt v4538 c0_i32_3534
  let v4541 : BitVec 32 := Scalar.extui v4540
  let c0_i32_3535 : BitVec 32 := 0#32
  let v4542 : BitVec 1 := Scalar.cmpi .slt v4538 c0_i32_3535
  let v4543 : BitVec 32 := Scalar.extui v4542
  let v4544 : BitVec 32 := Scalar.subi v4541 v4543
  let c8_i32_3533 : BitVec 32 := 8#32
  let c0_i32_3536 : BitVec 32 := 0#32
  let v4545 : BitVec 1 := Scalar.cmpi .sgt c8_i32_3533 c0_i32_3536
  let v4546 : BitVec 32 := Scalar.extui v4545
  let c0_i32_3537 : BitVec 32 := 0#32
  let v4547 : BitVec 1 := Scalar.cmpi .slt c8_i32_3533 c0_i32_3537
  let v4548 : BitVec 32 := Scalar.extui v4547
  let v4549 : BitVec 32 := Scalar.subi v4546 v4548
  let v4550 : BitVec 1 := Scalar.cmpi .ne v4544 v4549
  let v4551 : BitVec 32 := Scalar.remsi v4538 c8_i32_3533
  let c0_i32_3538 : BitVec 32 := 0#32
  let v4552 : BitVec 1 := Scalar.cmpi .ne v4551 c0_i32_3538
  let v4553 : BitVec 1 := Scalar.andi v4550 v4552
  let v4539 : BitVec 32 := Scalar.divsi v4538 c8_i32_3533
  let c1_i32_3539 : BitVec 32 := 1#32
  let v4554 : BitVec 32 := Scalar.subi v4539 c1_i32_3539
  let v4555 : BitVec 32 := Scalar.select v4553 v4554 v4539
  let c0_i32_3551 : BitVec 32 := 0#32
  let c8_i32_3540 : BitVec 32 := 8#32
  let c0_i32_3541 : BitVec 32 := 0#32
  let v4556 : BitVec 1 := Scalar.cmpi .eq c8_i32_3540 c0_i32_3541
  let c1_i32_3542 : BitVec 32 := 1#32
  let v4557 : BitVec 32 := Scalar.select v4556 c1_i32_3542 c8_i32_3540
  let v4558 : BitVec 32 := Scalar.remsi v4538 v4557
  let c0_i32_3544 : BitVec 32 := 0#32
  let v4560 : BitVec 1 := Scalar.cmpi .slt v4558 c0_i32_3544
  let c0_i32_3545 : BitVec 32 := 0#32
  let v4561 : BitVec 1 := Scalar.cmpi .slt v4557 c0_i32_3545
  let v4562 : BitVec 1 := Scalar.xori v4560 v4561
  let c0_i32_3543 : BitVec 32 := 0#32
  let v4559 : BitVec 1 := Scalar.cmpi .ne v4558 c0_i32_3543
  let v4563 : BitVec 1 := Scalar.andi v4562 v4559
  let v4564 : BitVec 32 := Scalar.addi v4558 v4557
  let v4565 : BitVec 32 := Scalar.select v4563 v4564 v4558
  let c0_i32_3552 : BitVec 32 := 0#32
  ![v4555.toNat, 0, v4565.toNat, 0]
def k0_cond11 : BitVec 1 :=
  let c1_i32_483 : BitVec 32 := 1#32
  let c8_i32_596 : BitVec 32 := 8#32
  let v906 : BitVec 32 := Scalar.muli c1_i32_483 c8_i32_596
  let c2_i32_597 : BitVec 32 := 2#32
  let v907 : BitVec 32 := Scalar.addi v906 c2_i32_597
  let c3_i32_598 : BitVec 32 := 3#32
  let v908 : BitVec 32 := Scalar.addi v907 c3_i32_598
  let c32_i32_599 : BitVec 32 := 32#32
  let v909 : BitVec 1 := Scalar.cmpi .slt v908 c32_i32_599
  let v910 : BitVec 32 := Scalar.extui v909
  let c0_i32_600 : BitVec 32 := 0#32
  let v911 : BitVec 1 := Scalar.cmpi .ne v910 c0_i32_600
  v911

def k0_off12 : Fin 4 → Nat :=
  let c1_i32_483 : BitVec 32 := 1#32
  let c8_i32_596 : BitVec 32 := 8#32
  let v906 : BitVec 32 := Scalar.muli c1_i32_483 c8_i32_596
  let c2_i32_597 : BitVec 32 := 2#32
  let v907 : BitVec 32 := Scalar.addi v906 c2_i32_597
  let c3_i32_3532 : BitVec 32 := 3#32
  let v4538 : BitVec 32 := Scalar.addi v907 c3_i32_3532
  let c0_i32_3534 : BitVec 32 := 0#32
  let v4540 : BitVec 1 := Scalar.cmpi .sgt v4538 c0_i32_3534
  let v4541 : BitVec 32 := Scalar.extui v4540
  let c0_i32_3535 : BitVec 32 := 0#32
  let v4542 : BitVec 1 := Scalar.cmpi .slt v4538 c0_i32_3535
  let v4543 : BitVec 32 := Scalar.extui v4542
  let v4544 : BitVec 32 := Scalar.subi v4541 v4543
  let c8_i32_3533 : BitVec 32 := 8#32
  let c0_i32_3536 : BitVec 32 := 0#32
  let v4545 : BitVec 1 := Scalar.cmpi .sgt c8_i32_3533 c0_i32_3536
  let v4546 : BitVec 32 := Scalar.extui v4545
  let c0_i32_3537 : BitVec 32 := 0#32
  let v4547 : BitVec 1 := Scalar.cmpi .slt c8_i32_3533 c0_i32_3537
  let v4548 : BitVec 32 := Scalar.extui v4547
  let v4549 : BitVec 32 := Scalar.subi v4546 v4548
  let v4550 : BitVec 1 := Scalar.cmpi .ne v4544 v4549
  let v4551 : BitVec 32 := Scalar.remsi v4538 c8_i32_3533
  let c0_i32_3538 : BitVec 32 := 0#32
  let v4552 : BitVec 1 := Scalar.cmpi .ne v4551 c0_i32_3538
  let v4553 : BitVec 1 := Scalar.andi v4550 v4552
  let v4539 : BitVec 32 := Scalar.divsi v4538 c8_i32_3533
  let c1_i32_3539 : BitVec 32 := 1#32
  let v4554 : BitVec 32 := Scalar.subi v4539 c1_i32_3539
  let v4555 : BitVec 32 := Scalar.select v4553 v4554 v4539
  let c0_i32_3551 : BitVec 32 := 0#32
  let c8_i32_3540 : BitVec 32 := 8#32
  let c0_i32_3541 : BitVec 32 := 0#32
  let v4556 : BitVec 1 := Scalar.cmpi .eq c8_i32_3540 c0_i32_3541
  let c1_i32_3542 : BitVec 32 := 1#32
  let v4557 : BitVec 32 := Scalar.select v4556 c1_i32_3542 c8_i32_3540
  let v4558 : BitVec 32 := Scalar.remsi v4538 v4557
  let c0_i32_3544 : BitVec 32 := 0#32
  let v4560 : BitVec 1 := Scalar.cmpi .slt v4558 c0_i32_3544
  let c0_i32_3545 : BitVec 32 := 0#32
  let v4561 : BitVec 1 := Scalar.cmpi .slt v4557 c0_i32_3545
  let v4562 : BitVec 1 := Scalar.xori v4560 v4561
  let c0_i32_3543 : BitVec 32 := 0#32
  let v4559 : BitVec 1 := Scalar.cmpi .ne v4558 c0_i32_3543
  let v4563 : BitVec 1 := Scalar.andi v4562 v4559
  let v4564 : BitVec 32 := Scalar.addi v4558 v4557
  let v4565 : BitVec 32 := Scalar.select v4563 v4564 v4558
  let c0_i32_3552 : BitVec 32 := 0#32
  ![v4555.toNat, 0, v4565.toNat, 0]
def k0_cond12 : BitVec 1 :=
  let c1_i32_483 : BitVec 32 := 1#32
  let c8_i32_648 : BitVec 32 := 8#32
  let v987 : BitVec 32 := Scalar.muli c1_i32_483 c8_i32_648
  let c3_i32_649 : BitVec 32 := 3#32
  let v988 : BitVec 32 := Scalar.addi v987 c3_i32_649
  let c3_i32_650 : BitVec 32 := 3#32
  let v989 : BitVec 32 := Scalar.addi v988 c3_i32_650
  let c32_i32_651 : BitVec 32 := 32#32
  let v990 : BitVec 1 := Scalar.cmpi .slt v989 c32_i32_651
  let v991 : BitVec 32 := Scalar.extui v990
  let c0_i32_652 : BitVec 32 := 0#32
  let v992 : BitVec 1 := Scalar.cmpi .ne v991 c0_i32_652
  v992

def k0_off13 : Fin 4 → Nat :=
  let c1_i32_483 : BitVec 32 := 1#32
  let c8_i32_648 : BitVec 32 := 8#32
  let v987 : BitVec 32 := Scalar.muli c1_i32_483 c8_i32_648
  let c3_i32_649 : BitVec 32 := 3#32
  let v988 : BitVec 32 := Scalar.addi v987 c3_i32_649
  let c3_i32_3532 : BitVec 32 := 3#32
  let v4538 : BitVec 32 := Scalar.addi v988 c3_i32_3532
  let c0_i32_3534 : BitVec 32 := 0#32
  let v4540 : BitVec 1 := Scalar.cmpi .sgt v4538 c0_i32_3534
  let v4541 : BitVec 32 := Scalar.extui v4540
  let c0_i32_3535 : BitVec 32 := 0#32
  let v4542 : BitVec 1 := Scalar.cmpi .slt v4538 c0_i32_3535
  let v4543 : BitVec 32 := Scalar.extui v4542
  let v4544 : BitVec 32 := Scalar.subi v4541 v4543
  let c8_i32_3533 : BitVec 32 := 8#32
  let c0_i32_3536 : BitVec 32 := 0#32
  let v4545 : BitVec 1 := Scalar.cmpi .sgt c8_i32_3533 c0_i32_3536
  let v4546 : BitVec 32 := Scalar.extui v4545
  let c0_i32_3537 : BitVec 32 := 0#32
  let v4547 : BitVec 1 := Scalar.cmpi .slt c8_i32_3533 c0_i32_3537
  let v4548 : BitVec 32 := Scalar.extui v4547
  let v4549 : BitVec 32 := Scalar.subi v4546 v4548
  let v4550 : BitVec 1 := Scalar.cmpi .ne v4544 v4549
  let v4551 : BitVec 32 := Scalar.remsi v4538 c8_i32_3533
  let c0_i32_3538 : BitVec 32 := 0#32
  let v4552 : BitVec 1 := Scalar.cmpi .ne v4551 c0_i32_3538
  let v4553 : BitVec 1 := Scalar.andi v4550 v4552
  let v4539 : BitVec 32 := Scalar.divsi v4538 c8_i32_3533
  let c1_i32_3539 : BitVec 32 := 1#32
  let v4554 : BitVec 32 := Scalar.subi v4539 c1_i32_3539
  let v4555 : BitVec 32 := Scalar.select v4553 v4554 v4539
  let c0_i32_3551 : BitVec 32 := 0#32
  let c8_i32_3540 : BitVec 32 := 8#32
  let c0_i32_3541 : BitVec 32 := 0#32
  let v4556 : BitVec 1 := Scalar.cmpi .eq c8_i32_3540 c0_i32_3541
  let c1_i32_3542 : BitVec 32 := 1#32
  let v4557 : BitVec 32 := Scalar.select v4556 c1_i32_3542 c8_i32_3540
  let v4558 : BitVec 32 := Scalar.remsi v4538 v4557
  let c0_i32_3544 : BitVec 32 := 0#32
  let v4560 : BitVec 1 := Scalar.cmpi .slt v4558 c0_i32_3544
  let c0_i32_3545 : BitVec 32 := 0#32
  let v4561 : BitVec 1 := Scalar.cmpi .slt v4557 c0_i32_3545
  let v4562 : BitVec 1 := Scalar.xori v4560 v4561
  let c0_i32_3543 : BitVec 32 := 0#32
  let v4559 : BitVec 1 := Scalar.cmpi .ne v4558 c0_i32_3543
  let v4563 : BitVec 1 := Scalar.andi v4562 v4559
  let v4564 : BitVec 32 := Scalar.addi v4558 v4557
  let v4565 : BitVec 32 := Scalar.select v4563 v4564 v4558
  let c0_i32_3552 : BitVec 32 := 0#32
  ![v4555.toNat, 0, v4565.toNat, 0]
def k0_cond13 : BitVec 1 :=
  let c1_i32_483 : BitVec 32 := 1#32
  let c8_i32_700 : BitVec 32 := 8#32
  let v1068 : BitVec 32 := Scalar.muli c1_i32_483 c8_i32_700
  let c4_i32_701 : BitVec 32 := 4#32
  let v1069 : BitVec 32 := Scalar.addi v1068 c4_i32_701
  let c3_i32_702 : BitVec 32 := 3#32
  let v1070 : BitVec 32 := Scalar.addi v1069 c3_i32_702
  let c32_i32_703 : BitVec 32 := 32#32
  let v1071 : BitVec 1 := Scalar.cmpi .slt v1070 c32_i32_703
  let v1072 : BitVec 32 := Scalar.extui v1071
  let c0_i32_704 : BitVec 32 := 0#32
  let v1073 : BitVec 1 := Scalar.cmpi .ne v1072 c0_i32_704
  v1073

def k0_off14 : Fin 4 → Nat :=
  let c1_i32_483 : BitVec 32 := 1#32
  let c8_i32_700 : BitVec 32 := 8#32
  let v1068 : BitVec 32 := Scalar.muli c1_i32_483 c8_i32_700
  let c4_i32_701 : BitVec 32 := 4#32
  let v1069 : BitVec 32 := Scalar.addi v1068 c4_i32_701
  let c3_i32_3532 : BitVec 32 := 3#32
  let v4538 : BitVec 32 := Scalar.addi v1069 c3_i32_3532
  let c0_i32_3534 : BitVec 32 := 0#32
  let v4540 : BitVec 1 := Scalar.cmpi .sgt v4538 c0_i32_3534
  let v4541 : BitVec 32 := Scalar.extui v4540
  let c0_i32_3535 : BitVec 32 := 0#32
  let v4542 : BitVec 1 := Scalar.cmpi .slt v4538 c0_i32_3535
  let v4543 : BitVec 32 := Scalar.extui v4542
  let v4544 : BitVec 32 := Scalar.subi v4541 v4543
  let c8_i32_3533 : BitVec 32 := 8#32
  let c0_i32_3536 : BitVec 32 := 0#32
  let v4545 : BitVec 1 := Scalar.cmpi .sgt c8_i32_3533 c0_i32_3536
  let v4546 : BitVec 32 := Scalar.extui v4545
  let c0_i32_3537 : BitVec 32 := 0#32
  let v4547 : BitVec 1 := Scalar.cmpi .slt c8_i32_3533 c0_i32_3537
  let v4548 : BitVec 32 := Scalar.extui v4547
  let v4549 : BitVec 32 := Scalar.subi v4546 v4548
  let v4550 : BitVec 1 := Scalar.cmpi .ne v4544 v4549
  let v4551 : BitVec 32 := Scalar.remsi v4538 c8_i32_3533
  let c0_i32_3538 : BitVec 32 := 0#32
  let v4552 : BitVec 1 := Scalar.cmpi .ne v4551 c0_i32_3538
  let v4553 : BitVec 1 := Scalar.andi v4550 v4552
  let v4539 : BitVec 32 := Scalar.divsi v4538 c8_i32_3533
  let c1_i32_3539 : BitVec 32 := 1#32
  let v4554 : BitVec 32 := Scalar.subi v4539 c1_i32_3539
  let v4555 : BitVec 32 := Scalar.select v4553 v4554 v4539
  let c0_i32_3551 : BitVec 32 := 0#32
  let c8_i32_3540 : BitVec 32 := 8#32
  let c0_i32_3541 : BitVec 32 := 0#32
  let v4556 : BitVec 1 := Scalar.cmpi .eq c8_i32_3540 c0_i32_3541
  let c1_i32_3542 : BitVec 32 := 1#32
  let v4557 : BitVec 32 := Scalar.select v4556 c1_i32_3542 c8_i32_3540
  let v4558 : BitVec 32 := Scalar.remsi v4538 v4557
  let c0_i32_3544 : BitVec 32 := 0#32
  let v4560 : BitVec 1 := Scalar.cmpi .slt v4558 c0_i32_3544
  let c0_i32_3545 : BitVec 32 := 0#32
  let v4561 : BitVec 1 := Scalar.cmpi .slt v4557 c0_i32_3545
  let v4562 : BitVec 1 := Scalar.xori v4560 v4561
  let c0_i32_3543 : BitVec 32 := 0#32
  let v4559 : BitVec 1 := Scalar.cmpi .ne v4558 c0_i32_3543
  let v4563 : BitVec 1 := Scalar.andi v4562 v4559
  let v4564 : BitVec 32 := Scalar.addi v4558 v4557
  let v4565 : BitVec 32 := Scalar.select v4563 v4564 v4558
  let c0_i32_3552 : BitVec 32 := 0#32
  ![v4555.toNat, 0, v4565.toNat, 0]
def k0_cond14 : BitVec 1 :=
  let c1_i32_483 : BitVec 32 := 1#32
  let c8_i32_752 : BitVec 32 := 8#32
  let v1149 : BitVec 32 := Scalar.muli c1_i32_483 c8_i32_752
  let c5_i32_753 : BitVec 32 := 5#32
  let v1150 : BitVec 32 := Scalar.addi v1149 c5_i32_753
  let c3_i32_754 : BitVec 32 := 3#32
  let v1151 : BitVec 32 := Scalar.addi v1150 c3_i32_754
  let c32_i32_755 : BitVec 32 := 32#32
  let v1152 : BitVec 1 := Scalar.cmpi .slt v1151 c32_i32_755
  let v1153 : BitVec 32 := Scalar.extui v1152
  let c0_i32_756 : BitVec 32 := 0#32
  let v1154 : BitVec 1 := Scalar.cmpi .ne v1153 c0_i32_756
  v1154

def k0_off15 : Fin 4 → Nat :=
  let c1_i32_483 : BitVec 32 := 1#32
  let c8_i32_752 : BitVec 32 := 8#32
  let v1149 : BitVec 32 := Scalar.muli c1_i32_483 c8_i32_752
  let c5_i32_753 : BitVec 32 := 5#32
  let v1150 : BitVec 32 := Scalar.addi v1149 c5_i32_753
  let c3_i32_3532 : BitVec 32 := 3#32
  let v4538 : BitVec 32 := Scalar.addi v1150 c3_i32_3532
  let c0_i32_3534 : BitVec 32 := 0#32
  let v4540 : BitVec 1 := Scalar.cmpi .sgt v4538 c0_i32_3534
  let v4541 : BitVec 32 := Scalar.extui v4540
  let c0_i32_3535 : BitVec 32 := 0#32
  let v4542 : BitVec 1 := Scalar.cmpi .slt v4538 c0_i32_3535
  let v4543 : BitVec 32 := Scalar.extui v4542
  let v4544 : BitVec 32 := Scalar.subi v4541 v4543
  let c8_i32_3533 : BitVec 32 := 8#32
  let c0_i32_3536 : BitVec 32 := 0#32
  let v4545 : BitVec 1 := Scalar.cmpi .sgt c8_i32_3533 c0_i32_3536
  let v4546 : BitVec 32 := Scalar.extui v4545
  let c0_i32_3537 : BitVec 32 := 0#32
  let v4547 : BitVec 1 := Scalar.cmpi .slt c8_i32_3533 c0_i32_3537
  let v4548 : BitVec 32 := Scalar.extui v4547
  let v4549 : BitVec 32 := Scalar.subi v4546 v4548
  let v4550 : BitVec 1 := Scalar.cmpi .ne v4544 v4549
  let v4551 : BitVec 32 := Scalar.remsi v4538 c8_i32_3533
  let c0_i32_3538 : BitVec 32 := 0#32
  let v4552 : BitVec 1 := Scalar.cmpi .ne v4551 c0_i32_3538
  let v4553 : BitVec 1 := Scalar.andi v4550 v4552
  let v4539 : BitVec 32 := Scalar.divsi v4538 c8_i32_3533
  let c1_i32_3539 : BitVec 32 := 1#32
  let v4554 : BitVec 32 := Scalar.subi v4539 c1_i32_3539
  let v4555 : BitVec 32 := Scalar.select v4553 v4554 v4539
  let c0_i32_3551 : BitVec 32 := 0#32
  let c8_i32_3540 : BitVec 32 := 8#32
  let c0_i32_3541 : BitVec 32 := 0#32
  let v4556 : BitVec 1 := Scalar.cmpi .eq c8_i32_3540 c0_i32_3541
  let c1_i32_3542 : BitVec 32 := 1#32
  let v4557 : BitVec 32 := Scalar.select v4556 c1_i32_3542 c8_i32_3540
  let v4558 : BitVec 32 := Scalar.remsi v4538 v4557
  let c0_i32_3544 : BitVec 32 := 0#32
  let v4560 : BitVec 1 := Scalar.cmpi .slt v4558 c0_i32_3544
  let c0_i32_3545 : BitVec 32 := 0#32
  let v4561 : BitVec 1 := Scalar.cmpi .slt v4557 c0_i32_3545
  let v4562 : BitVec 1 := Scalar.xori v4560 v4561
  let c0_i32_3543 : BitVec 32 := 0#32
  let v4559 : BitVec 1 := Scalar.cmpi .ne v4558 c0_i32_3543
  let v4563 : BitVec 1 := Scalar.andi v4562 v4559
  let v4564 : BitVec 32 := Scalar.addi v4558 v4557
  let v4565 : BitVec 32 := Scalar.select v4563 v4564 v4558
  let c0_i32_3552 : BitVec 32 := 0#32
  ![v4555.toNat, 0, v4565.toNat, 0]
def k0_cond15 : BitVec 1 :=
  let c1_i32_483 : BitVec 32 := 1#32
  let c8_i32_804 : BitVec 32 := 8#32
  let v1230 : BitVec 32 := Scalar.muli c1_i32_483 c8_i32_804
  let c6_i32_805 : BitVec 32 := 6#32
  let v1231 : BitVec 32 := Scalar.addi v1230 c6_i32_805
  let c3_i32_806 : BitVec 32 := 3#32
  let v1232 : BitVec 32 := Scalar.addi v1231 c3_i32_806
  let c32_i32_807 : BitVec 32 := 32#32
  let v1233 : BitVec 1 := Scalar.cmpi .slt v1232 c32_i32_807
  let v1234 : BitVec 32 := Scalar.extui v1233
  let c0_i32_808 : BitVec 32 := 0#32
  let v1235 : BitVec 1 := Scalar.cmpi .ne v1234 c0_i32_808
  v1235

def k0_off16 : Fin 4 → Nat :=
  let c1_i32_483 : BitVec 32 := 1#32
  let c8_i32_804 : BitVec 32 := 8#32
  let v1230 : BitVec 32 := Scalar.muli c1_i32_483 c8_i32_804
  let c6_i32_805 : BitVec 32 := 6#32
  let v1231 : BitVec 32 := Scalar.addi v1230 c6_i32_805
  let c3_i32_3532 : BitVec 32 := 3#32
  let v4538 : BitVec 32 := Scalar.addi v1231 c3_i32_3532
  let c0_i32_3534 : BitVec 32 := 0#32
  let v4540 : BitVec 1 := Scalar.cmpi .sgt v4538 c0_i32_3534
  let v4541 : BitVec 32 := Scalar.extui v4540
  let c0_i32_3535 : BitVec 32 := 0#32
  let v4542 : BitVec 1 := Scalar.cmpi .slt v4538 c0_i32_3535
  let v4543 : BitVec 32 := Scalar.extui v4542
  let v4544 : BitVec 32 := Scalar.subi v4541 v4543
  let c8_i32_3533 : BitVec 32 := 8#32
  let c0_i32_3536 : BitVec 32 := 0#32
  let v4545 : BitVec 1 := Scalar.cmpi .sgt c8_i32_3533 c0_i32_3536
  let v4546 : BitVec 32 := Scalar.extui v4545
  let c0_i32_3537 : BitVec 32 := 0#32
  let v4547 : BitVec 1 := Scalar.cmpi .slt c8_i32_3533 c0_i32_3537
  let v4548 : BitVec 32 := Scalar.extui v4547
  let v4549 : BitVec 32 := Scalar.subi v4546 v4548
  let v4550 : BitVec 1 := Scalar.cmpi .ne v4544 v4549
  let v4551 : BitVec 32 := Scalar.remsi v4538 c8_i32_3533
  let c0_i32_3538 : BitVec 32 := 0#32
  let v4552 : BitVec 1 := Scalar.cmpi .ne v4551 c0_i32_3538
  let v4553 : BitVec 1 := Scalar.andi v4550 v4552
  let v4539 : BitVec 32 := Scalar.divsi v4538 c8_i32_3533
  let c1_i32_3539 : BitVec 32 := 1#32
  let v4554 : BitVec 32 := Scalar.subi v4539 c1_i32_3539
  let v4555 : BitVec 32 := Scalar.select v4553 v4554 v4539
  let c0_i32_3551 : BitVec 32 := 0#32
  let c8_i32_3540 : BitVec 32 := 8#32
  let c0_i32_3541 : BitVec 32 := 0#32
  let v4556 : BitVec 1 := Scalar.cmpi .eq c8_i32_3540 c0_i32_3541
  let c1_i32_3542 : BitVec 32 := 1#32
  let v4557 : BitVec 32 := Scalar.select v4556 c1_i32_3542 c8_i32_3540
  let v4558 : BitVec 32 := Scalar.remsi v4538 v4557
  let c0_i32_3544 : BitVec 32 := 0#32
  let v4560 : BitVec 1 := Scalar.cmpi .slt v4558 c0_i32_3544
  let c0_i32_3545 : BitVec 32 := 0#32
  let v4561 : BitVec 1 := Scalar.cmpi .slt v4557 c0_i32_3545
  let v4562 : BitVec 1 := Scalar.xori v4560 v4561
  let c0_i32_3543 : BitVec 32 := 0#32
  let v4559 : BitVec 1 := Scalar.cmpi .ne v4558 c0_i32_3543
  let v4563 : BitVec 1 := Scalar.andi v4562 v4559
  let v4564 : BitVec 32 := Scalar.addi v4558 v4557
  let v4565 : BitVec 32 := Scalar.select v4563 v4564 v4558
  let c0_i32_3552 : BitVec 32 := 0#32
  ![v4555.toNat, 0, v4565.toNat, 0]
def k0_cond16 : BitVec 1 :=
  let c1_i32_483 : BitVec 32 := 1#32
  let c8_i32_856 : BitVec 32 := 8#32
  let v1311 : BitVec 32 := Scalar.muli c1_i32_483 c8_i32_856
  let c7_i32_857 : BitVec 32 := 7#32
  let v1312 : BitVec 32 := Scalar.addi v1311 c7_i32_857
  let c3_i32_858 : BitVec 32 := 3#32
  let v1313 : BitVec 32 := Scalar.addi v1312 c3_i32_858
  let c32_i32_859 : BitVec 32 := 32#32
  let v1314 : BitVec 1 := Scalar.cmpi .slt v1313 c32_i32_859
  let v1315 : BitVec 32 := Scalar.extui v1314
  let c0_i32_860 : BitVec 32 := 0#32
  let v1316 : BitVec 1 := Scalar.cmpi .ne v1315 c0_i32_860
  v1316

def k0_off17 : Fin 4 → Nat :=
  let c1_i32_483 : BitVec 32 := 1#32
  let c8_i32_856 : BitVec 32 := 8#32
  let v1311 : BitVec 32 := Scalar.muli c1_i32_483 c8_i32_856
  let c7_i32_857 : BitVec 32 := 7#32
  let v1312 : BitVec 32 := Scalar.addi v1311 c7_i32_857
  let c3_i32_3532 : BitVec 32 := 3#32
  let v4538 : BitVec 32 := Scalar.addi v1312 c3_i32_3532
  let c0_i32_3534 : BitVec 32 := 0#32
  let v4540 : BitVec 1 := Scalar.cmpi .sgt v4538 c0_i32_3534
  let v4541 : BitVec 32 := Scalar.extui v4540
  let c0_i32_3535 : BitVec 32 := 0#32
  let v4542 : BitVec 1 := Scalar.cmpi .slt v4538 c0_i32_3535
  let v4543 : BitVec 32 := Scalar.extui v4542
  let v4544 : BitVec 32 := Scalar.subi v4541 v4543
  let c8_i32_3533 : BitVec 32 := 8#32
  let c0_i32_3536 : BitVec 32 := 0#32
  let v4545 : BitVec 1 := Scalar.cmpi .sgt c8_i32_3533 c0_i32_3536
  let v4546 : BitVec 32 := Scalar.extui v4545
  let c0_i32_3537 : BitVec 32 := 0#32
  let v4547 : BitVec 1 := Scalar.cmpi .slt c8_i32_3533 c0_i32_3537
  let v4548 : BitVec 32 := Scalar.extui v4547
  let v4549 : BitVec 32 := Scalar.subi v4546 v4548
  let v4550 : BitVec 1 := Scalar.cmpi .ne v4544 v4549
  let v4551 : BitVec 32 := Scalar.remsi v4538 c8_i32_3533
  let c0_i32_3538 : BitVec 32 := 0#32
  let v4552 : BitVec 1 := Scalar.cmpi .ne v4551 c0_i32_3538
  let v4553 : BitVec 1 := Scalar.andi v4550 v4552
  let v4539 : BitVec 32 := Scalar.divsi v4538 c8_i32_3533
  let c1_i32_3539 : BitVec 32 := 1#32
  let v4554 : BitVec 32 := Scalar.subi v4539 c1_i32_3539
  let v4555 : BitVec 32 := Scalar.select v4553 v4554 v4539
  let c0_i32_3551 : BitVec 32 := 0#32
  let c8_i32_3540 : BitVec 32 := 8#32
  let c0_i32_3541 : BitVec 32 := 0#32
  let v4556 : BitVec 1 := Scalar.cmpi .eq c8_i32_3540 c0_i32_3541
  let c1_i32_3542 : BitVec 32 := 1#32
  let v4557 : BitVec 32 := Scalar.select v4556 c1_i32_3542 c8_i32_3540
  let v4558 : BitVec 32 := Scalar.remsi v4538 v4557
  let c0_i32_3544 : BitVec 32 := 0#32
  let v4560 : BitVec 1 := Scalar.cmpi .slt v4558 c0_i32_3544
  let c0_i32_3545 : BitVec 32 := 0#32
  let v4561 : BitVec 1 := Scalar.cmpi .slt v4557 c0_i32_3545
  let v4562 : BitVec 1 := Scalar.xori v4560 v4561
  let c0_i32_3543 : BitVec 32 := 0#32
  let v4559 : BitVec 1 := Scalar.cmpi .ne v4558 c0_i32_3543
  let v4563 : BitVec 1 := Scalar.andi v4562 v4559
  let v4564 : BitVec 32 := Scalar.addi v4558 v4557
  let v4565 : BitVec 32 := Scalar.select v4563 v4564 v4558
  let c0_i32_3552 : BitVec 32 := 0#32
  ![v4555.toNat, 0, v4565.toNat, 0]
def k0_dev5 (d0 : Dev nD) : Nat :=
  let c0_i32_913 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_912 : BitVec 32 := 1#32
  let v1392 : BitVec 32 := Scalar.muli v3 c1_i32_912
  let v1393 : BitVec 32 := Scalar.addi c0_i32_913 v1392
  v1393.toNat
def k0_dev6 (d0 : Dev nD) : Nat :=
  let c0_i32_924 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_923 : BitVec 32 := 1#32
  let v1401 : BitVec 32 := Scalar.muli v3 c1_i32_923
  let v1402 : BitVec 32 := Scalar.addi c0_i32_924 v1401
  v1402.toNat
def k0_dev7 (d0 : Dev nD) : Nat :=
  let c0_i32_1148 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_1147 : BitVec 32 := 1#32
  let v1632 : BitVec 32 := Scalar.muli v4 c1_i32_1147
  let v1633 : BitVec 32 := Scalar.addi c0_i32_1148 v1632
  v1633.toNat
def k0_dev8 (d0 : Dev nD) : Nat :=
  let c0_i32_1158 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_1157 : BitVec 32 := 1#32
  let v1641 : BitVec 32 := Scalar.muli v4 c1_i32_1157
  let v1642 : BitVec 32 := Scalar.addi c0_i32_1158 v1641
  v1642.toNat
def k0_cond17 : BitVec 1 :=
  let c2_i32_1165 : BitVec 32 := 2#32
  let c8_i32_1174 : BitVec 32 := 8#32
  let v1663 : BitVec 32 := Scalar.muli c2_i32_1165 c8_i32_1174
  let c0_i32_1175 : BitVec 32 := 0#32
  let v1664 : BitVec 32 := Scalar.addi v1663 c0_i32_1175
  let c3_i32_1176 : BitVec 32 := 3#32
  let v1665 : BitVec 32 := Scalar.addi v1664 c3_i32_1176
  let c32_i32_1177 : BitVec 32 := 32#32
  let v1666 : BitVec 1 := Scalar.cmpi .slt v1665 c32_i32_1177
  let v1667 : BitVec 32 := Scalar.extui v1666
  let c0_i32_1178 : BitVec 32 := 0#32
  let v1668 : BitVec 1 := Scalar.cmpi .ne v1667 c0_i32_1178
  v1668

def k0_off18 : Fin 4 → Nat :=
  let c2_i32_1165 : BitVec 32 := 2#32
  let c8_i32_1174 : BitVec 32 := 8#32
  let v1663 : BitVec 32 := Scalar.muli c2_i32_1165 c8_i32_1174
  let c0_i32_1175 : BitVec 32 := 0#32
  let v1664 : BitVec 32 := Scalar.addi v1663 c0_i32_1175
  let c3_i32_3532 : BitVec 32 := 3#32
  let v4538 : BitVec 32 := Scalar.addi v1664 c3_i32_3532
  let c0_i32_3534 : BitVec 32 := 0#32
  let v4540 : BitVec 1 := Scalar.cmpi .sgt v4538 c0_i32_3534
  let v4541 : BitVec 32 := Scalar.extui v4540
  let c0_i32_3535 : BitVec 32 := 0#32
  let v4542 : BitVec 1 := Scalar.cmpi .slt v4538 c0_i32_3535
  let v4543 : BitVec 32 := Scalar.extui v4542
  let v4544 : BitVec 32 := Scalar.subi v4541 v4543
  let c8_i32_3533 : BitVec 32 := 8#32
  let c0_i32_3536 : BitVec 32 := 0#32
  let v4545 : BitVec 1 := Scalar.cmpi .sgt c8_i32_3533 c0_i32_3536
  let v4546 : BitVec 32 := Scalar.extui v4545
  let c0_i32_3537 : BitVec 32 := 0#32
  let v4547 : BitVec 1 := Scalar.cmpi .slt c8_i32_3533 c0_i32_3537
  let v4548 : BitVec 32 := Scalar.extui v4547
  let v4549 : BitVec 32 := Scalar.subi v4546 v4548
  let v4550 : BitVec 1 := Scalar.cmpi .ne v4544 v4549
  let v4551 : BitVec 32 := Scalar.remsi v4538 c8_i32_3533
  let c0_i32_3538 : BitVec 32 := 0#32
  let v4552 : BitVec 1 := Scalar.cmpi .ne v4551 c0_i32_3538
  let v4553 : BitVec 1 := Scalar.andi v4550 v4552
  let v4539 : BitVec 32 := Scalar.divsi v4538 c8_i32_3533
  let c1_i32_3539 : BitVec 32 := 1#32
  let v4554 : BitVec 32 := Scalar.subi v4539 c1_i32_3539
  let v4555 : BitVec 32 := Scalar.select v4553 v4554 v4539
  let c0_i32_3551 : BitVec 32 := 0#32
  let c8_i32_3540 : BitVec 32 := 8#32
  let c0_i32_3541 : BitVec 32 := 0#32
  let v4556 : BitVec 1 := Scalar.cmpi .eq c8_i32_3540 c0_i32_3541
  let c1_i32_3542 : BitVec 32 := 1#32
  let v4557 : BitVec 32 := Scalar.select v4556 c1_i32_3542 c8_i32_3540
  let v4558 : BitVec 32 := Scalar.remsi v4538 v4557
  let c0_i32_3544 : BitVec 32 := 0#32
  let v4560 : BitVec 1 := Scalar.cmpi .slt v4558 c0_i32_3544
  let c0_i32_3545 : BitVec 32 := 0#32
  let v4561 : BitVec 1 := Scalar.cmpi .slt v4557 c0_i32_3545
  let v4562 : BitVec 1 := Scalar.xori v4560 v4561
  let c0_i32_3543 : BitVec 32 := 0#32
  let v4559 : BitVec 1 := Scalar.cmpi .ne v4558 c0_i32_3543
  let v4563 : BitVec 1 := Scalar.andi v4562 v4559
  let v4564 : BitVec 32 := Scalar.addi v4558 v4557
  let v4565 : BitVec 32 := Scalar.select v4563 v4564 v4558
  let c0_i32_3552 : BitVec 32 := 0#32
  ![v4555.toNat, 0, v4565.toNat, 0]
def k0_cond18 : BitVec 1 :=
  let c2_i32_1165 : BitVec 32 := 2#32
  let c8_i32_1226 : BitVec 32 := 8#32
  let v1744 : BitVec 32 := Scalar.muli c2_i32_1165 c8_i32_1226
  let c1_i32_1227 : BitVec 32 := 1#32
  let v1745 : BitVec 32 := Scalar.addi v1744 c1_i32_1227
  let c3_i32_1228 : BitVec 32 := 3#32
  let v1746 : BitVec 32 := Scalar.addi v1745 c3_i32_1228
  let c32_i32_1229 : BitVec 32 := 32#32
  let v1747 : BitVec 1 := Scalar.cmpi .slt v1746 c32_i32_1229
  let v1748 : BitVec 32 := Scalar.extui v1747
  let c0_i32_1230 : BitVec 32 := 0#32
  let v1749 : BitVec 1 := Scalar.cmpi .ne v1748 c0_i32_1230
  v1749

def k0_off19 : Fin 4 → Nat :=
  let c2_i32_1165 : BitVec 32 := 2#32
  let c8_i32_1226 : BitVec 32 := 8#32
  let v1744 : BitVec 32 := Scalar.muli c2_i32_1165 c8_i32_1226
  let c1_i32_1227 : BitVec 32 := 1#32
  let v1745 : BitVec 32 := Scalar.addi v1744 c1_i32_1227
  let c3_i32_3532 : BitVec 32 := 3#32
  let v4538 : BitVec 32 := Scalar.addi v1745 c3_i32_3532
  let c0_i32_3534 : BitVec 32 := 0#32
  let v4540 : BitVec 1 := Scalar.cmpi .sgt v4538 c0_i32_3534
  let v4541 : BitVec 32 := Scalar.extui v4540
  let c0_i32_3535 : BitVec 32 := 0#32
  let v4542 : BitVec 1 := Scalar.cmpi .slt v4538 c0_i32_3535
  let v4543 : BitVec 32 := Scalar.extui v4542
  let v4544 : BitVec 32 := Scalar.subi v4541 v4543
  let c8_i32_3533 : BitVec 32 := 8#32
  let c0_i32_3536 : BitVec 32 := 0#32
  let v4545 : BitVec 1 := Scalar.cmpi .sgt c8_i32_3533 c0_i32_3536
  let v4546 : BitVec 32 := Scalar.extui v4545
  let c0_i32_3537 : BitVec 32 := 0#32
  let v4547 : BitVec 1 := Scalar.cmpi .slt c8_i32_3533 c0_i32_3537
  let v4548 : BitVec 32 := Scalar.extui v4547
  let v4549 : BitVec 32 := Scalar.subi v4546 v4548
  let v4550 : BitVec 1 := Scalar.cmpi .ne v4544 v4549
  let v4551 : BitVec 32 := Scalar.remsi v4538 c8_i32_3533
  let c0_i32_3538 : BitVec 32 := 0#32
  let v4552 : BitVec 1 := Scalar.cmpi .ne v4551 c0_i32_3538
  let v4553 : BitVec 1 := Scalar.andi v4550 v4552
  let v4539 : BitVec 32 := Scalar.divsi v4538 c8_i32_3533
  let c1_i32_3539 : BitVec 32 := 1#32
  let v4554 : BitVec 32 := Scalar.subi v4539 c1_i32_3539
  let v4555 : BitVec 32 := Scalar.select v4553 v4554 v4539
  let c0_i32_3551 : BitVec 32 := 0#32
  let c8_i32_3540 : BitVec 32 := 8#32
  let c0_i32_3541 : BitVec 32 := 0#32
  let v4556 : BitVec 1 := Scalar.cmpi .eq c8_i32_3540 c0_i32_3541
  let c1_i32_3542 : BitVec 32 := 1#32
  let v4557 : BitVec 32 := Scalar.select v4556 c1_i32_3542 c8_i32_3540
  let v4558 : BitVec 32 := Scalar.remsi v4538 v4557
  let c0_i32_3544 : BitVec 32 := 0#32
  let v4560 : BitVec 1 := Scalar.cmpi .slt v4558 c0_i32_3544
  let c0_i32_3545 : BitVec 32 := 0#32
  let v4561 : BitVec 1 := Scalar.cmpi .slt v4557 c0_i32_3545
  let v4562 : BitVec 1 := Scalar.xori v4560 v4561
  let c0_i32_3543 : BitVec 32 := 0#32
  let v4559 : BitVec 1 := Scalar.cmpi .ne v4558 c0_i32_3543
  let v4563 : BitVec 1 := Scalar.andi v4562 v4559
  let v4564 : BitVec 32 := Scalar.addi v4558 v4557
  let v4565 : BitVec 32 := Scalar.select v4563 v4564 v4558
  let c0_i32_3552 : BitVec 32 := 0#32
  ![v4555.toNat, 0, v4565.toNat, 0]
def k0_cond19 : BitVec 1 :=
  let c2_i32_1165 : BitVec 32 := 2#32
  let c8_i32_1278 : BitVec 32 := 8#32
  let v1825 : BitVec 32 := Scalar.muli c2_i32_1165 c8_i32_1278
  let c2_i32_1279 : BitVec 32 := 2#32
  let v1826 : BitVec 32 := Scalar.addi v1825 c2_i32_1279
  let c3_i32_1280 : BitVec 32 := 3#32
  let v1827 : BitVec 32 := Scalar.addi v1826 c3_i32_1280
  let c32_i32_1281 : BitVec 32 := 32#32
  let v1828 : BitVec 1 := Scalar.cmpi .slt v1827 c32_i32_1281
  let v1829 : BitVec 32 := Scalar.extui v1828
  let c0_i32_1282 : BitVec 32 := 0#32
  let v1830 : BitVec 1 := Scalar.cmpi .ne v1829 c0_i32_1282
  v1830

def k0_off20 : Fin 4 → Nat :=
  let c2_i32_1165 : BitVec 32 := 2#32
  let c8_i32_1278 : BitVec 32 := 8#32
  let v1825 : BitVec 32 := Scalar.muli c2_i32_1165 c8_i32_1278
  let c2_i32_1279 : BitVec 32 := 2#32
  let v1826 : BitVec 32 := Scalar.addi v1825 c2_i32_1279
  let c3_i32_3532 : BitVec 32 := 3#32
  let v4538 : BitVec 32 := Scalar.addi v1826 c3_i32_3532
  let c0_i32_3534 : BitVec 32 := 0#32
  let v4540 : BitVec 1 := Scalar.cmpi .sgt v4538 c0_i32_3534
  let v4541 : BitVec 32 := Scalar.extui v4540
  let c0_i32_3535 : BitVec 32 := 0#32
  let v4542 : BitVec 1 := Scalar.cmpi .slt v4538 c0_i32_3535
  let v4543 : BitVec 32 := Scalar.extui v4542
  let v4544 : BitVec 32 := Scalar.subi v4541 v4543
  let c8_i32_3533 : BitVec 32 := 8#32
  let c0_i32_3536 : BitVec 32 := 0#32
  let v4545 : BitVec 1 := Scalar.cmpi .sgt c8_i32_3533 c0_i32_3536
  let v4546 : BitVec 32 := Scalar.extui v4545
  let c0_i32_3537 : BitVec 32 := 0#32
  let v4547 : BitVec 1 := Scalar.cmpi .slt c8_i32_3533 c0_i32_3537
  let v4548 : BitVec 32 := Scalar.extui v4547
  let v4549 : BitVec 32 := Scalar.subi v4546 v4548
  let v4550 : BitVec 1 := Scalar.cmpi .ne v4544 v4549
  let v4551 : BitVec 32 := Scalar.remsi v4538 c8_i32_3533
  let c0_i32_3538 : BitVec 32 := 0#32
  let v4552 : BitVec 1 := Scalar.cmpi .ne v4551 c0_i32_3538
  let v4553 : BitVec 1 := Scalar.andi v4550 v4552
  let v4539 : BitVec 32 := Scalar.divsi v4538 c8_i32_3533
  let c1_i32_3539 : BitVec 32 := 1#32
  let v4554 : BitVec 32 := Scalar.subi v4539 c1_i32_3539
  let v4555 : BitVec 32 := Scalar.select v4553 v4554 v4539
  let c0_i32_3551 : BitVec 32 := 0#32
  let c8_i32_3540 : BitVec 32 := 8#32
  let c0_i32_3541 : BitVec 32 := 0#32
  let v4556 : BitVec 1 := Scalar.cmpi .eq c8_i32_3540 c0_i32_3541
  let c1_i32_3542 : BitVec 32 := 1#32
  let v4557 : BitVec 32 := Scalar.select v4556 c1_i32_3542 c8_i32_3540
  let v4558 : BitVec 32 := Scalar.remsi v4538 v4557
  let c0_i32_3544 : BitVec 32 := 0#32
  let v4560 : BitVec 1 := Scalar.cmpi .slt v4558 c0_i32_3544
  let c0_i32_3545 : BitVec 32 := 0#32
  let v4561 : BitVec 1 := Scalar.cmpi .slt v4557 c0_i32_3545
  let v4562 : BitVec 1 := Scalar.xori v4560 v4561
  let c0_i32_3543 : BitVec 32 := 0#32
  let v4559 : BitVec 1 := Scalar.cmpi .ne v4558 c0_i32_3543
  let v4563 : BitVec 1 := Scalar.andi v4562 v4559
  let v4564 : BitVec 32 := Scalar.addi v4558 v4557
  let v4565 : BitVec 32 := Scalar.select v4563 v4564 v4558
  let c0_i32_3552 : BitVec 32 := 0#32
  ![v4555.toNat, 0, v4565.toNat, 0]
def k0_cond20 : BitVec 1 :=
  let c2_i32_1165 : BitVec 32 := 2#32
  let c8_i32_1330 : BitVec 32 := 8#32
  let v1906 : BitVec 32 := Scalar.muli c2_i32_1165 c8_i32_1330
  let c3_i32_1331 : BitVec 32 := 3#32
  let v1907 : BitVec 32 := Scalar.addi v1906 c3_i32_1331
  let c3_i32_1332 : BitVec 32 := 3#32
  let v1908 : BitVec 32 := Scalar.addi v1907 c3_i32_1332
  let c32_i32_1333 : BitVec 32 := 32#32
  let v1909 : BitVec 1 := Scalar.cmpi .slt v1908 c32_i32_1333
  let v1910 : BitVec 32 := Scalar.extui v1909
  let c0_i32_1334 : BitVec 32 := 0#32
  let v1911 : BitVec 1 := Scalar.cmpi .ne v1910 c0_i32_1334
  v1911

def k0_off21 : Fin 4 → Nat :=
  let c2_i32_1165 : BitVec 32 := 2#32
  let c8_i32_1330 : BitVec 32 := 8#32
  let v1906 : BitVec 32 := Scalar.muli c2_i32_1165 c8_i32_1330
  let c3_i32_1331 : BitVec 32 := 3#32
  let v1907 : BitVec 32 := Scalar.addi v1906 c3_i32_1331
  let c3_i32_3532 : BitVec 32 := 3#32
  let v4538 : BitVec 32 := Scalar.addi v1907 c3_i32_3532
  let c0_i32_3534 : BitVec 32 := 0#32
  let v4540 : BitVec 1 := Scalar.cmpi .sgt v4538 c0_i32_3534
  let v4541 : BitVec 32 := Scalar.extui v4540
  let c0_i32_3535 : BitVec 32 := 0#32
  let v4542 : BitVec 1 := Scalar.cmpi .slt v4538 c0_i32_3535
  let v4543 : BitVec 32 := Scalar.extui v4542
  let v4544 : BitVec 32 := Scalar.subi v4541 v4543
  let c8_i32_3533 : BitVec 32 := 8#32
  let c0_i32_3536 : BitVec 32 := 0#32
  let v4545 : BitVec 1 := Scalar.cmpi .sgt c8_i32_3533 c0_i32_3536
  let v4546 : BitVec 32 := Scalar.extui v4545
  let c0_i32_3537 : BitVec 32 := 0#32
  let v4547 : BitVec 1 := Scalar.cmpi .slt c8_i32_3533 c0_i32_3537
  let v4548 : BitVec 32 := Scalar.extui v4547
  let v4549 : BitVec 32 := Scalar.subi v4546 v4548
  let v4550 : BitVec 1 := Scalar.cmpi .ne v4544 v4549
  let v4551 : BitVec 32 := Scalar.remsi v4538 c8_i32_3533
  let c0_i32_3538 : BitVec 32 := 0#32
  let v4552 : BitVec 1 := Scalar.cmpi .ne v4551 c0_i32_3538
  let v4553 : BitVec 1 := Scalar.andi v4550 v4552
  let v4539 : BitVec 32 := Scalar.divsi v4538 c8_i32_3533
  let c1_i32_3539 : BitVec 32 := 1#32
  let v4554 : BitVec 32 := Scalar.subi v4539 c1_i32_3539
  let v4555 : BitVec 32 := Scalar.select v4553 v4554 v4539
  let c0_i32_3551 : BitVec 32 := 0#32
  let c8_i32_3540 : BitVec 32 := 8#32
  let c0_i32_3541 : BitVec 32 := 0#32
  let v4556 : BitVec 1 := Scalar.cmpi .eq c8_i32_3540 c0_i32_3541
  let c1_i32_3542 : BitVec 32 := 1#32
  let v4557 : BitVec 32 := Scalar.select v4556 c1_i32_3542 c8_i32_3540
  let v4558 : BitVec 32 := Scalar.remsi v4538 v4557
  let c0_i32_3544 : BitVec 32 := 0#32
  let v4560 : BitVec 1 := Scalar.cmpi .slt v4558 c0_i32_3544
  let c0_i32_3545 : BitVec 32 := 0#32
  let v4561 : BitVec 1 := Scalar.cmpi .slt v4557 c0_i32_3545
  let v4562 : BitVec 1 := Scalar.xori v4560 v4561
  let c0_i32_3543 : BitVec 32 := 0#32
  let v4559 : BitVec 1 := Scalar.cmpi .ne v4558 c0_i32_3543
  let v4563 : BitVec 1 := Scalar.andi v4562 v4559
  let v4564 : BitVec 32 := Scalar.addi v4558 v4557
  let v4565 : BitVec 32 := Scalar.select v4563 v4564 v4558
  let c0_i32_3552 : BitVec 32 := 0#32
  ![v4555.toNat, 0, v4565.toNat, 0]
def k0_cond21 : BitVec 1 :=
  let c2_i32_1165 : BitVec 32 := 2#32
  let c8_i32_1382 : BitVec 32 := 8#32
  let v1987 : BitVec 32 := Scalar.muli c2_i32_1165 c8_i32_1382
  let c4_i32_1383 : BitVec 32 := 4#32
  let v1988 : BitVec 32 := Scalar.addi v1987 c4_i32_1383
  let c3_i32_1384 : BitVec 32 := 3#32
  let v1989 : BitVec 32 := Scalar.addi v1988 c3_i32_1384
  let c32_i32_1385 : BitVec 32 := 32#32
  let v1990 : BitVec 1 := Scalar.cmpi .slt v1989 c32_i32_1385
  let v1991 : BitVec 32 := Scalar.extui v1990
  let c0_i32_1386 : BitVec 32 := 0#32
  let v1992 : BitVec 1 := Scalar.cmpi .ne v1991 c0_i32_1386
  v1992

def k0_off22 : Fin 4 → Nat :=
  let c2_i32_1165 : BitVec 32 := 2#32
  let c8_i32_1382 : BitVec 32 := 8#32
  let v1987 : BitVec 32 := Scalar.muli c2_i32_1165 c8_i32_1382
  let c4_i32_1383 : BitVec 32 := 4#32
  let v1988 : BitVec 32 := Scalar.addi v1987 c4_i32_1383
  let c3_i32_3532 : BitVec 32 := 3#32
  let v4538 : BitVec 32 := Scalar.addi v1988 c3_i32_3532
  let c0_i32_3534 : BitVec 32 := 0#32
  let v4540 : BitVec 1 := Scalar.cmpi .sgt v4538 c0_i32_3534
  let v4541 : BitVec 32 := Scalar.extui v4540
  let c0_i32_3535 : BitVec 32 := 0#32
  let v4542 : BitVec 1 := Scalar.cmpi .slt v4538 c0_i32_3535
  let v4543 : BitVec 32 := Scalar.extui v4542
  let v4544 : BitVec 32 := Scalar.subi v4541 v4543
  let c8_i32_3533 : BitVec 32 := 8#32
  let c0_i32_3536 : BitVec 32 := 0#32
  let v4545 : BitVec 1 := Scalar.cmpi .sgt c8_i32_3533 c0_i32_3536
  let v4546 : BitVec 32 := Scalar.extui v4545
  let c0_i32_3537 : BitVec 32 := 0#32
  let v4547 : BitVec 1 := Scalar.cmpi .slt c8_i32_3533 c0_i32_3537
  let v4548 : BitVec 32 := Scalar.extui v4547
  let v4549 : BitVec 32 := Scalar.subi v4546 v4548
  let v4550 : BitVec 1 := Scalar.cmpi .ne v4544 v4549
  let v4551 : BitVec 32 := Scalar.remsi v4538 c8_i32_3533
  let c0_i32_3538 : BitVec 32 := 0#32
  let v4552 : BitVec 1 := Scalar.cmpi .ne v4551 c0_i32_3538
  let v4553 : BitVec 1 := Scalar.andi v4550 v4552
  let v4539 : BitVec 32 := Scalar.divsi v4538 c8_i32_3533
  let c1_i32_3539 : BitVec 32 := 1#32
  let v4554 : BitVec 32 := Scalar.subi v4539 c1_i32_3539
  let v4555 : BitVec 32 := Scalar.select v4553 v4554 v4539
  let c0_i32_3551 : BitVec 32 := 0#32
  let c8_i32_3540 : BitVec 32 := 8#32
  let c0_i32_3541 : BitVec 32 := 0#32
  let v4556 : BitVec 1 := Scalar.cmpi .eq c8_i32_3540 c0_i32_3541
  let c1_i32_3542 : BitVec 32 := 1#32
  let v4557 : BitVec 32 := Scalar.select v4556 c1_i32_3542 c8_i32_3540
  let v4558 : BitVec 32 := Scalar.remsi v4538 v4557
  let c0_i32_3544 : BitVec 32 := 0#32
  let v4560 : BitVec 1 := Scalar.cmpi .slt v4558 c0_i32_3544
  let c0_i32_3545 : BitVec 32 := 0#32
  let v4561 : BitVec 1 := Scalar.cmpi .slt v4557 c0_i32_3545
  let v4562 : BitVec 1 := Scalar.xori v4560 v4561
  let c0_i32_3543 : BitVec 32 := 0#32
  let v4559 : BitVec 1 := Scalar.cmpi .ne v4558 c0_i32_3543
  let v4563 : BitVec 1 := Scalar.andi v4562 v4559
  let v4564 : BitVec 32 := Scalar.addi v4558 v4557
  let v4565 : BitVec 32 := Scalar.select v4563 v4564 v4558
  let c0_i32_3552 : BitVec 32 := 0#32
  ![v4555.toNat, 0, v4565.toNat, 0]
def k0_cond22 : BitVec 1 :=
  let c2_i32_1165 : BitVec 32 := 2#32
  let c8_i32_1434 : BitVec 32 := 8#32
  let v2068 : BitVec 32 := Scalar.muli c2_i32_1165 c8_i32_1434
  let c5_i32_1435 : BitVec 32 := 5#32
  let v2069 : BitVec 32 := Scalar.addi v2068 c5_i32_1435
  let c3_i32_1436 : BitVec 32 := 3#32
  let v2070 : BitVec 32 := Scalar.addi v2069 c3_i32_1436
  let c32_i32_1437 : BitVec 32 := 32#32
  let v2071 : BitVec 1 := Scalar.cmpi .slt v2070 c32_i32_1437
  let v2072 : BitVec 32 := Scalar.extui v2071
  let c0_i32_1438 : BitVec 32 := 0#32
  let v2073 : BitVec 1 := Scalar.cmpi .ne v2072 c0_i32_1438
  v2073

def k0_off23 : Fin 4 → Nat :=
  let c2_i32_1165 : BitVec 32 := 2#32
  let c8_i32_1434 : BitVec 32 := 8#32
  let v2068 : BitVec 32 := Scalar.muli c2_i32_1165 c8_i32_1434
  let c5_i32_1435 : BitVec 32 := 5#32
  let v2069 : BitVec 32 := Scalar.addi v2068 c5_i32_1435
  let c3_i32_3532 : BitVec 32 := 3#32
  let v4538 : BitVec 32 := Scalar.addi v2069 c3_i32_3532
  let c0_i32_3534 : BitVec 32 := 0#32
  let v4540 : BitVec 1 := Scalar.cmpi .sgt v4538 c0_i32_3534
  let v4541 : BitVec 32 := Scalar.extui v4540
  let c0_i32_3535 : BitVec 32 := 0#32
  let v4542 : BitVec 1 := Scalar.cmpi .slt v4538 c0_i32_3535
  let v4543 : BitVec 32 := Scalar.extui v4542
  let v4544 : BitVec 32 := Scalar.subi v4541 v4543
  let c8_i32_3533 : BitVec 32 := 8#32
  let c0_i32_3536 : BitVec 32 := 0#32
  let v4545 : BitVec 1 := Scalar.cmpi .sgt c8_i32_3533 c0_i32_3536
  let v4546 : BitVec 32 := Scalar.extui v4545
  let c0_i32_3537 : BitVec 32 := 0#32
  let v4547 : BitVec 1 := Scalar.cmpi .slt c8_i32_3533 c0_i32_3537
  let v4548 : BitVec 32 := Scalar.extui v4547
  let v4549 : BitVec 32 := Scalar.subi v4546 v4548
  let v4550 : BitVec 1 := Scalar.cmpi .ne v4544 v4549
  let v4551 : BitVec 32 := Scalar.remsi v4538 c8_i32_3533
  let c0_i32_3538 : BitVec 32 := 0#32
  let v4552 : BitVec 1 := Scalar.cmpi .ne v4551 c0_i32_3538
  let v4553 : BitVec 1 := Scalar.andi v4550 v4552
  let v4539 : BitVec 32 := Scalar.divsi v4538 c8_i32_3533
  let c1_i32_3539 : BitVec 32 := 1#32
  let v4554 : BitVec 32 := Scalar.subi v4539 c1_i32_3539
  let v4555 : BitVec 32 := Scalar.select v4553 v4554 v4539
  let c0_i32_3551 : BitVec 32 := 0#32
  let c8_i32_3540 : BitVec 32 := 8#32
  let c0_i32_3541 : BitVec 32 := 0#32
  let v4556 : BitVec 1 := Scalar.cmpi .eq c8_i32_3540 c0_i32_3541
  let c1_i32_3542 : BitVec 32 := 1#32
  let v4557 : BitVec 32 := Scalar.select v4556 c1_i32_3542 c8_i32_3540
  let v4558 : BitVec 32 := Scalar.remsi v4538 v4557
  let c0_i32_3544 : BitVec 32 := 0#32
  let v4560 : BitVec 1 := Scalar.cmpi .slt v4558 c0_i32_3544
  let c0_i32_3545 : BitVec 32 := 0#32
  let v4561 : BitVec 1 := Scalar.cmpi .slt v4557 c0_i32_3545
  let v4562 : BitVec 1 := Scalar.xori v4560 v4561
  let c0_i32_3543 : BitVec 32 := 0#32
  let v4559 : BitVec 1 := Scalar.cmpi .ne v4558 c0_i32_3543
  let v4563 : BitVec 1 := Scalar.andi v4562 v4559
  let v4564 : BitVec 32 := Scalar.addi v4558 v4557
  let v4565 : BitVec 32 := Scalar.select v4563 v4564 v4558
  let c0_i32_3552 : BitVec 32 := 0#32
  ![v4555.toNat, 0, v4565.toNat, 0]
def k0_cond23 : BitVec 1 :=
  let c2_i32_1165 : BitVec 32 := 2#32
  let c8_i32_1486 : BitVec 32 := 8#32
  let v2149 : BitVec 32 := Scalar.muli c2_i32_1165 c8_i32_1486
  let c6_i32_1487 : BitVec 32 := 6#32
  let v2150 : BitVec 32 := Scalar.addi v2149 c6_i32_1487
  let c3_i32_1488 : BitVec 32 := 3#32
  let v2151 : BitVec 32 := Scalar.addi v2150 c3_i32_1488
  let c32_i32_1489 : BitVec 32 := 32#32
  let v2152 : BitVec 1 := Scalar.cmpi .slt v2151 c32_i32_1489
  let v2153 : BitVec 32 := Scalar.extui v2152
  let c0_i32_1490 : BitVec 32 := 0#32
  let v2154 : BitVec 1 := Scalar.cmpi .ne v2153 c0_i32_1490
  v2154

def k0_off24 : Fin 4 → Nat :=
  let c2_i32_1165 : BitVec 32 := 2#32
  let c8_i32_1486 : BitVec 32 := 8#32
  let v2149 : BitVec 32 := Scalar.muli c2_i32_1165 c8_i32_1486
  let c6_i32_1487 : BitVec 32 := 6#32
  let v2150 : BitVec 32 := Scalar.addi v2149 c6_i32_1487
  let c3_i32_3532 : BitVec 32 := 3#32
  let v4538 : BitVec 32 := Scalar.addi v2150 c3_i32_3532
  let c0_i32_3534 : BitVec 32 := 0#32
  let v4540 : BitVec 1 := Scalar.cmpi .sgt v4538 c0_i32_3534
  let v4541 : BitVec 32 := Scalar.extui v4540
  let c0_i32_3535 : BitVec 32 := 0#32
  let v4542 : BitVec 1 := Scalar.cmpi .slt v4538 c0_i32_3535
  let v4543 : BitVec 32 := Scalar.extui v4542
  let v4544 : BitVec 32 := Scalar.subi v4541 v4543
  let c8_i32_3533 : BitVec 32 := 8#32
  let c0_i32_3536 : BitVec 32 := 0#32
  let v4545 : BitVec 1 := Scalar.cmpi .sgt c8_i32_3533 c0_i32_3536
  let v4546 : BitVec 32 := Scalar.extui v4545
  let c0_i32_3537 : BitVec 32 := 0#32
  let v4547 : BitVec 1 := Scalar.cmpi .slt c8_i32_3533 c0_i32_3537
  let v4548 : BitVec 32 := Scalar.extui v4547
  let v4549 : BitVec 32 := Scalar.subi v4546 v4548
  let v4550 : BitVec 1 := Scalar.cmpi .ne v4544 v4549
  let v4551 : BitVec 32 := Scalar.remsi v4538 c8_i32_3533
  let c0_i32_3538 : BitVec 32 := 0#32
  let v4552 : BitVec 1 := Scalar.cmpi .ne v4551 c0_i32_3538
  let v4553 : BitVec 1 := Scalar.andi v4550 v4552
  let v4539 : BitVec 32 := Scalar.divsi v4538 c8_i32_3533
  let c1_i32_3539 : BitVec 32 := 1#32
  let v4554 : BitVec 32 := Scalar.subi v4539 c1_i32_3539
  let v4555 : BitVec 32 := Scalar.select v4553 v4554 v4539
  let c0_i32_3551 : BitVec 32 := 0#32
  let c8_i32_3540 : BitVec 32 := 8#32
  let c0_i32_3541 : BitVec 32 := 0#32
  let v4556 : BitVec 1 := Scalar.cmpi .eq c8_i32_3540 c0_i32_3541
  let c1_i32_3542 : BitVec 32 := 1#32
  let v4557 : BitVec 32 := Scalar.select v4556 c1_i32_3542 c8_i32_3540
  let v4558 : BitVec 32 := Scalar.remsi v4538 v4557
  let c0_i32_3544 : BitVec 32 := 0#32
  let v4560 : BitVec 1 := Scalar.cmpi .slt v4558 c0_i32_3544
  let c0_i32_3545 : BitVec 32 := 0#32
  let v4561 : BitVec 1 := Scalar.cmpi .slt v4557 c0_i32_3545
  let v4562 : BitVec 1 := Scalar.xori v4560 v4561
  let c0_i32_3543 : BitVec 32 := 0#32
  let v4559 : BitVec 1 := Scalar.cmpi .ne v4558 c0_i32_3543
  let v4563 : BitVec 1 := Scalar.andi v4562 v4559
  let v4564 : BitVec 32 := Scalar.addi v4558 v4557
  let v4565 : BitVec 32 := Scalar.select v4563 v4564 v4558
  let c0_i32_3552 : BitVec 32 := 0#32
  ![v4555.toNat, 0, v4565.toNat, 0]
def k0_cond24 : BitVec 1 :=
  let c2_i32_1165 : BitVec 32 := 2#32
  let c8_i32_1538 : BitVec 32 := 8#32
  let v2230 : BitVec 32 := Scalar.muli c2_i32_1165 c8_i32_1538
  let c7_i32_1539 : BitVec 32 := 7#32
  let v2231 : BitVec 32 := Scalar.addi v2230 c7_i32_1539
  let c3_i32_1540 : BitVec 32 := 3#32
  let v2232 : BitVec 32 := Scalar.addi v2231 c3_i32_1540
  let c32_i32_1541 : BitVec 32 := 32#32
  let v2233 : BitVec 1 := Scalar.cmpi .slt v2232 c32_i32_1541
  let v2234 : BitVec 32 := Scalar.extui v2233
  let c0_i32_1542 : BitVec 32 := 0#32
  let v2235 : BitVec 1 := Scalar.cmpi .ne v2234 c0_i32_1542
  v2235

def k0_off25 : Fin 4 → Nat :=
  let c2_i32_1165 : BitVec 32 := 2#32
  let c8_i32_1538 : BitVec 32 := 8#32
  let v2230 : BitVec 32 := Scalar.muli c2_i32_1165 c8_i32_1538
  let c7_i32_1539 : BitVec 32 := 7#32
  let v2231 : BitVec 32 := Scalar.addi v2230 c7_i32_1539
  let c3_i32_3532 : BitVec 32 := 3#32
  let v4538 : BitVec 32 := Scalar.addi v2231 c3_i32_3532
  let c0_i32_3534 : BitVec 32 := 0#32
  let v4540 : BitVec 1 := Scalar.cmpi .sgt v4538 c0_i32_3534
  let v4541 : BitVec 32 := Scalar.extui v4540
  let c0_i32_3535 : BitVec 32 := 0#32
  let v4542 : BitVec 1 := Scalar.cmpi .slt v4538 c0_i32_3535
  let v4543 : BitVec 32 := Scalar.extui v4542
  let v4544 : BitVec 32 := Scalar.subi v4541 v4543
  let c8_i32_3533 : BitVec 32 := 8#32
  let c0_i32_3536 : BitVec 32 := 0#32
  let v4545 : BitVec 1 := Scalar.cmpi .sgt c8_i32_3533 c0_i32_3536
  let v4546 : BitVec 32 := Scalar.extui v4545
  let c0_i32_3537 : BitVec 32 := 0#32
  let v4547 : BitVec 1 := Scalar.cmpi .slt c8_i32_3533 c0_i32_3537
  let v4548 : BitVec 32 := Scalar.extui v4547
  let v4549 : BitVec 32 := Scalar.subi v4546 v4548
  let v4550 : BitVec 1 := Scalar.cmpi .ne v4544 v4549
  let v4551 : BitVec 32 := Scalar.remsi v4538 c8_i32_3533
  let c0_i32_3538 : BitVec 32 := 0#32
  let v4552 : BitVec 1 := Scalar.cmpi .ne v4551 c0_i32_3538
  let v4553 : BitVec 1 := Scalar.andi v4550 v4552
  let v4539 : BitVec 32 := Scalar.divsi v4538 c8_i32_3533
  let c1_i32_3539 : BitVec 32 := 1#32
  let v4554 : BitVec 32 := Scalar.subi v4539 c1_i32_3539
  let v4555 : BitVec 32 := Scalar.select v4553 v4554 v4539
  let c0_i32_3551 : BitVec 32 := 0#32
  let c8_i32_3540 : BitVec 32 := 8#32
  let c0_i32_3541 : BitVec 32 := 0#32
  let v4556 : BitVec 1 := Scalar.cmpi .eq c8_i32_3540 c0_i32_3541
  let c1_i32_3542 : BitVec 32 := 1#32
  let v4557 : BitVec 32 := Scalar.select v4556 c1_i32_3542 c8_i32_3540
  let v4558 : BitVec 32 := Scalar.remsi v4538 v4557
  let c0_i32_3544 : BitVec 32 := 0#32
  let v4560 : BitVec 1 := Scalar.cmpi .slt v4558 c0_i32_3544
  let c0_i32_3545 : BitVec 32 := 0#32
  let v4561 : BitVec 1 := Scalar.cmpi .slt v4557 c0_i32_3545
  let v4562 : BitVec 1 := Scalar.xori v4560 v4561
  let c0_i32_3543 : BitVec 32 := 0#32
  let v4559 : BitVec 1 := Scalar.cmpi .ne v4558 c0_i32_3543
  let v4563 : BitVec 1 := Scalar.andi v4562 v4559
  let v4564 : BitVec 32 := Scalar.addi v4558 v4557
  let v4565 : BitVec 32 := Scalar.select v4563 v4564 v4558
  let c0_i32_3552 : BitVec 32 := 0#32
  ![v4555.toNat, 0, v4565.toNat, 0]
def k0_dev9 (d0 : Dev nD) : Nat :=
  let c0_i32_1595 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_1594 : BitVec 32 := 1#32
  let v2311 : BitVec 32 := Scalar.muli v3 c1_i32_1594
  let v2312 : BitVec 32 := Scalar.addi c0_i32_1595 v2311
  v2312.toNat
def k0_dev10 (d0 : Dev nD) : Nat :=
  let c0_i32_1606 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_1605 : BitVec 32 := 1#32
  let v2320 : BitVec 32 := Scalar.muli v3 c1_i32_1605
  let v2321 : BitVec 32 := Scalar.addi c0_i32_1606 v2320
  v2321.toNat
def k0_dev11 (d0 : Dev nD) : Nat :=
  let c0_i32_1829 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_1828 : BitVec 32 := 1#32
  let v2551 : BitVec 32 := Scalar.muli v4 c1_i32_1828
  let v2552 : BitVec 32 := Scalar.addi c0_i32_1829 v2551
  v2552.toNat
def k0_dev12 (d0 : Dev nD) : Nat :=
  let c0_i32_1839 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_1838 : BitVec 32 := 1#32
  let v2560 : BitVec 32 := Scalar.muli v4 c1_i32_1838
  let v2561 : BitVec 32 := Scalar.addi c0_i32_1839 v2560
  v2561.toNat
def k0_cond25 : BitVec 1 :=
  let c3_i32_1846 : BitVec 32 := 3#32
  let c8_i32_1855 : BitVec 32 := 8#32
  let v2582 : BitVec 32 := Scalar.muli c3_i32_1846 c8_i32_1855
  let c0_i32_1856 : BitVec 32 := 0#32
  let v2583 : BitVec 32 := Scalar.addi v2582 c0_i32_1856
  let c3_i32_1857 : BitVec 32 := 3#32
  let v2584 : BitVec 32 := Scalar.addi v2583 c3_i32_1857
  let c32_i32_1858 : BitVec 32 := 32#32
  let v2585 : BitVec 1 := Scalar.cmpi .slt v2584 c32_i32_1858
  let v2586 : BitVec 32 := Scalar.extui v2585
  let c0_i32_1859 : BitVec 32 := 0#32
  let v2587 : BitVec 1 := Scalar.cmpi .ne v2586 c0_i32_1859
  v2587

def k0_off26 : Fin 4 → Nat :=
  let c3_i32_1846 : BitVec 32 := 3#32
  let c8_i32_1855 : BitVec 32 := 8#32
  let v2582 : BitVec 32 := Scalar.muli c3_i32_1846 c8_i32_1855
  let c0_i32_1856 : BitVec 32 := 0#32
  let v2583 : BitVec 32 := Scalar.addi v2582 c0_i32_1856
  let c3_i32_3532 : BitVec 32 := 3#32
  let v4538 : BitVec 32 := Scalar.addi v2583 c3_i32_3532
  let c0_i32_3534 : BitVec 32 := 0#32
  let v4540 : BitVec 1 := Scalar.cmpi .sgt v4538 c0_i32_3534
  let v4541 : BitVec 32 := Scalar.extui v4540
  let c0_i32_3535 : BitVec 32 := 0#32
  let v4542 : BitVec 1 := Scalar.cmpi .slt v4538 c0_i32_3535
  let v4543 : BitVec 32 := Scalar.extui v4542
  let v4544 : BitVec 32 := Scalar.subi v4541 v4543
  let c8_i32_3533 : BitVec 32 := 8#32
  let c0_i32_3536 : BitVec 32 := 0#32
  let v4545 : BitVec 1 := Scalar.cmpi .sgt c8_i32_3533 c0_i32_3536
  let v4546 : BitVec 32 := Scalar.extui v4545
  let c0_i32_3537 : BitVec 32 := 0#32
  let v4547 : BitVec 1 := Scalar.cmpi .slt c8_i32_3533 c0_i32_3537
  let v4548 : BitVec 32 := Scalar.extui v4547
  let v4549 : BitVec 32 := Scalar.subi v4546 v4548
  let v4550 : BitVec 1 := Scalar.cmpi .ne v4544 v4549
  let v4551 : BitVec 32 := Scalar.remsi v4538 c8_i32_3533
  let c0_i32_3538 : BitVec 32 := 0#32
  let v4552 : BitVec 1 := Scalar.cmpi .ne v4551 c0_i32_3538
  let v4553 : BitVec 1 := Scalar.andi v4550 v4552
  let v4539 : BitVec 32 := Scalar.divsi v4538 c8_i32_3533
  let c1_i32_3539 : BitVec 32 := 1#32
  let v4554 : BitVec 32 := Scalar.subi v4539 c1_i32_3539
  let v4555 : BitVec 32 := Scalar.select v4553 v4554 v4539
  let c0_i32_3551 : BitVec 32 := 0#32
  let c8_i32_3540 : BitVec 32 := 8#32
  let c0_i32_3541 : BitVec 32 := 0#32
  let v4556 : BitVec 1 := Scalar.cmpi .eq c8_i32_3540 c0_i32_3541
  let c1_i32_3542 : BitVec 32 := 1#32
  let v4557 : BitVec 32 := Scalar.select v4556 c1_i32_3542 c8_i32_3540
  let v4558 : BitVec 32 := Scalar.remsi v4538 v4557
  let c0_i32_3544 : BitVec 32 := 0#32
  let v4560 : BitVec 1 := Scalar.cmpi .slt v4558 c0_i32_3544
  let c0_i32_3545 : BitVec 32 := 0#32
  let v4561 : BitVec 1 := Scalar.cmpi .slt v4557 c0_i32_3545
  let v4562 : BitVec 1 := Scalar.xori v4560 v4561
  let c0_i32_3543 : BitVec 32 := 0#32
  let v4559 : BitVec 1 := Scalar.cmpi .ne v4558 c0_i32_3543
  let v4563 : BitVec 1 := Scalar.andi v4562 v4559
  let v4564 : BitVec 32 := Scalar.addi v4558 v4557
  let v4565 : BitVec 32 := Scalar.select v4563 v4564 v4558
  let c0_i32_3552 : BitVec 32 := 0#32
  ![v4555.toNat, 0, v4565.toNat, 0]
def k0_cond26 : BitVec 1 :=
  let c3_i32_1846 : BitVec 32 := 3#32
  let c8_i32_1907 : BitVec 32 := 8#32
  let v2663 : BitVec 32 := Scalar.muli c3_i32_1846 c8_i32_1907
  let c1_i32_1908 : BitVec 32 := 1#32
  let v2664 : BitVec 32 := Scalar.addi v2663 c1_i32_1908
  let c3_i32_1909 : BitVec 32 := 3#32
  let v2665 : BitVec 32 := Scalar.addi v2664 c3_i32_1909
  let c32_i32_1910 : BitVec 32 := 32#32
  let v2666 : BitVec 1 := Scalar.cmpi .slt v2665 c32_i32_1910
  let v2667 : BitVec 32 := Scalar.extui v2666
  let c0_i32_1911 : BitVec 32 := 0#32
  let v2668 : BitVec 1 := Scalar.cmpi .ne v2667 c0_i32_1911
  v2668

def k0_off27 : Fin 4 → Nat :=
  let c3_i32_1846 : BitVec 32 := 3#32
  let c8_i32_1907 : BitVec 32 := 8#32
  let v2663 : BitVec 32 := Scalar.muli c3_i32_1846 c8_i32_1907
  let c1_i32_1908 : BitVec 32 := 1#32
  let v2664 : BitVec 32 := Scalar.addi v2663 c1_i32_1908
  let c3_i32_3532 : BitVec 32 := 3#32
  let v4538 : BitVec 32 := Scalar.addi v2664 c3_i32_3532
  let c0_i32_3534 : BitVec 32 := 0#32
  let v4540 : BitVec 1 := Scalar.cmpi .sgt v4538 c0_i32_3534
  let v4541 : BitVec 32 := Scalar.extui v4540
  let c0_i32_3535 : BitVec 32 := 0#32
  let v4542 : BitVec 1 := Scalar.cmpi .slt v4538 c0_i32_3535
  let v4543 : BitVec 32 := Scalar.extui v4542
  let v4544 : BitVec 32 := Scalar.subi v4541 v4543
  let c8_i32_3533 : BitVec 32 := 8#32
  let c0_i32_3536 : BitVec 32 := 0#32
  let v4545 : BitVec 1 := Scalar.cmpi .sgt c8_i32_3533 c0_i32_3536
  let v4546 : BitVec 32 := Scalar.extui v4545
  let c0_i32_3537 : BitVec 32 := 0#32
  let v4547 : BitVec 1 := Scalar.cmpi .slt c8_i32_3533 c0_i32_3537
  let v4548 : BitVec 32 := Scalar.extui v4547
  let v4549 : BitVec 32 := Scalar.subi v4546 v4548
  let v4550 : BitVec 1 := Scalar.cmpi .ne v4544 v4549
  let v4551 : BitVec 32 := Scalar.remsi v4538 c8_i32_3533
  let c0_i32_3538 : BitVec 32 := 0#32
  let v4552 : BitVec 1 := Scalar.cmpi .ne v4551 c0_i32_3538
  let v4553 : BitVec 1 := Scalar.andi v4550 v4552
  let v4539 : BitVec 32 := Scalar.divsi v4538 c8_i32_3533
  let c1_i32_3539 : BitVec 32 := 1#32
  let v4554 : BitVec 32 := Scalar.subi v4539 c1_i32_3539
  let v4555 : BitVec 32 := Scalar.select v4553 v4554 v4539
  let c0_i32_3551 : BitVec 32 := 0#32
  let c8_i32_3540 : BitVec 32 := 8#32
  let c0_i32_3541 : BitVec 32 := 0#32
  let v4556 : BitVec 1 := Scalar.cmpi .eq c8_i32_3540 c0_i32_3541
  let c1_i32_3542 : BitVec 32 := 1#32
  let v4557 : BitVec 32 := Scalar.select v4556 c1_i32_3542 c8_i32_3540
  let v4558 : BitVec 32 := Scalar.remsi v4538 v4557
  let c0_i32_3544 : BitVec 32 := 0#32
  let v4560 : BitVec 1 := Scalar.cmpi .slt v4558 c0_i32_3544
  let c0_i32_3545 : BitVec 32 := 0#32
  let v4561 : BitVec 1 := Scalar.cmpi .slt v4557 c0_i32_3545
  let v4562 : BitVec 1 := Scalar.xori v4560 v4561
  let c0_i32_3543 : BitVec 32 := 0#32
  let v4559 : BitVec 1 := Scalar.cmpi .ne v4558 c0_i32_3543
  let v4563 : BitVec 1 := Scalar.andi v4562 v4559
  let v4564 : BitVec 32 := Scalar.addi v4558 v4557
  let v4565 : BitVec 32 := Scalar.select v4563 v4564 v4558
  let c0_i32_3552 : BitVec 32 := 0#32
  ![v4555.toNat, 0, v4565.toNat, 0]
def k0_cond27 : BitVec 1 :=
  let c3_i32_1846 : BitVec 32 := 3#32
  let c8_i32_1959 : BitVec 32 := 8#32
  let v2744 : BitVec 32 := Scalar.muli c3_i32_1846 c8_i32_1959
  let c2_i32_1960 : BitVec 32 := 2#32
  let v2745 : BitVec 32 := Scalar.addi v2744 c2_i32_1960
  let c3_i32_1961 : BitVec 32 := 3#32
  let v2746 : BitVec 32 := Scalar.addi v2745 c3_i32_1961
  let c32_i32_1962 : BitVec 32 := 32#32
  let v2747 : BitVec 1 := Scalar.cmpi .slt v2746 c32_i32_1962
  let v2748 : BitVec 32 := Scalar.extui v2747
  let c0_i32_1963 : BitVec 32 := 0#32
  let v2749 : BitVec 1 := Scalar.cmpi .ne v2748 c0_i32_1963
  v2749

def k0_off28 : Fin 4 → Nat :=
  let c3_i32_1846 : BitVec 32 := 3#32
  let c8_i32_1959 : BitVec 32 := 8#32
  let v2744 : BitVec 32 := Scalar.muli c3_i32_1846 c8_i32_1959
  let c2_i32_1960 : BitVec 32 := 2#32
  let v2745 : BitVec 32 := Scalar.addi v2744 c2_i32_1960
  let c3_i32_3532 : BitVec 32 := 3#32
  let v4538 : BitVec 32 := Scalar.addi v2745 c3_i32_3532
  let c0_i32_3534 : BitVec 32 := 0#32
  let v4540 : BitVec 1 := Scalar.cmpi .sgt v4538 c0_i32_3534
  let v4541 : BitVec 32 := Scalar.extui v4540
  let c0_i32_3535 : BitVec 32 := 0#32
  let v4542 : BitVec 1 := Scalar.cmpi .slt v4538 c0_i32_3535
  let v4543 : BitVec 32 := Scalar.extui v4542
  let v4544 : BitVec 32 := Scalar.subi v4541 v4543
  let c8_i32_3533 : BitVec 32 := 8#32
  let c0_i32_3536 : BitVec 32 := 0#32
  let v4545 : BitVec 1 := Scalar.cmpi .sgt c8_i32_3533 c0_i32_3536
  let v4546 : BitVec 32 := Scalar.extui v4545
  let c0_i32_3537 : BitVec 32 := 0#32
  let v4547 : BitVec 1 := Scalar.cmpi .slt c8_i32_3533 c0_i32_3537
  let v4548 : BitVec 32 := Scalar.extui v4547
  let v4549 : BitVec 32 := Scalar.subi v4546 v4548
  let v4550 : BitVec 1 := Scalar.cmpi .ne v4544 v4549
  let v4551 : BitVec 32 := Scalar.remsi v4538 c8_i32_3533
  let c0_i32_3538 : BitVec 32 := 0#32
  let v4552 : BitVec 1 := Scalar.cmpi .ne v4551 c0_i32_3538
  let v4553 : BitVec 1 := Scalar.andi v4550 v4552
  let v4539 : BitVec 32 := Scalar.divsi v4538 c8_i32_3533
  let c1_i32_3539 : BitVec 32 := 1#32
  let v4554 : BitVec 32 := Scalar.subi v4539 c1_i32_3539
  let v4555 : BitVec 32 := Scalar.select v4553 v4554 v4539
  let c0_i32_3551 : BitVec 32 := 0#32
  let c8_i32_3540 : BitVec 32 := 8#32
  let c0_i32_3541 : BitVec 32 := 0#32
  let v4556 : BitVec 1 := Scalar.cmpi .eq c8_i32_3540 c0_i32_3541
  let c1_i32_3542 : BitVec 32 := 1#32
  let v4557 : BitVec 32 := Scalar.select v4556 c1_i32_3542 c8_i32_3540
  let v4558 : BitVec 32 := Scalar.remsi v4538 v4557
  let c0_i32_3544 : BitVec 32 := 0#32
  let v4560 : BitVec 1 := Scalar.cmpi .slt v4558 c0_i32_3544
  let c0_i32_3545 : BitVec 32 := 0#32
  let v4561 : BitVec 1 := Scalar.cmpi .slt v4557 c0_i32_3545
  let v4562 : BitVec 1 := Scalar.xori v4560 v4561
  let c0_i32_3543 : BitVec 32 := 0#32
  let v4559 : BitVec 1 := Scalar.cmpi .ne v4558 c0_i32_3543
  let v4563 : BitVec 1 := Scalar.andi v4562 v4559
  let v4564 : BitVec 32 := Scalar.addi v4558 v4557
  let v4565 : BitVec 32 := Scalar.select v4563 v4564 v4558
  let c0_i32_3552 : BitVec 32 := 0#32
  ![v4555.toNat, 0, v4565.toNat, 0]
def k0_cond28 : BitVec 1 :=
  let c3_i32_1846 : BitVec 32 := 3#32
  let c8_i32_2011 : BitVec 32 := 8#32
  let v2825 : BitVec 32 := Scalar.muli c3_i32_1846 c8_i32_2011
  let c3_i32_2012 : BitVec 32 := 3#32
  let v2826 : BitVec 32 := Scalar.addi v2825 c3_i32_2012
  let c3_i32_2013 : BitVec 32 := 3#32
  let v2827 : BitVec 32 := Scalar.addi v2826 c3_i32_2013
  let c32_i32_2014 : BitVec 32 := 32#32
  let v2828 : BitVec 1 := Scalar.cmpi .slt v2827 c32_i32_2014
  let v2829 : BitVec 32 := Scalar.extui v2828
  let c0_i32_2015 : BitVec 32 := 0#32
  let v2830 : BitVec 1 := Scalar.cmpi .ne v2829 c0_i32_2015
  v2830

def k0_off29 : Fin 4 → Nat :=
  let c3_i32_1846 : BitVec 32 := 3#32
  let c8_i32_2011 : BitVec 32 := 8#32
  let v2825 : BitVec 32 := Scalar.muli c3_i32_1846 c8_i32_2011
  let c3_i32_2012 : BitVec 32 := 3#32
  let v2826 : BitVec 32 := Scalar.addi v2825 c3_i32_2012
  let c3_i32_3532 : BitVec 32 := 3#32
  let v4538 : BitVec 32 := Scalar.addi v2826 c3_i32_3532
  let c0_i32_3534 : BitVec 32 := 0#32
  let v4540 : BitVec 1 := Scalar.cmpi .sgt v4538 c0_i32_3534
  let v4541 : BitVec 32 := Scalar.extui v4540
  let c0_i32_3535 : BitVec 32 := 0#32
  let v4542 : BitVec 1 := Scalar.cmpi .slt v4538 c0_i32_3535
  let v4543 : BitVec 32 := Scalar.extui v4542
  let v4544 : BitVec 32 := Scalar.subi v4541 v4543
  let c8_i32_3533 : BitVec 32 := 8#32
  let c0_i32_3536 : BitVec 32 := 0#32
  let v4545 : BitVec 1 := Scalar.cmpi .sgt c8_i32_3533 c0_i32_3536
  let v4546 : BitVec 32 := Scalar.extui v4545
  let c0_i32_3537 : BitVec 32 := 0#32
  let v4547 : BitVec 1 := Scalar.cmpi .slt c8_i32_3533 c0_i32_3537
  let v4548 : BitVec 32 := Scalar.extui v4547
  let v4549 : BitVec 32 := Scalar.subi v4546 v4548
  let v4550 : BitVec 1 := Scalar.cmpi .ne v4544 v4549
  let v4551 : BitVec 32 := Scalar.remsi v4538 c8_i32_3533
  let c0_i32_3538 : BitVec 32 := 0#32
  let v4552 : BitVec 1 := Scalar.cmpi .ne v4551 c0_i32_3538
  let v4553 : BitVec 1 := Scalar.andi v4550 v4552
  let v4539 : BitVec 32 := Scalar.divsi v4538 c8_i32_3533
  let c1_i32_3539 : BitVec 32 := 1#32
  let v4554 : BitVec 32 := Scalar.subi v4539 c1_i32_3539
  let v4555 : BitVec 32 := Scalar.select v4553 v4554 v4539
  let c0_i32_3551 : BitVec 32 := 0#32
  let c8_i32_3540 : BitVec 32 := 8#32
  let c0_i32_3541 : BitVec 32 := 0#32
  let v4556 : BitVec 1 := Scalar.cmpi .eq c8_i32_3540 c0_i32_3541
  let c1_i32_3542 : BitVec 32 := 1#32
  let v4557 : BitVec 32 := Scalar.select v4556 c1_i32_3542 c8_i32_3540
  let v4558 : BitVec 32 := Scalar.remsi v4538 v4557
  let c0_i32_3544 : BitVec 32 := 0#32
  let v4560 : BitVec 1 := Scalar.cmpi .slt v4558 c0_i32_3544
  let c0_i32_3545 : BitVec 32 := 0#32
  let v4561 : BitVec 1 := Scalar.cmpi .slt v4557 c0_i32_3545
  let v4562 : BitVec 1 := Scalar.xori v4560 v4561
  let c0_i32_3543 : BitVec 32 := 0#32
  let v4559 : BitVec 1 := Scalar.cmpi .ne v4558 c0_i32_3543
  let v4563 : BitVec 1 := Scalar.andi v4562 v4559
  let v4564 : BitVec 32 := Scalar.addi v4558 v4557
  let v4565 : BitVec 32 := Scalar.select v4563 v4564 v4558
  let c0_i32_3552 : BitVec 32 := 0#32
  ![v4555.toNat, 0, v4565.toNat, 0]
def k0_cond29 : BitVec 1 :=
  let c3_i32_1846 : BitVec 32 := 3#32
  let c8_i32_2063 : BitVec 32 := 8#32
  let v2906 : BitVec 32 := Scalar.muli c3_i32_1846 c8_i32_2063
  let c4_i32_2064 : BitVec 32 := 4#32
  let v2907 : BitVec 32 := Scalar.addi v2906 c4_i32_2064
  let c3_i32_2065 : BitVec 32 := 3#32
  let v2908 : BitVec 32 := Scalar.addi v2907 c3_i32_2065
  let c32_i32_2066 : BitVec 32 := 32#32
  let v2909 : BitVec 1 := Scalar.cmpi .slt v2908 c32_i32_2066
  let v2910 : BitVec 32 := Scalar.extui v2909
  let c0_i32_2067 : BitVec 32 := 0#32
  let v2911 : BitVec 1 := Scalar.cmpi .ne v2910 c0_i32_2067
  v2911

def k0_off30 : Fin 4 → Nat :=
  let c3_i32_1846 : BitVec 32 := 3#32
  let c8_i32_2063 : BitVec 32 := 8#32
  let v2906 : BitVec 32 := Scalar.muli c3_i32_1846 c8_i32_2063
  let c4_i32_2064 : BitVec 32 := 4#32
  let v2907 : BitVec 32 := Scalar.addi v2906 c4_i32_2064
  let c3_i32_3532 : BitVec 32 := 3#32
  let v4538 : BitVec 32 := Scalar.addi v2907 c3_i32_3532
  let c0_i32_3534 : BitVec 32 := 0#32
  let v4540 : BitVec 1 := Scalar.cmpi .sgt v4538 c0_i32_3534
  let v4541 : BitVec 32 := Scalar.extui v4540
  let c0_i32_3535 : BitVec 32 := 0#32
  let v4542 : BitVec 1 := Scalar.cmpi .slt v4538 c0_i32_3535
  let v4543 : BitVec 32 := Scalar.extui v4542
  let v4544 : BitVec 32 := Scalar.subi v4541 v4543
  let c8_i32_3533 : BitVec 32 := 8#32
  let c0_i32_3536 : BitVec 32 := 0#32
  let v4545 : BitVec 1 := Scalar.cmpi .sgt c8_i32_3533 c0_i32_3536
  let v4546 : BitVec 32 := Scalar.extui v4545
  let c0_i32_3537 : BitVec 32 := 0#32
  let v4547 : BitVec 1 := Scalar.cmpi .slt c8_i32_3533 c0_i32_3537
  let v4548 : BitVec 32 := Scalar.extui v4547
  let v4549 : BitVec 32 := Scalar.subi v4546 v4548
  let v4550 : BitVec 1 := Scalar.cmpi .ne v4544 v4549
  let v4551 : BitVec 32 := Scalar.remsi v4538 c8_i32_3533
  let c0_i32_3538 : BitVec 32 := 0#32
  let v4552 : BitVec 1 := Scalar.cmpi .ne v4551 c0_i32_3538
  let v4553 : BitVec 1 := Scalar.andi v4550 v4552
  let v4539 : BitVec 32 := Scalar.divsi v4538 c8_i32_3533
  let c1_i32_3539 : BitVec 32 := 1#32
  let v4554 : BitVec 32 := Scalar.subi v4539 c1_i32_3539
  let v4555 : BitVec 32 := Scalar.select v4553 v4554 v4539
  let c0_i32_3551 : BitVec 32 := 0#32
  let c8_i32_3540 : BitVec 32 := 8#32
  let c0_i32_3541 : BitVec 32 := 0#32
  let v4556 : BitVec 1 := Scalar.cmpi .eq c8_i32_3540 c0_i32_3541
  let c1_i32_3542 : BitVec 32 := 1#32
  let v4557 : BitVec 32 := Scalar.select v4556 c1_i32_3542 c8_i32_3540
  let v4558 : BitVec 32 := Scalar.remsi v4538 v4557
  let c0_i32_3544 : BitVec 32 := 0#32
  let v4560 : BitVec 1 := Scalar.cmpi .slt v4558 c0_i32_3544
  let c0_i32_3545 : BitVec 32 := 0#32
  let v4561 : BitVec 1 := Scalar.cmpi .slt v4557 c0_i32_3545
  let v4562 : BitVec 1 := Scalar.xori v4560 v4561
  let c0_i32_3543 : BitVec 32 := 0#32
  let v4559 : BitVec 1 := Scalar.cmpi .ne v4558 c0_i32_3543
  let v4563 : BitVec 1 := Scalar.andi v4562 v4559
  let v4564 : BitVec 32 := Scalar.addi v4558 v4557
  let v4565 : BitVec 32 := Scalar.select v4563 v4564 v4558
  let c0_i32_3552 : BitVec 32 := 0#32
  ![v4555.toNat, 0, v4565.toNat, 0]
def k0_cond30 : BitVec 1 :=
  let c3_i32_1846 : BitVec 32 := 3#32
  let c8_i32_2115 : BitVec 32 := 8#32
  let v2987 : BitVec 32 := Scalar.muli c3_i32_1846 c8_i32_2115
  let c5_i32_2116 : BitVec 32 := 5#32
  let v2988 : BitVec 32 := Scalar.addi v2987 c5_i32_2116
  let c3_i32_2117 : BitVec 32 := 3#32
  let v2989 : BitVec 32 := Scalar.addi v2988 c3_i32_2117
  let c32_i32_2118 : BitVec 32 := 32#32
  let v2990 : BitVec 1 := Scalar.cmpi .slt v2989 c32_i32_2118
  let v2991 : BitVec 32 := Scalar.extui v2990
  let c0_i32_2119 : BitVec 32 := 0#32
  let v2992 : BitVec 1 := Scalar.cmpi .ne v2991 c0_i32_2119
  v2992

def k0_off31 : Fin 4 → Nat :=
  let c3_i32_1846 : BitVec 32 := 3#32
  let c8_i32_2115 : BitVec 32 := 8#32
  let v2987 : BitVec 32 := Scalar.muli c3_i32_1846 c8_i32_2115
  let c5_i32_2116 : BitVec 32 := 5#32
  let v2988 : BitVec 32 := Scalar.addi v2987 c5_i32_2116
  let c3_i32_3532 : BitVec 32 := 3#32
  let v4538 : BitVec 32 := Scalar.addi v2988 c3_i32_3532
  let c0_i32_3534 : BitVec 32 := 0#32
  let v4540 : BitVec 1 := Scalar.cmpi .sgt v4538 c0_i32_3534
  let v4541 : BitVec 32 := Scalar.extui v4540
  let c0_i32_3535 : BitVec 32 := 0#32
  let v4542 : BitVec 1 := Scalar.cmpi .slt v4538 c0_i32_3535
  let v4543 : BitVec 32 := Scalar.extui v4542
  let v4544 : BitVec 32 := Scalar.subi v4541 v4543
  let c8_i32_3533 : BitVec 32 := 8#32
  let c0_i32_3536 : BitVec 32 := 0#32
  let v4545 : BitVec 1 := Scalar.cmpi .sgt c8_i32_3533 c0_i32_3536
  let v4546 : BitVec 32 := Scalar.extui v4545
  let c0_i32_3537 : BitVec 32 := 0#32
  let v4547 : BitVec 1 := Scalar.cmpi .slt c8_i32_3533 c0_i32_3537
  let v4548 : BitVec 32 := Scalar.extui v4547
  let v4549 : BitVec 32 := Scalar.subi v4546 v4548
  let v4550 : BitVec 1 := Scalar.cmpi .ne v4544 v4549
  let v4551 : BitVec 32 := Scalar.remsi v4538 c8_i32_3533
  let c0_i32_3538 : BitVec 32 := 0#32
  let v4552 : BitVec 1 := Scalar.cmpi .ne v4551 c0_i32_3538
  let v4553 : BitVec 1 := Scalar.andi v4550 v4552
  let v4539 : BitVec 32 := Scalar.divsi v4538 c8_i32_3533
  let c1_i32_3539 : BitVec 32 := 1#32
  let v4554 : BitVec 32 := Scalar.subi v4539 c1_i32_3539
  let v4555 : BitVec 32 := Scalar.select v4553 v4554 v4539
  let c0_i32_3551 : BitVec 32 := 0#32
  let c8_i32_3540 : BitVec 32 := 8#32
  let c0_i32_3541 : BitVec 32 := 0#32
  let v4556 : BitVec 1 := Scalar.cmpi .eq c8_i32_3540 c0_i32_3541
  let c1_i32_3542 : BitVec 32 := 1#32
  let v4557 : BitVec 32 := Scalar.select v4556 c1_i32_3542 c8_i32_3540
  let v4558 : BitVec 32 := Scalar.remsi v4538 v4557
  let c0_i32_3544 : BitVec 32 := 0#32
  let v4560 : BitVec 1 := Scalar.cmpi .slt v4558 c0_i32_3544
  let c0_i32_3545 : BitVec 32 := 0#32
  let v4561 : BitVec 1 := Scalar.cmpi .slt v4557 c0_i32_3545
  let v4562 : BitVec 1 := Scalar.xori v4560 v4561
  let c0_i32_3543 : BitVec 32 := 0#32
  let v4559 : BitVec 1 := Scalar.cmpi .ne v4558 c0_i32_3543
  let v4563 : BitVec 1 := Scalar.andi v4562 v4559
  let v4564 : BitVec 32 := Scalar.addi v4558 v4557
  let v4565 : BitVec 32 := Scalar.select v4563 v4564 v4558
  let c0_i32_3552 : BitVec 32 := 0#32
  ![v4555.toNat, 0, v4565.toNat, 0]
def k0_cond31 : BitVec 1 :=
  let c3_i32_1846 : BitVec 32 := 3#32
  let c8_i32_2167 : BitVec 32 := 8#32
  let v3068 : BitVec 32 := Scalar.muli c3_i32_1846 c8_i32_2167
  let c6_i32_2168 : BitVec 32 := 6#32
  let v3069 : BitVec 32 := Scalar.addi v3068 c6_i32_2168
  let c3_i32_2169 : BitVec 32 := 3#32
  let v3070 : BitVec 32 := Scalar.addi v3069 c3_i32_2169
  let c32_i32_2170 : BitVec 32 := 32#32
  let v3071 : BitVec 1 := Scalar.cmpi .slt v3070 c32_i32_2170
  let v3072 : BitVec 32 := Scalar.extui v3071
  let c0_i32_2171 : BitVec 32 := 0#32
  let v3073 : BitVec 1 := Scalar.cmpi .ne v3072 c0_i32_2171
  v3073

def k0_off32 : Fin 4 → Nat :=
  let c3_i32_1846 : BitVec 32 := 3#32
  let c8_i32_2167 : BitVec 32 := 8#32
  let v3068 : BitVec 32 := Scalar.muli c3_i32_1846 c8_i32_2167
  let c6_i32_2168 : BitVec 32 := 6#32
  let v3069 : BitVec 32 := Scalar.addi v3068 c6_i32_2168
  let c3_i32_3532 : BitVec 32 := 3#32
  let v4538 : BitVec 32 := Scalar.addi v3069 c3_i32_3532
  let c0_i32_3534 : BitVec 32 := 0#32
  let v4540 : BitVec 1 := Scalar.cmpi .sgt v4538 c0_i32_3534
  let v4541 : BitVec 32 := Scalar.extui v4540
  let c0_i32_3535 : BitVec 32 := 0#32
  let v4542 : BitVec 1 := Scalar.cmpi .slt v4538 c0_i32_3535
  let v4543 : BitVec 32 := Scalar.extui v4542
  let v4544 : BitVec 32 := Scalar.subi v4541 v4543
  let c8_i32_3533 : BitVec 32 := 8#32
  let c0_i32_3536 : BitVec 32 := 0#32
  let v4545 : BitVec 1 := Scalar.cmpi .sgt c8_i32_3533 c0_i32_3536
  let v4546 : BitVec 32 := Scalar.extui v4545
  let c0_i32_3537 : BitVec 32 := 0#32
  let v4547 : BitVec 1 := Scalar.cmpi .slt c8_i32_3533 c0_i32_3537
  let v4548 : BitVec 32 := Scalar.extui v4547
  let v4549 : BitVec 32 := Scalar.subi v4546 v4548
  let v4550 : BitVec 1 := Scalar.cmpi .ne v4544 v4549
  let v4551 : BitVec 32 := Scalar.remsi v4538 c8_i32_3533
  let c0_i32_3538 : BitVec 32 := 0#32
  let v4552 : BitVec 1 := Scalar.cmpi .ne v4551 c0_i32_3538
  let v4553 : BitVec 1 := Scalar.andi v4550 v4552
  let v4539 : BitVec 32 := Scalar.divsi v4538 c8_i32_3533
  let c1_i32_3539 : BitVec 32 := 1#32
  let v4554 : BitVec 32 := Scalar.subi v4539 c1_i32_3539
  let v4555 : BitVec 32 := Scalar.select v4553 v4554 v4539
  let c0_i32_3551 : BitVec 32 := 0#32
  let c8_i32_3540 : BitVec 32 := 8#32
  let c0_i32_3541 : BitVec 32 := 0#32
  let v4556 : BitVec 1 := Scalar.cmpi .eq c8_i32_3540 c0_i32_3541
  let c1_i32_3542 : BitVec 32 := 1#32
  let v4557 : BitVec 32 := Scalar.select v4556 c1_i32_3542 c8_i32_3540
  let v4558 : BitVec 32 := Scalar.remsi v4538 v4557
  let c0_i32_3544 : BitVec 32 := 0#32
  let v4560 : BitVec 1 := Scalar.cmpi .slt v4558 c0_i32_3544
  let c0_i32_3545 : BitVec 32 := 0#32
  let v4561 : BitVec 1 := Scalar.cmpi .slt v4557 c0_i32_3545
  let v4562 : BitVec 1 := Scalar.xori v4560 v4561
  let c0_i32_3543 : BitVec 32 := 0#32
  let v4559 : BitVec 1 := Scalar.cmpi .ne v4558 c0_i32_3543
  let v4563 : BitVec 1 := Scalar.andi v4562 v4559
  let v4564 : BitVec 32 := Scalar.addi v4558 v4557
  let v4565 : BitVec 32 := Scalar.select v4563 v4564 v4558
  let c0_i32_3552 : BitVec 32 := 0#32
  ![v4555.toNat, 0, v4565.toNat, 0]
def k0_cond32 : BitVec 1 :=
  let c3_i32_1846 : BitVec 32 := 3#32
  let c8_i32_2219 : BitVec 32 := 8#32
  let v3149 : BitVec 32 := Scalar.muli c3_i32_1846 c8_i32_2219
  let c7_i32_2220 : BitVec 32 := 7#32
  let v3150 : BitVec 32 := Scalar.addi v3149 c7_i32_2220
  let c3_i32_2221 : BitVec 32 := 3#32
  let v3151 : BitVec 32 := Scalar.addi v3150 c3_i32_2221
  let c32_i32_2222 : BitVec 32 := 32#32
  let v3152 : BitVec 1 := Scalar.cmpi .slt v3151 c32_i32_2222
  let v3153 : BitVec 32 := Scalar.extui v3152
  let c0_i32_2223 : BitVec 32 := 0#32
  let v3154 : BitVec 1 := Scalar.cmpi .ne v3153 c0_i32_2223
  v3154

def k0_off33 : Fin 4 → Nat :=
  let c3_i32_1846 : BitVec 32 := 3#32
  let c8_i32_2219 : BitVec 32 := 8#32
  let v3149 : BitVec 32 := Scalar.muli c3_i32_1846 c8_i32_2219
  let c7_i32_2220 : BitVec 32 := 7#32
  let v3150 : BitVec 32 := Scalar.addi v3149 c7_i32_2220
  let c3_i32_3532 : BitVec 32 := 3#32
  let v4538 : BitVec 32 := Scalar.addi v3150 c3_i32_3532
  let c0_i32_3534 : BitVec 32 := 0#32
  let v4540 : BitVec 1 := Scalar.cmpi .sgt v4538 c0_i32_3534
  let v4541 : BitVec 32 := Scalar.extui v4540
  let c0_i32_3535 : BitVec 32 := 0#32
  let v4542 : BitVec 1 := Scalar.cmpi .slt v4538 c0_i32_3535
  let v4543 : BitVec 32 := Scalar.extui v4542
  let v4544 : BitVec 32 := Scalar.subi v4541 v4543
  let c8_i32_3533 : BitVec 32 := 8#32
  let c0_i32_3536 : BitVec 32 := 0#32
  let v4545 : BitVec 1 := Scalar.cmpi .sgt c8_i32_3533 c0_i32_3536
  let v4546 : BitVec 32 := Scalar.extui v4545
  let c0_i32_3537 : BitVec 32 := 0#32
  let v4547 : BitVec 1 := Scalar.cmpi .slt c8_i32_3533 c0_i32_3537
  let v4548 : BitVec 32 := Scalar.extui v4547
  let v4549 : BitVec 32 := Scalar.subi v4546 v4548
  let v4550 : BitVec 1 := Scalar.cmpi .ne v4544 v4549
  let v4551 : BitVec 32 := Scalar.remsi v4538 c8_i32_3533
  let c0_i32_3538 : BitVec 32 := 0#32
  let v4552 : BitVec 1 := Scalar.cmpi .ne v4551 c0_i32_3538
  let v4553 : BitVec 1 := Scalar.andi v4550 v4552
  let v4539 : BitVec 32 := Scalar.divsi v4538 c8_i32_3533
  let c1_i32_3539 : BitVec 32 := 1#32
  let v4554 : BitVec 32 := Scalar.subi v4539 c1_i32_3539
  let v4555 : BitVec 32 := Scalar.select v4553 v4554 v4539
  let c0_i32_3551 : BitVec 32 := 0#32
  let c8_i32_3540 : BitVec 32 := 8#32
  let c0_i32_3541 : BitVec 32 := 0#32
  let v4556 : BitVec 1 := Scalar.cmpi .eq c8_i32_3540 c0_i32_3541
  let c1_i32_3542 : BitVec 32 := 1#32
  let v4557 : BitVec 32 := Scalar.select v4556 c1_i32_3542 c8_i32_3540
  let v4558 : BitVec 32 := Scalar.remsi v4538 v4557
  let c0_i32_3544 : BitVec 32 := 0#32
  let v4560 : BitVec 1 := Scalar.cmpi .slt v4558 c0_i32_3544
  let c0_i32_3545 : BitVec 32 := 0#32
  let v4561 : BitVec 1 := Scalar.cmpi .slt v4557 c0_i32_3545
  let v4562 : BitVec 1 := Scalar.xori v4560 v4561
  let c0_i32_3543 : BitVec 32 := 0#32
  let v4559 : BitVec 1 := Scalar.cmpi .ne v4558 c0_i32_3543
  let v4563 : BitVec 1 := Scalar.andi v4562 v4559
  let v4564 : BitVec 32 := Scalar.addi v4558 v4557
  let v4565 : BitVec 32 := Scalar.select v4563 v4564 v4558
  let c0_i32_3552 : BitVec 32 := 0#32
  ![v4555.toNat, 0, v4565.toNat, 0]
def k0_dev13 (d0 : Dev nD) : Nat :=
  let c0_i32_2276 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2275 : BitVec 32 := 1#32
  let v3230 : BitVec 32 := Scalar.muli v3 c1_i32_2275
  let v3231 : BitVec 32 := Scalar.addi c0_i32_2276 v3230
  v3231.toNat
def k0_dev14 (d0 : Dev nD) : Nat :=
  let c0_i32_2287 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2286 : BitVec 32 := 1#32
  let v3239 : BitVec 32 := Scalar.muli v3 c1_i32_2286
  let v3240 : BitVec 32 := Scalar.addi c0_i32_2287 v3239
  v3240.toNat
def k0_dev15 (d0 : Dev nD) : Nat :=
  let c0_i32_2510 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_2509 : BitVec 32 := 1#32
  let v3470 : BitVec 32 := Scalar.muli v4 c1_i32_2509
  let v3471 : BitVec 32 := Scalar.addi c0_i32_2510 v3470
  v3471.toNat
def k0_dev16 (d0 : Dev nD) : Nat :=
  let c0_i32_2520 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_2519 : BitVec 32 := 1#32
  let v3479 : BitVec 32 := Scalar.muli v4 c1_i32_2519
  let v3480 : BitVec 32 := Scalar.addi c0_i32_2520 v3479
  v3480.toNat
def k0_dev17 (d0 : Dev nD) : Nat :=
  let c0_i32_2743 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_2742 : BitVec 32 := 1#32
  let v3710 : BitVec 32 := Scalar.muli v4 c1_i32_2742
  let v3711 : BitVec 32 := Scalar.addi c0_i32_2743 v3710
  v3711.toNat
def k0_dev18 (d0 : Dev nD) : Nat :=
  let c0_i32_2753 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_2752 : BitVec 32 := 1#32
  let v3719 : BitVec 32 := Scalar.muli v4 c1_i32_2752
  let v3720 : BitVec 32 := Scalar.addi c0_i32_2753 v3719
  v3720.toNat
abbrev stage0_0 : Fin 1 → Memref sig .tc .vmem S4x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4x256x1024 : Shape := ⟨3, ![4, 256, 1024]⟩
abbrev S1024x1024 : Shape := ⟨2, ![1024, 1024]⟩
abbrev S4x4096x8x128 : Shape := ⟨4, ![4, 4096, 8, 128]⟩
abbrev S4x256x8x128 : Shape := ⟨4, ![4, 256, 8, 128]⟩
abbrev S_ : Shape := ⟨0, ![]⟩
abbrev S4x8x256x1 : Shape := ⟨4, ![4, 8, 256, 1]⟩
abbrev S4x1024x8x128 : Shape := ⟨4, ![4, 1024, 8, 128]⟩
abbrev S4x8x256x1024 : Shape := ⟨4, ![4, 8, 256, 1024]⟩
abbrev S4x8x256 : Shape := ⟨3, ![4, 8, 256]⟩
abbrev S4x256x8x1 : Shape := ⟨4, ![4, 256, 8, 1]⟩
abbrev S4x8x128x256 : Shape := ⟨4, ![4, 8, 128, 256]⟩

abbrev nBuf : Space → Nat
  | .hbm => 122
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1024x1024, .f32⟩
  | .hbm, ⟨2, _⟩ => ⟨S1024x1024, .f32⟩
  | .hbm, ⟨3, _⟩ => ⟨S4x4096x8x128, .f32⟩
  | .hbm, ⟨4, _⟩ => ⟨S4x4096x8x128, .f32⟩
  | .hbm, ⟨5, _⟩ => ⟨S4x256x1024, .f32⟩
  | .hbm, ⟨6, _⟩ => ⟨S4x256x8x128, .f32⟩
  | .hbm, ⟨7, _⟩ => ⟨S_, .f32⟩
  | .hbm, ⟨8, _⟩ => ⟨S4x256x8x128, .f32⟩
  | .hbm, ⟨9, _⟩ => ⟨S_, .f32⟩
  | .hbm, ⟨10, _⟩ => ⟨S4x8x256x1, .f32⟩
  | .hbm, ⟨11, _⟩ => ⟨S_, .f32⟩
  | .hbm, ⟨12, _⟩ => ⟨S4x8x256x1, .f32⟩
  | .hbm, ⟨13, _⟩ => ⟨S4x1024x8x128, .f32⟩
  | .hbm, ⟨14, _⟩ => ⟨S4x1024x8x128, .f32⟩
  | .hbm, ⟨15, _⟩ => ⟨S4x8x256x1024, .f32⟩
  | .hbm, ⟨16, _⟩ => ⟨S_, .f32⟩
  | .hbm, ⟨17, _⟩ => ⟨S4x8x256x1024, .f32⟩
  | .hbm, ⟨18, _⟩ => ⟨S4x8x256x1024, .f32⟩
  | .hbm, ⟨19, _⟩ => ⟨S_, .f32⟩
  | .hbm, ⟨20, _⟩ => ⟨S4x8x256, .f32⟩
  | .hbm, ⟨21, _⟩ => ⟨S4x8x256x1, .f32⟩
  | .hbm, ⟨22, _⟩ => ⟨S4x8x256x1, .f32⟩
  | .hbm, ⟨23, _⟩ => ⟨S4x8x256x1, .f32⟩
  | .hbm, ⟨24, _⟩ => ⟨S4x8x256x1, .f32⟩
  | .hbm, ⟨25, _⟩ => ⟨S4x8x256x1024, .f32⟩
  | .hbm, ⟨26, _⟩ => ⟨S4x8x256x1024, .f32⟩
  | .hbm, ⟨27, _⟩ => ⟨S4x8x256x1024, .f32⟩
  | .hbm, ⟨28, _⟩ => ⟨S4x8x256x1, .f32⟩
  | .hbm, ⟨29, _⟩ => ⟨S_, .f32⟩
  | .hbm, ⟨30, _⟩ => ⟨S4x8x256, .f32⟩
  | .hbm, ⟨31, _⟩ => ⟨S4x8x256x1, .f32⟩
  | .hbm, ⟨32, _⟩ => ⟨S4x8x256x1, .f32⟩
  | .hbm, ⟨33, _⟩ => ⟨S4x256x8x1, .f32⟩
  | .hbm, ⟨34, _⟩ => ⟨S4x256x8x128, .f32⟩
  | .hbm, ⟨35, _⟩ => ⟨S4x256x8x128, .f32⟩
  | .hbm, ⟨36, _⟩ => ⟨S4x8x128x256, .f32⟩
  | .hbm, ⟨37, _⟩ => ⟨S4x256x8x128, .f32⟩
  | .hbm, ⟨38, _⟩ => ⟨S4x256x8x128, .f32⟩
  | .hbm, ⟨39, _⟩ => ⟨S4x1024x8x128, .f32⟩
  | .hbm, ⟨40, _⟩ => ⟨S4x1024x8x128, .f32⟩
  | .hbm, ⟨41, _⟩ => ⟨S4x8x256x1024, .f32⟩
  | .hbm, ⟨42, _⟩ => ⟨S_, .f32⟩
  | .hbm, ⟨43, _⟩ => ⟨S4x8x256x1024, .f32⟩
  | .hbm, ⟨44, _⟩ => ⟨S4x8x256x1024, .f32⟩
  | .hbm, ⟨45, _⟩ => ⟨S_, .f32⟩
  | .hbm, ⟨46, _⟩ => ⟨S4x8x256, .f32⟩
  | .hbm, ⟨47, _⟩ => ⟨S4x8x256x1, .f32⟩
  | .hbm, ⟨48, _⟩ => ⟨S4x8x256x1, .f32⟩
  | .hbm, ⟨49, _⟩ => ⟨S4x8x256x1, .f32⟩
  | .hbm, ⟨50, _⟩ => ⟨S4x8x256x1, .f32⟩
  | .hbm, ⟨51, _⟩ => ⟨S4x8x256x1024, .f32⟩
  | .hbm, ⟨52, _⟩ => ⟨S4x8x256x1024, .f32⟩
  | .hbm, ⟨53, _⟩ => ⟨S4x8x256x1024, .f32⟩
  | .hbm, ⟨54, _⟩ => ⟨S4x8x256x1, .f32⟩
  | .hbm, ⟨55, _⟩ => ⟨S_, .f32⟩
  | .hbm, ⟨56, _⟩ => ⟨S4x8x256, .f32⟩
  | .hbm, ⟨57, _⟩ => ⟨S4x8x256x1, .f32⟩
  | .hbm, ⟨58, _⟩ => ⟨S4x8x256x1, .f32⟩
  | .hbm, ⟨59, _⟩ => ⟨S4x256x8x1, .f32⟩
  | .hbm, ⟨60, _⟩ => ⟨S4x256x8x128, .f32⟩
  | .hbm, ⟨61, _⟩ => ⟨S4x256x8x128, .f32⟩
  | .hbm, ⟨62, _⟩ => ⟨S4x8x128x256, .f32⟩
  | .hbm, ⟨63, _⟩ => ⟨S4x256x8x128, .f32⟩
  | .hbm, ⟨64, _⟩ => ⟨S4x256x8x128, .f32⟩
  | .hbm, ⟨65, _⟩ => ⟨S4x1024x8x128, .f32⟩
  | .hbm, ⟨66, _⟩ => ⟨S4x1024x8x128, .f32⟩
  | .hbm, ⟨67, _⟩ => ⟨S4x8x256x1024, .f32⟩
  | .hbm, ⟨68, _⟩ => ⟨S_, .f32⟩
  | .hbm, ⟨69, _⟩ => ⟨S4x8x256x1024, .f32⟩
  | .hbm, ⟨70, _⟩ => ⟨S4x8x256x1024, .f32⟩
  | .hbm, ⟨71, _⟩ => ⟨S_, .f32⟩
  | .hbm, ⟨72, _⟩ => ⟨S4x8x256, .f32⟩
  | .hbm, ⟨73, _⟩ => ⟨S4x8x256x1, .f32⟩
  | .hbm, ⟨74, _⟩ => ⟨S4x8x256x1, .f32⟩
  | .hbm, ⟨75, _⟩ => ⟨S4x8x256x1, .f32⟩
  | .hbm, ⟨76, _⟩ => ⟨S4x8x256x1, .f32⟩
  | .hbm, ⟨77, _⟩ => ⟨S4x8x256x1024, .f32⟩
  | .hbm, ⟨78, _⟩ => ⟨S4x8x256x1024, .f32⟩
  | .hbm, ⟨79, _⟩ => ⟨S4x8x256x1024, .f32⟩
  | .hbm, ⟨80, _⟩ => ⟨S4x8x256x1, .f32⟩
  | .hbm, ⟨81, _⟩ => ⟨S_, .f32⟩
  | .hbm, ⟨82, _⟩ => ⟨S4x8x256, .f32⟩
  | .hbm, ⟨83, _⟩ => ⟨S4x8x256x1, .f32⟩
  | .hbm, ⟨84, _⟩ => ⟨S4x8x256x1, .f32⟩
  | .hbm, ⟨85, _⟩ => ⟨S4x256x8x1, .f32⟩
  | .hbm, ⟨86, _⟩ => ⟨S4x256x8x128, .f32⟩
  | .hbm, ⟨87, _⟩ => ⟨S4x256x8x128, .f32⟩
  | .hbm, ⟨88, _⟩ => ⟨S4x8x128x256, .f32⟩
  | .hbm, ⟨89, _⟩ => ⟨S4x256x8x128, .f32⟩
  | .hbm, ⟨90, _⟩ => ⟨S4x256x8x128, .f32⟩
  | .hbm, ⟨91, _⟩ => ⟨S4x1024x8x128, .f32⟩
  | .hbm, ⟨92, _⟩ => ⟨S4x1024x8x128, .f32⟩
  | .hbm, ⟨93, _⟩ => ⟨S4x8x256x1024, .f32⟩
  | .hbm, ⟨94, _⟩ => ⟨S_, .f32⟩
  | .hbm, ⟨95, _⟩ => ⟨S4x8x256x1024, .f32⟩
  | .hbm, ⟨96, _⟩ => ⟨S4x8x256x1024, .f32⟩
  | .hbm, ⟨97, _⟩ => ⟨S_, .f32⟩
  | .hbm, ⟨98, _⟩ => ⟨S4x8x256, .f32⟩
  | .hbm, ⟨99, _⟩ => ⟨S4x8x256x1, .f32⟩
  | .hbm, ⟨100, _⟩ => ⟨S4x8x256x1, .f32⟩
  | .hbm, ⟨101, _⟩ => ⟨S4x8x256x1, .f32⟩
  | .hbm, ⟨102, _⟩ => ⟨S4x8x256x1, .f32⟩
  | .hbm, ⟨103, _⟩ => ⟨S4x8x256x1024, .f32⟩
  | .hbm, ⟨104, _⟩ => ⟨S4x8x256x1024, .f32⟩
  | .hbm, ⟨105, _⟩ => ⟨S4x8x256x1024, .f32⟩
  | .hbm, ⟨106, _⟩ => ⟨S4x8x256x1, .f32⟩
  | .hbm, ⟨107, _⟩ => ⟨S_, .f32⟩
  | .hbm, ⟨108, _⟩ => ⟨S4x8x256, .f32⟩
  | .hbm, ⟨109, _⟩ => ⟨S4x8x256x1, .f32⟩
  | .hbm, ⟨110, _⟩ => ⟨S4x8x256x1, .f32⟩
  | .hbm, ⟨111, _⟩ => ⟨S4x256x8x1, .f32⟩
  | .hbm, ⟨112, _⟩ => ⟨S4x256x8x128, .f32⟩
  | .hbm, ⟨113, _⟩ => ⟨S4x256x8x128, .f32⟩
  | .hbm, ⟨114, _⟩ => ⟨S4x8x128x256, .f32⟩
  | .hbm, ⟨115, _⟩ => ⟨S4x256x8x128, .f32⟩
  | .hbm, ⟨116, _⟩ => ⟨S4x256x8x128, .f32⟩
  | .hbm, ⟨117, _⟩ => ⟨S4x256x8x1, .f32⟩
  | .hbm, ⟨118, _⟩ => ⟨S4x256x8x128, .f32⟩
  | .hbm, ⟨119, _⟩ => ⟨S4x256x8x128, .f32⟩
  | .hbm, ⟨120, _⟩ => ⟨S4x256x1024, .f32⟩
  | .hbm, ⟨121, _⟩ => ⟨S4x256x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_8 : Ref sig .tc := ⟨.hbm, 68, rfl⟩
abbrev main_v54 : Ref sig .tc := ⟨.hbm, 69, rfl⟩
abbrev main_v55 : Ref sig .tc := ⟨.hbm, 70, rfl⟩
abbrev main_cst_9 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_10 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_cst_11 : Ref sig .tc := ⟨.hbm, 94, rfl⟩
abbrev main_v77 : Ref sig .tc := ⟨.hbm, 95, rfl⟩
abbrev main_v78 : Ref sig .tc := ⟨.hbm, 96, rfl⟩
abbrev main_cst_12 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_cst_13 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩

abbrev nD : Nat := 1
abbrev τ : Topo := Topo.v7x

variable {F : FTy → Type} [FloatOps F]
-- ==== Proof.Struct.lean ====
/- The kernel's body written again as a short program: one attention head, one exchange, one merge, each at a
   symbolic batch row and head, run in the order the printed body runs them. `body_eq` states that the printed
   body is this program. -/
module

public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.KernelIdeal.Body

open Idealize.ShloMosaic Idealize.ShloMosaic.TcCoe Idealize.SL.Sem
open Cert.KernelIdeal.Gen

variable {F : FTy → Type} [FloatOps F]

/-! ## The buffers -/

/-- The staged input rows. -/
abbrev xM : Memref sig .tc .vmem S4x256x1024 .f32 := Memref.whole cc0_stg0_0
/-- The staged query weights. -/
abbrev wqM : Memref sig .tc .vmem S1024x1024 .f32 := Memref.whole cc0_stg1_0
/-- The staged output weights. -/
abbrev woM : Memref sig .tc .vmem S1024x1024 .f32 := Memref.whole cc0_stg2_0
/-- The staged result. -/
abbrev outM : Memref sig .tc .vmem S4x256x1024 .f32 := Memref.whole cc0_stg3_0
/-- This device's keys. -/
abbrev KM : Memref sig .tc .hbm S4x1024x8x128 .f32 := Memref.whole main_arg3
/-- This device's values. -/
abbrev VM : Memref sig .tc .hbm S4x1024x8x128 .f32 := Memref.whole main_arg4
/-- The queries, later the rounded partial outputs that are sent. -/
abbrev qM : Memref sig .tc .vmem S4x256x1024 .bf16 := Memref.whole cc0_scratch0
/-- The partial outputs. -/
abbrev oM : Memref sig .tc .vmem S4x256x1024 .f32 := Memref.whole cc0_scratch1
/-- The running maxima (columns 0 to 7) and sums (columns 8 to 15). -/
abbrev mlM : Memref sig .tc .vmem S4x256x16 .f32 := Memref.whole cc0_scratch2
/-- The two merge weights of every head. -/
abbrev aM : Memref sig .tc .vmem S4x256x16 .f32 := Memref.whole cc0_scratch3
/-- The partial outputs received, one plane per stage. -/
abbrev orM : Memref sig .tc .vmem S2x4x256x1024 .bf16 := Memref.whole cc0_scratch4
/-- The maxima and sums received, one plane per stage. -/
abbrev mlrM : Memref sig .tc .vmem S2x4x256x16 .f32 := Memref.whole cc0_scratch5
/-- The ring of key slots. -/
abbrev kM : Memref sig .tc .vmem S4x1024x128 .f32 := Memref.whole cc0_scratch6
/-- The ring of value slots. -/
abbrev vM : Memref sig .tc .vmem S4x1024x128 .f32 := Memref.whole cc0_scratch7
/-- The rounded weights in use. -/
abbrev wM : Memref sig .tc .vmem S1024x1024 .bf16 := Memref.whole cc0_scratch8

/-! ## The rectangles -/

theorem in_tile (b : Fin 4) (h : Fin 8) : ∀ a, (![b.val, 0, 128 * h.val] : Fin 3 → ℕ) a + S1x256x128.size a ≤ S4x256x1024.size a := by
  revert b h; decide
theorem in_row (b : Fin 4) : ∀ a, (![b.val, 0, 0] : Fin 3 → ℕ) a + S1x256x1024.size a ≤ S4x256x1024.size a := by
  revert b; decide
theorem in_mlrow (b : Fin 4) : ∀ a, (![b.val, 0, 0] : Fin 3 → ℕ) a + S1x256x16.size a ≤ S4x256x16.size a := by
  revert b; decide
theorem in_col (b : Fin 4) (j : Fin 16) : ∀ a, (![b.val, 0, j.val] : Fin 3 → ℕ) a + S1x256x1.size a ≤ S4x256x16.size a := by
  revert b j; decide
theorem in_half (b : Fin 4) (g : Fin 2) : ∀ a, (![b.val, 0, 8 * g.val] : Fin 3 → ℕ) a + S1x256x8.size a ≤ S4x256x16.size a := by
  revert b g; decide
theorem in_rtile (s : Fin 2) (b : Fin 4) (h : Fin 8) :
    ∀ a, (![s.val, b.val, 0, 128 * h.val] : Fin 4 → ℕ) a + S1x1x256x128.size a ≤ S2x4x256x1024.size a := by
  revert s b h; decide
theorem in_rrow (s : Fin 2) (b : Fin 4) :
    ∀ a, (![s.val, b.val, 0, 0] : Fin 4 → ℕ) a + S1x1x256x1024.size a ≤ S2x4x256x1024.size a := by
  revert s b; decide
theorem in_rml (s : Fin 2) (b : Fin 4) :
    ∀ a, (![s.val, b.val, 0, 0] : Fin 4 → ℕ) a + S1x1x256x16.size a ≤ S2x4x256x16.size a := by
  revert s b; decide
theorem in_slot (s : Fin 4) : ∀ a, (![s.val, 0, 0] : Fin 3 → ℕ) a + S1x1024x128.size a ≤ S4x1024x128.size a := by
  revert s; decide
theorem in_kvsem (s : Fin 4) (j : Fin 2) : ∀ a, (![s.val, j.val] : Fin 2 → ℕ) a + S1x1.size a ≤ S4x2.size a := by
  revert s j; decide
theorem in_sem (i : Fin 16) : ∀ a, (![i.val] : Fin 1 → ℕ) a + S1.size a ≤ S16.size a := by
  revert i; decide
theorem in_full : ∀ a, (![0, 0] : Fin 2 → ℕ) a + S1024x1024.size a ≤ S1024x1024.size a := by decide

/-- Head `h`'s columns of batch row `b`. -/
abbrev tileR (b : Fin 4) (h : Fin 8) : Rect S4x256x1024 := Rect.unit (s := S4x256x1024) ![b.val, 0, 128 * h.val] S1x256x128.size (in_tile b h)
/-- Batch row `b`. -/
abbrev rowR (b : Fin 4) : Rect S4x256x1024 := Rect.unit (s := S4x256x1024) ![b.val, 0, 0] S1x256x1024.size (in_row b)
/-- Batch row `b` of the maxima and sums. -/
abbrev mlrowR (b : Fin 4) : Rect S4x256x16 := Rect.unit (s := S4x256x16) ![b.val, 0, 0] S1x256x16.size (in_mlrow b)
/-- Column `j` of batch row `b`. -/
abbrev colR (b : Fin 4) (j : Fin 16) : Rect S4x256x16 := Rect.unit (s := S4x256x16) ![b.val, 0, j.val] S1x256x1.size (in_col b j)
/-- The first or the last eight columns of batch row `b`. -/
abbrev halfR (b : Fin 4) (g : Fin 2) : Rect S4x256x16 := Rect.unit (s := S4x256x16) ![b.val, 0, 8 * g.val] S1x256x8.size (in_half b g)
/-- Head `h`'s columns of batch row `b` received at stage `s`. -/
abbrev rtileR (s : Fin 2) (b : Fin 4) (h : Fin 8) : Rect S2x4x256x1024 :=
  Rect.unit (s := S2x4x256x1024) ![s.val, b.val, 0, 128 * h.val] S1x1x256x128.size (in_rtile s b h)
/-- Batch row `b` received at stage `s`. -/
abbrev rrowR (s : Fin 2) (b : Fin 4) : Rect S2x4x256x1024 :=
  Rect.unit (s := S2x4x256x1024) ![s.val, b.val, 0, 0] S1x1x256x1024.size (in_rrow s b)
/-- The maxima and sums of batch row `b` received at stage `s`. -/
abbrev rmlR (s : Fin 2) (b : Fin 4) : Rect S2x4x256x16 :=
  Rect.unit (s := S2x4x256x16) ![s.val, b.val, 0, 0] S1x1x256x16.size (in_rml s b)
/-- Slot `s` of a ring. -/
abbrev slotR (s : Fin 4) : Rect S4x1024x128 := Rect.unit (s := S4x1024x128) ![s.val, 0, 0] S1x1024x128.size (in_slot s)
/-- All of a weight matrix. -/
abbrev fullR : Rect S1024x1024 := Rect.unit (s := S1024x1024) ![0, 0] S1024x1024.size in_full

theorem packed_tile (b : Fin 4) (h : Fin 8) : (tileR b h).PackedRows (EltTy.packing .bf16) := by
  revert b h; decide
theorem packed_row (b : Fin 4) : (rowR b).PackedRows (EltTy.packing .bf16) := by
  revert b; decide
theorem packed_full : fullR.PackedRows (EltTy.packing .bf16) := by decide
theorem words_row (b : Fin 4) : (rowR b).WholeWords (EltTy.packing .bf16) := by
  revert b; decide
theorem words_rrow (s : Fin 2) (b : Fin 4) : (rrowR s b).WholeWords (EltTy.packing .bf16) := by
  revert s b; decide

/-! ## The views of the transfers, and their semaphores -/

/-- Slot `s` of the key ring. -/
abbrev kSlot (s : Fin 4) : Memref sig .tc .vmem S1024x128 .f32 := (kM.slice (slotR s) (fun _ => rfl)).squeeze S1024x128 squeezes_S1x1024x128_S1024x128
/-- Slot `s` of the value ring. -/
abbrev vSlot (s : Fin 4) : Memref sig .tc .vmem S1024x128 .f32 := (vM.slice (slotR s) (fun _ => rfl)).squeeze S1024x128 squeezes_S1x1024x128_S1024x128
/-- The keys of one batch row and head, at the offsets `off`. -/
abbrev kSrc (off : Fin 4 → ℕ) (h : ∀ a, off a + S1x1024x1x128.size a ≤ S4x1024x8x128.size a) : Memref sig .tc .hbm S1024x128 .f32 :=
  (KM.slice (Rect.unit (s := S4x1024x8x128) off S1x1024x1x128.size h) (fun _ => rfl)).squeeze S1024x128 squeezes_S1x1024x1x128_S1024x128
/-- The values of one batch row and head, at the offsets `off`. -/
abbrev vSrc (off : Fin 4 → ℕ) (h : ∀ a, off a + S1x1024x1x128.size a ≤ S4x1024x8x128.size a) : Memref sig .tc .hbm S1024x128 .f32 :=
  (VM.slice (Rect.unit (s := S4x1024x8x128) off S1x1024x1x128.size h) (fun _ => rfl)).squeeze S1024x128 squeezes_S1x1024x1x128_S1024x128
/-- The semaphore of slot `s` of the key ring (`j = 0`) or of the value ring (`j = 1`). -/
abbrev kvSem (s : Fin 4) (j : Fin 2) : DmaSem sig := ((cc0_scratch9.slice (Rect.unit (s := S4x2) ![s.val, j.val] S1x1.size (in_kvsem s j))).squeeze S_ squeezes_S1x1_S_).sem
/-- The semaphore on which the departure of exchange `i` completes. -/
abbrev sendSem (i : Fin 16) : DmaSem sig := ((cc0_scratch10.slice (Rect.unit (s := S16) ![i.val] S1.size (in_sem i))).squeeze S_ squeezes_S1_S_).sem
/-- The semaphore on which the arrival of exchange `i` completes. -/
abbrev recvSem (i : Fin 16) : DmaSem sig := ((cc0_scratch11.slice (Rect.unit (s := S16) ![i.val] S1.size (in_sem i))).squeeze S_ squeezes_S1_S_).sem
/-- Batch row `b` of the send buffer. -/
abbrev qRow (b : Fin 4) : Memref sig .tc .vmem S1x256x1024 .bf16 := qM.slice (rowR b) (fun _ => rfl)
/-- Batch row `b` of the maxima and sums. -/
abbrev mlRow (b : Fin 4) : Memref sig .tc .vmem S1x256x16 .f32 := mlM.slice (mlrowR b) (fun _ => rfl)
/-- Where batch row `b` arrives at stage `s`. -/
abbrev orRow (s : Fin 2) (b : Fin 4) : Memref sig .tc .vmem S1x256x1024 .bf16 := (orM.slice (rrowR s b) (fun _ => rfl)).squeeze S1x256x1024 squeezes_S1x1x256x1024_S1x256x1024
/-- Where the maxima and sums of batch row `b` arrive at stage `s`. -/
abbrev mlrRow (s : Fin 2) (b : Fin 4) : Memref sig .tc .vmem S1x256x16 .f32 := (mlrM.slice (rmlR s b) (fun _ => rfl)).squeeze S1x256x16 squeezes_S1x1x256x16_S1x256x16
/-- The exchange number of batch row `b` at stage `s`: the partial outputs (`j = 0`), the maxima and sums (`j = 1`). -/
abbrev exId (s : Fin 2) (b : Fin 4) (j : Fin 2) : Fin 16 := ⟨8 * s.val + 2 * b.val + j.val, by omega⟩

/-! ## The values -/

section Values
variable (a : Vec F S1x256x16 .f32) (b : Vec F S1x1x256x16 .f32)

/-- One half of a row of maxima and sums: the maxima of the row's own. -/
def ownM : FVec F S256x8 .f32 := extractStridedSlice S256x8 ![0, 0] (shapeCast S256x16 a shapeCasts_S1x256x16_S256x16) slices_S256x16_o0_0_S256x8
/-- The sums of the row's own. -/
def ownL : FVec F S256x8 .f32 := extractStridedSlice S256x8 ![0, 8] (shapeCast S256x16 a shapeCasts_S1x256x16_S256x16) slices_S256x16_o0_8_S256x8
/-- The maxima received. -/
def rcvM : FVec F S256x8 .f32 := extractStridedSlice S256x8 ![0, 0] (shapeCast S256x16 b shapeCasts_S1x1x256x16_S256x16) slices_S256x16_o0_0_S256x8
/-- The sums received. -/
def rcvL : FVec F S256x8 .f32 := extractStridedSlice S256x8 ![0, 8] (shapeCast S256x16 b shapeCasts_S1x1x256x16_S256x16) slices_S256x16_o0_8_S256x8
/-- The merged maxima. -/
def newM : FVec F S256x8 .f32 := maximumf (ownM a) (rcvM b)
/-- The weight of the row's own part. -/
def wgtA : FVec F S256x8 .f32 := exp (subf (ownM a) (newM a b))
/-- The weight of the part received. -/
def wgtB : FVec F S256x8 .f32 := exp (subf (rcvM b) (newM a b))
/-- The merged sums. -/
def newL : FVec F S256x8 .f32 := addf (mulf (ownL a) (wgtA a b)) (mulf (rcvL b) (wgtB a b))
/-- Eight columns as they are stored. -/
def as8 (v : FVec F S256x8 .f32) : FVec F S1x256x8 .f32 := shapeCast S1x256x8 v shapeCasts_S256x8_S1x256x8

/-- One head's two parts, each at its weight, added. -/
def mix (o : Vec F S1x256x128 .f32) (wa : Vec F S1x256x1 .f32) (r : Vec F S1x1x256x128 .bf16) (wb : Vec F S1x256x1 .f32) : FVec F S256x128 .f32 :=
  addf (mulf (shapeCast S256x128 o shapeCasts_S1x256x128_S256x128) (broadcastTo S256x128 (shapeCast S256x1 wa shapeCasts_S1x256x1_S256x1) broadcasts_S256x1_S256x128))
    (mulf (extf .f32 (shapeCast S256x128 r shapeCasts_S1x1x256x128_S256x128 : FVec F S256x128 .bf16) bitsLt_bf16_f32)
      (broadcastTo S256x128 (shapeCast S256x1 wb shapeCasts_S1x256x1_S256x1) broadcasts_S256x1_S256x128))
/-- A head's columns as they are stored. -/
def tileF (v : FVec F S256x128 .f32) : FVec F S1x256x128 .f32 := shapeCast S1x256x128 v shapeCasts_S256x128_S1x256x128
/-- A head's columns rounded, as they are stored. -/
def tileB (v : FVec F S256x128 .f32) : FVec F S1x256x128 .bf16 := shapeCast S1x256x128 (truncf .bf16 v bitsLt_bf16_f32) shapeCasts_S256x128_S1x256x128
/-- The output projection of a batch row. -/
def proj (q : Vec F S1x256x1024 .bf16) (w : Vec F S1024x1024 .bf16) : FVec F S1x256x1024 .f32 := k0_pay1 (k0_pay560 q w)
end Values

/-! ## The program -/

/-- A program of the kernel's effects. -/
abbrev PP (F : FTy → Type) [FloatOps F] (α : Type) : Type 1 := Prog (TpuEff nD τ sig (Elt F) Λ₀ .tc) α

/-- Run one program per entry of a list, in order. -/
def seqL {α : Type} : List α → (α → PP F PUnit) → PP F PUnit
  | [], _ => pure ⟨⟩
  | a :: l, f => do f a; seqL l f

/-- Announce this device to its two partners, and wait for theirs. -/
def barrier (p p' : Dev nD) : PP F PUnit := do
  semSignalWord p (SemArray.scalar (sig.barrier 0 rfl) : Sems sig S_).sem 1#32
  semSignalWord p' (SemArray.scalar (sig.barrier 0 rfl) : Sems sig S_).sem 1#32
  semWaitWord (SemArray.scalar (sig.barrier 0 rfl) : Sems sig S_).sem 2#32

/-- Start the copies of one head's keys and values into slot `s`. -/
def startKV (s : Fin 4) (off : Fin 4 → ℕ) (h : ∀ a, off a + S1x1024x1x128.size a ≤ S4x1024x8x128.size a) : PP F PUnit := do
  Prog.lift (.enqueueDma (kSrc off h) (.here (kSlot s)) (.dma (kvSem s 0)) ((View.wordExact_bits rfl).reshape _ _) ((View.wordExact_bits rfl).reshape _ _) ⟨Or.inl rfl, trivial⟩)
  Prog.lift (.enqueueDma (vSrc off h) (.here (vSlot s)) (.dma (kvSem s 1)) ((View.wordExact_bits rfl).reshape _ _) ((View.wordExact_bits rfl).reshape _ _) ⟨Or.inl rfl, trivial⟩)

/-- Wait for the copies of one head's keys and values into slot `s`. -/
def waitKV (s : Fin 4) (off : Fin 4 → ℕ) (h : ∀ a, off a + S1x1024x1x128.size a ≤ S4x1024x8x128.size a) : PP F PUnit := do
  Prog.lift (.waitDma2 (kvSem s 0) (kSrc off h) (kSlot s) ((View.wordExact_bits rfl).reshape _ _) ((View.wordExact_bits rfl).reshape _ _))
  Prog.lift (.waitDma2 (kvSem s 1) (vSrc off h) (vSlot s) ((View.wordExact_bits rfl).reshape _ _) ((View.wordExact_bits rfl).reshape _ _))

/-- Round a weight matrix into the buffer in use. -/
def loadW (src : Memref sig .tc .vmem S1024x1024 .f32) : PP F PUnit := do
  let w : Vec F S1024x1024 .f32 ← Prog.lift (.load src fullR.toLoadRect (View.loadsAt_vmem h_S1024x1024))
  let _ : Vec F S1024x1024 .bf16 ← Prog.lift (.load wM fullR.toLoadRect (View.loadsAt_vmem h_S1024x1024))
  Prog.lift (.store wM fullR (k0_pay2 w) Finset.univ (View.stores_vmem h_S1024x1024 ((Memref.isWhole_whole _).storeExact_slice rfl _ packed_full) (fun _ => rfl)) (.inl rfl))

/-- The scaled queries of batch row `b`. -/
def qproj (b : Fin 4) : PP F PUnit := do
  let x : Vec F S1x256x1024 .f32 ← Prog.lift (.load xM (rowR b).toLoadRect (View.loadsAt_vmem h_S1x256x1024))
  let w : Vec F S1024x1024 .bf16 ← Prog.lift (.load wM fullR.toLoadRect (View.loadsAt_vmem h_S1024x1024))
  let _ : Vec F S1x256x1024 .bf16 ← Prog.lift (.load qM (rowR b).toLoadRect (View.loadsAt_vmem h_S1x256x1024))
  Prog.lift (.store qM (rowR b) (k0_pay3 x w) Finset.univ (View.stores_vmem h_S1x256x1024 ((Memref.isWhole_whole _).storeExact_slice rfl _ (packed_row b)) (fun _ => rfl)) (.inl rfl))

/-- One head's attention over this device's keys and values, which stand in slot `s`. -/
def attend (b : Fin 4) (h : Fin 8) (s : Fin 4) : PP F PUnit := do
  let q : Vec F S1x256x128 .bf16 ← Prog.lift (.load qM (tileR b h).toLoadRect (View.loadsAt_vmem h_S1x256x128))
  let k : Vec F S1x1024x128 .f32 ← Prog.lift (.load kM (slotR s).toLoadRect (View.loadsAt_vmem h_S1x1024x128))
  let v : Vec F S1x1024x128 .f32 ← Prog.lift (.load vM (slotR s).toLoadRect (View.loadsAt_vmem h_S1x1024x128))
  let _ : Vec F S1x256x128 .f32 ← Prog.lift (.load oM (tileR b h).toLoadRect (View.loadsAt_vmem h_S1x256x128))
  Prog.lift (.store oM (tileR b h) (k0_pay8 q k v) Finset.univ (View.stores_vmem_bits_univ h_S1x256x128 rfl) (.inl rfl))
  let _ : Vec F S1x256x128 .bf16 ← Prog.lift (.load qM (tileR b h).toLoadRect (View.loadsAt_vmem h_S1x256x128))
  Prog.lift (.store qM (tileR b h) (k0_pay9 q k v) Finset.univ (View.stores_vmem h_S1x256x128 ((Memref.isWhole_whole _).storeExact_slice rfl _ (packed_tile b h)) (fun _ => rfl)) (.inl rfl))
  let _ : Vec F S1x256x1 .f32 ← Prog.lift (.load mlM (colR b ⟨h.val, by omega⟩).toLoadRect (View.loadsAt_vmem h_S1x256x1))
  Prog.lift (.store mlM (colR b ⟨h.val, by omega⟩) (k0_pay10 q k) Finset.univ (View.stores_vmem_bits_univ h_S1x256x1 rfl) (.inl rfl))
  let _ : Vec F S1x256x1 .f32 ← Prog.lift (.load mlM (colR b ⟨8 + h.val, by omega⟩).toLoadRect (View.loadsAt_vmem h_S1x256x1))
  Prog.lift (.store mlM (colR b ⟨8 + h.val, by omega⟩) (k0_pay11 q k) Finset.univ (View.stores_vmem_bits_univ h_S1x256x1 rfl) (.inl rfl))

/-- Start exchange `s` of batch row `b` with devices `d`, `d'` (the same partner, computed twice). -/
def startEx (s : Fin 2) (b : Fin 4) (d d' : Dev nD) : PP F PUnit := do
  Prog.lift (.enqueueDma (qRow b) (.remote (Dev.tc d) (orRow s b) (.dma (sendSem (exId s b 0)))) (.dma (recvSem (exId s b 0)))
    ((Memref.isWhole_whole _).wordExact_slice rfl _ (words_row b)) (((Memref.isWhole_whole _).wordExact_slice rfl _ (words_rrow s b)).reshape _ _) ⟨⟨rfl, Or.inl rfl⟩, trivial⟩)
  Prog.lift (.enqueueDma (mlRow b) (.remote (Dev.tc d') (mlrRow s b) (.dma (sendSem (exId s b 1)))) (.dma (recvSem (exId s b 1)))
    (View.wordExact_bits rfl) ((View.wordExact_bits rfl).reshape _ _) ⟨⟨rfl, Or.inl rfl⟩, trivial⟩)

/-- Wait for the arrivals and the departures of exchange `s` of batch row `b`. -/
def waitEx (s : Fin 2) (b : Fin 4) : PP F PUnit := do
  Prog.lift (.waitDma2 (recvSem (exId s b 0)) (qRow b) (orRow s b) ((Memref.isWhole_whole _).wordExact_slice rfl _ (words_row b)) (((Memref.isWhole_whole _).wordExact_slice rfl _ (words_rrow s b)).reshape _ _))
  Prog.lift (.waitDma2 (recvSem (exId s b 1)) (mlRow b) (mlrRow s b) (View.wordExact_bits rfl) ((View.wordExact_bits rfl).reshape _ _))
  Prog.lift (.waitDma2 (sendSem (exId s b 0)) (orRow s b) (qRow b) (((Memref.isWhole_whole _).wordExact_slice rfl _ (words_rrow s b)).reshape _ _) ((Memref.isWhole_whole _).wordExact_slice rfl _ (words_row b)))
  Prog.lift (.waitDma2 (sendSem (exId s b 1)) (mlrRow s b) (mlRow b) ((View.wordExact_bits rfl).reshape _ _) (View.wordExact_bits rfl))

/-- The merge of one head at stage 0: the mixed part is kept, and rounded to be sent. -/
def mixHead0 (b : Fin 4) (h : Fin 8) : PP F PUnit := do
  let o : Vec F S1x256x128 .f32 ← Prog.lift (.load oM (tileR b h).toLoadRect (View.loadsAt_vmem h_S1x256x128))
  let wa : Vec F S1x256x1 .f32 ← Prog.lift (.load aM (colR b ⟨h.val, by omega⟩).toLoadRect (View.loadsAt_vmem h_S1x256x1))
  let r : Vec F S1x1x256x128 .bf16 ← Prog.lift (.load orM (rtileR 0 b h).toLoadRect (View.loadsAt_vmem h_S1x1x256x128))
  let wb : Vec F S1x256x1 .f32 ← Prog.lift (.load aM (colR b ⟨8 + h.val, by omega⟩).toLoadRect (View.loadsAt_vmem h_S1x256x1))
  let _ : Vec F S1x256x128 .f32 ← Prog.lift (.load oM (tileR b h).toLoadRect (View.loadsAt_vmem h_S1x256x128))
  Prog.lift (.store oM (tileR b h) (tileF (mix o wa r wb)) Finset.univ (View.stores_vmem_bits_univ h_S1x256x128 rfl) (.inl rfl))
  let _ : Vec F S1x256x128 .bf16 ← Prog.lift (.load qM (tileR b h).toLoadRect (View.loadsAt_vmem h_S1x256x128))
  Prog.lift (.store qM (tileR b h) (tileB (mix o wa r wb)) Finset.univ (View.stores_vmem h_S1x256x128 ((Memref.isWhole_whole _).storeExact_slice rfl _ (packed_tile b h)) (fun _ => rfl)) (.inl rfl))

/-- The weights of the merge at stage 0, and the merged maxima and sums. -/
def weights0 (b : Fin 4) : PP F PUnit := do
  let ml : Vec F S1x256x16 .f32 ← Prog.lift (.load mlM (mlrowR b).toLoadRect (View.loadsAt_vmem h_S1x256x16))
  let mr : Vec F S1x1x256x16 .f32 ← Prog.lift (.load mlrM (rmlR 0 b).toLoadRect (View.loadsAt_vmem h_S1x1x256x16))
  let _ : Vec F S1x256x8 .f32 ← Prog.lift (.load mlM (halfR b 0).toLoadRect (View.loadsAt_vmem h_S1x256x8))
  Prog.lift (.store mlM (halfR b 0) (as8 (newM ml mr)) Finset.univ (View.stores_vmem_bits_univ h_S1x256x8 rfl) (.inl rfl))
  let _ : Vec F S1x256x8 .f32 ← Prog.lift (.load mlM (halfR b 1).toLoadRect (View.loadsAt_vmem h_S1x256x8))
  Prog.lift (.store mlM (halfR b 1) (as8 (newL ml mr)) Finset.univ (View.stores_vmem_bits_univ h_S1x256x8 rfl) (.inl rfl))
  let _ : Vec F S1x256x8 .f32 ← Prog.lift (.load aM (halfR b 0).toLoadRect (View.loadsAt_vmem h_S1x256x8))
  Prog.lift (.store aM (halfR b 0) (as8 (wgtA ml mr)) Finset.univ (View.stores_vmem_bits_univ h_S1x256x8 rfl) (.inl rfl))
  let _ : Vec F S1x256x8 .f32 ← Prog.lift (.load aM (halfR b 1).toLoadRect (View.loadsAt_vmem h_S1x256x8))
  Prog.lift (.store aM (halfR b 1) (as8 (wgtB ml mr)) Finset.univ (View.stores_vmem_bits_univ h_S1x256x8 rfl) (.inl rfl))

/-- The merge of one head at stage 1: the mixed part, rounded. -/
def mixHead1 (b : Fin 4) (h : Fin 8) : PP F PUnit := do
  let o : Vec F S1x256x128 .f32 ← Prog.lift (.load oM (tileR b h).toLoadRect (View.loadsAt_vmem h_S1x256x128))
  let wa : Vec F S1x256x1 .f32 ← Prog.lift (.load aM (colR b ⟨h.val, by omega⟩).toLoadRect (View.loadsAt_vmem h_S1x256x1))
  let r : Vec F S1x1x256x128 .bf16 ← Prog.lift (.load orM (rtileR 1 b h).toLoadRect (View.loadsAt_vmem h_S1x1x256x128))
  let wb : Vec F S1x256x1 .f32 ← Prog.lift (.load aM (colR b ⟨8 + h.val, by omega⟩).toLoadRect (View.loadsAt_vmem h_S1x256x1))
  let _ : Vec F S1x256x128 .bf16 ← Prog.lift (.load qM (tileR b h).toLoadRect (View.loadsAt_vmem h_S1x256x128))
  Prog.lift (.store qM (tileR b h) (tileB (mix o wa r wb)) Finset.univ (View.stores_vmem h_S1x256x128 ((Memref.isWhole_whole _).storeExact_slice rfl _ (packed_tile b h)) (fun _ => rfl)) (.inl rfl))

/-- The weights of the merge at stage 1, each already divided by the merged sum. -/
def weights1 (b : Fin 4) : PP F PUnit := do
  let ml : Vec F S1x256x16 .f32 ← Prog.lift (.load mlM (mlrowR b).toLoadRect (View.loadsAt_vmem h_S1x256x16))
  let mr : Vec F S1x1x256x16 .f32 ← Prog.lift (.load mlrM (rmlR 1 b).toLoadRect (View.loadsAt_vmem h_S1x1x256x16))
  let _ : Vec F S1x256x8 .f32 ← Prog.lift (.load aM (halfR b 0).toLoadRect (View.loadsAt_vmem h_S1x256x8))
  Prog.lift (.store aM (halfR b 0) (as8 (divf (wgtA ml mr) (newL ml mr))) Finset.univ (View.stores_vmem_bits_univ h_S1x256x8 rfl) (.inl rfl))
  let _ : Vec F S1x256x8 .f32 ← Prog.lift (.load aM (halfR b 1).toLoadRect (View.loadsAt_vmem h_S1x256x8))
  Prog.lift (.store aM (halfR b 1) (as8 (divf (wgtB ml mr) (newL ml mr))) Finset.univ (View.stores_vmem_bits_univ h_S1x256x8 rfl) (.inl rfl))

/-- The output projection of batch row `b`. -/
def outproj (b : Fin 4) : PP F PUnit := do
  let q : Vec F S1x256x1024 .bf16 ← Prog.lift (.load qM (rowR b).toLoadRect (View.loadsAt_vmem h_S1x256x1024))
  let w : Vec F S1024x1024 .bf16 ← Prog.lift (.load wM fullR.toLoadRect (View.loadsAt_vmem h_S1024x1024))
  let _ : Vec F S1x256x1024 .f32 ← Prog.lift (.load outM (rowR b).toLoadRect (View.loadsAt_vmem h_S1x256x1024))
  Prog.lift (.store outM (rowR b) (proj q w) Finset.univ (View.stores_vmem_bits_univ h_S1x256x1024 rfl) (.inl rfl))

/-- The heads in order. -/
abbrev heads : List (Fin 8) := [0, 1, 2, 3, 4, 5, 6, 7]

/-- The condition under which the head at step `i` starts a prefetch. -/
def preCond : Fin 32 → BitVec 1 := ![k0_cond1, k0_cond2, k0_cond3, k0_cond4, k0_cond5, k0_cond6, k0_cond7, k0_cond8, k0_cond9,
  k0_cond10, k0_cond11, k0_cond12, k0_cond13, k0_cond14, k0_cond15, k0_cond16, k0_cond17, k0_cond18, k0_cond19, k0_cond20, k0_cond21,
  k0_cond22, k0_cond23, k0_cond24, k0_cond25, k0_cond26, k0_cond27, k0_cond28, k0_cond29, k0_cond30, k0_cond31, k0_cond32]
/-- The offsets from which the head at step `i` prefetches. -/
def preOff : Fin 32 → Fin 4 → ℕ := ![k0_off1, k0_off3, k0_off4, k0_off5, k0_off6, k0_off7, k0_off8, k0_off9, k0_off10, k0_off11, k0_off12,
  k0_off13, k0_off14, k0_off15, k0_off16, k0_off17, k0_off18, k0_off19, k0_off20, k0_off21, k0_off22, k0_off23, k0_off24, k0_off25,
  k0_off26, k0_off27, k0_off28, k0_off29, k0_off30, k0_off31, k0_off32, k0_off33]
theorem preOff_inb : ∀ i : Fin 32, preCond i = 1#1 → ∀ a, preOff i a + S1x1024x1x128.size a ≤ S4x1024x8x128.size a := by
  decide +kernel

/-- The step of head `h` of batch row `b`. -/
abbrev stepOf (b : Fin 4) (h : Fin 8) : Fin 32 := ⟨8 * b.val + h.val, by omega⟩
/-- The slot of head `h`. -/
abbrev slotOf (h : Fin 8) : Fin 4 := ⟨h.val % 4, by omega⟩
/-- The slot into which head `h` prefetches. -/
abbrev preSlot (h : Fin 8) : Fin 4 := ⟨(h.val + 3) % 4, by omega⟩

/-- The prefetch that the head at step `i` starts, where there is a head three steps on. -/
def prefetch (i : Fin 32) (s : Fin 4) : PP F PUnit :=
  if hc : preCond i = 1#1 then startKV s (preOff i) (preOff_inb i hc) else pure ⟨⟩

/-- One head. -/
def head (b : Fin 4) (h : Fin 8) : PP F PUnit := do
  prefetch (stepOf b h) (preSlot h)
  waitKV (slotOf h) (k0_off2 (BitVec.ofNat 32 b.val) (BitVec.ofNat 32 h.val)) (k0_off2_inb b h)
  attend b h (slotOf h)

/-- One batch row. -/
def batch (b : Fin 4) : PP F PUnit := do
  qproj b
  seqL heads (head b)

/-- The end of stage 0 of batch row `b`, and the start of its stage 1. -/
def merge0 (b : Fin 4) (d d' : Dev nD) : PP F PUnit := do
  waitEx 0 b
  weights0 b
  seqL heads (mixHead0 b)
  startEx 1 b d d'

/-- The end of stage 1 of batch row `b`. -/
def merge1 (b : Fin 4) : PP F PUnit := do
  waitEx 1 b
  weights1 b
  seqL heads (mixHead1 b)
  outproj b

/-- The kernel's body. -/
def prog : PP F PUnit := do
  let d0 : Dev nD ← Prog.lift .deviceId
  barrier ⟨k0_dev1 d0, k0_dev1_lt d0⟩ ⟨k0_dev2 d0, k0_dev2_lt d0⟩
  startKV 0 ![0, 0, 0, 0] inb_S4x1024x8x128_S1x1024x1x128_0_0_0_0
  startKV 1 ![0, 0, 1, 0] inb_S4x1024x8x128_S1x1024x1x128_0_0_1_0
  startKV 2 ![0, 0, 2, 0] inb_S4x1024x8x128_S1x1024x1x128_0_0_2_0
  loadW wqM
  batch 0
  startEx 0 0 ⟨k0_dev3 d0, k0_dev3_lt d0⟩ ⟨k0_dev4 d0, k0_dev4_lt d0⟩
  batch 1
  startEx 0 1 ⟨k0_dev5 d0, k0_dev5_lt d0⟩ ⟨k0_dev6 d0, k0_dev6_lt d0⟩
  merge0 0 ⟨k0_dev7 d0, k0_dev7_lt d0⟩ ⟨k0_dev8 d0, k0_dev8_lt d0⟩
  batch 2
  startEx 0 2 ⟨k0_dev9 d0, k0_dev9_lt d0⟩ ⟨k0_dev10 d0, k0_dev10_lt d0⟩
  merge0 1 ⟨k0_dev11 d0, k0_dev11_lt d0⟩ ⟨k0_dev12 d0, k0_dev12_lt d0⟩
  batch 3
  startEx 0 3 ⟨k0_dev13 d0, k0_dev13_lt d0⟩ ⟨k0_dev14 d0, k0_dev14_lt d0⟩
  merge0 2 ⟨k0_dev15 d0, k0_dev15_lt d0⟩ ⟨k0_dev16 d0, k0_dev16_lt d0⟩
  merge0 3 ⟨k0_dev17 d0, k0_dev17_lt d0⟩ ⟨k0_dev18 d0, k0_dev18_lt d0⟩
  loadW woM
  merge1 0
  merge1 1
  merge1 2
  merge1 3

end Cert.KernelIdeal.Body

end
-- ==== Proof.Values.lean ====
/- What every buffer of the kernel holds at each stage of the run, as whole-buffer functions of the devices'
   inputs, at any float values `F`; and the index arithmetic of the rectangles through which they are written. -/
module

public import proofs.«01_k».proof.Proof.Struct
public import Idealize.ShloMosaic.Lib.ValueIdxCore

@[expose] public section

noncomputable section

namespace Cert.KernelIdeal.Body

open Idealize.ShloMosaic Idealize.ShloMosaic.TcCoe Idealize.SL.Sem
open Cert.KernelIdeal.Gen Idealize.ShloMosaic.ValueIdx

variable {F : FTy → Type} [FloatOps F]

/-! ## Functions given by blocks -/

section Blocks
variable {α : Type}

/-- The part of a whole-buffer function that a rectangle reads. -/
def sub {s : Shape} (r : Rect s) (f : s.Idx → α) : r.shape.Idx → α := fun x => f (r.emb x)

/-- The buffer whose batch row `b` is `P b`. -/
def rowFn (P : Fin 4 → S1x256x1024.Idx → α) : S4x256x1024.Idx → α := fun i => P (i 0) (ix3 (0 : Fin 1) (i 1) (i 2))
/-- The buffer whose tile of batch row `b` and head `h` is `P b h`. -/
def tileFn (P : Fin 4 → Fin 8 → S1x256x128.Idx → α) : S4x256x1024.Idx → α := fun i =>
  P (i 0) ⟨(i 2).val / 128, Nat.div_lt_of_lt_mul (i 2).isLt⟩ (ix3 (0 : Fin 1) (i 1) (⟨(i 2).val % 128, Nat.mod_lt _ (by decide)⟩ : Fin 128))
/-- The buffer whose column `j` of batch row `b` is `P b j`. -/
def colFn (P : Fin 4 → Fin 16 → S1x256x1.Idx → α) : S4x256x16.Idx → α := fun i => P (i 0) (i 2) (ix3 (0 : Fin 1) (i 1) (0 : Fin 1))
/-- The buffer whose half `g` of batch row `b` is `P b g`. -/
def halfFn (P : Fin 4 → Fin 2 → S1x256x8.Idx → α) : S4x256x16.Idx → α := fun i =>
  P (i 0) ⟨(i 2).val / 8, Nat.div_lt_of_lt_mul (i 2).isLt⟩ (ix3 (0 : Fin 1) (i 1) (⟨(i 2).val % 8, Nat.mod_lt _ (by decide)⟩ : Fin 8))
/-- The two-plane buffer whose plane `s` is `P s`. -/
def planeFn (P : Fin 2 → S4x256x1024.Idx → α) : S2x4x256x1024.Idx → α := fun i => P (i 0) (ix3 (i 1) (i 2) (i 3))
/-- The two-plane buffer of maxima and sums whose plane `s` is `P s`. -/
def mlPlaneFn (P : Fin 2 → S4x256x16.Idx → α) : S2x4x256x16.Idx → α := fun i => P (i 0) (ix3 (i 1) (i 2) (i 3))

/-- The first `h` heads' columns from `f`, the others from `g`. -/
def upto (h : ℕ) (f g : S4x256x1024.Idx → α) : S4x256x1024.Idx → α := fun i => if (i 2).val < 128 * h then f i else g i
/-- The first `h` heads' maxima and the first `l` heads' sums from `f`, the others from `g`. -/
def uptoCols (h l : ℕ) (f g : S4x256x16.Idx → α) : S4x256x16.Idx → α := fun i =>
  if (i 2).val % 8 < (if (i 2).val < 8 then h else l) then f i else g i
/-- The first `n` halves from `f`, the others from `g`. -/
def uptoHalf (n : ℕ) (f g : S4x256x16.Idx → α) : S4x256x16.Idx → α := fun i => if (i 2).val < 8 * n then f i else g i

end Blocks

/-! ## The contents -/

/-- One device's inputs: the rows, the two weight matrices, its keys and its values. -/
structure In (F : FTy → Type) [FloatOps F] where
  /-- The input rows. -/
  x : Vec F S4x256x1024 .f32
  /-- The query weights. -/
  wq : Vec F S1024x1024 .f32
  /-- The output weights. -/
  wo : Vec F S1024x1024 .f32
  /-- The device's keys. -/
  K : Vec F S4x1024x8x128 .f32
  /-- The device's values. -/
  V : Vec F S4x1024x8x128 .f32

/-- The partner of device `c` at stage `s`: `c` with its last bit flipped, then the device `3 - c`. -/
def par (s : Fin 2) (c : Dev nD) : Dev nD := if s = 0 then ⟨c.val ^^^ 1, by revert c; decide⟩ else ⟨3 - c.val, by revert c; decide⟩

variable (I : Dev nD → In F) (c : Dev nD)

/-- The rounded query weights. -/
def wqB : Vec F S1024x1024 .bf16 := k0_pay2 (I c).wq
/-- The rounded output weights. -/
def woB : Vec F S1024x1024 .bf16 := k0_pay2 (I c).wo
/-- The scaled queries. -/
def Q0 : S4x256x1024.Idx → Elt F .bf16 := rowFn fun b => k0_pay3 (sub (rowR b) (I c).x) (wqB I c)
/-- A slot holding the keys of batch row `b` and head `h` (every slot's plane reads the same). -/
def kAt (b : Fin 4) (h : Fin 8) : S4x1024x128.Idx → Elt F .f32 := fun i => (I c).K (ix4 b (i 1) h (i 2))
/-- A slot holding the values of batch row `b` and head `h`. -/
def vAt (b : Fin 4) (h : Fin 8) : S4x1024x128.Idx → Elt F .f32 := fun i => (I c).V (ix4 b (i 1) h (i 2))
/-- The keys of batch row `b` and head `h`. -/
def kB (b : Fin 4) (h : Fin 8) : Vec F S1x1024x128 .f32 := fun i => (I c).K (ix4 b (i 1) h (i 2))
/-- The values of batch row `b` and head `h`. -/
def vB (b : Fin 4) (h : Fin 8) : Vec F S1x1024x128 .f32 := fun i => (I c).V (ix4 b (i 1) h (i 2))
/-- The scaled queries of batch row `b` and head `h`. -/
def qT (b : Fin 4) (h : Fin 8) : Vec F S1x256x128 .bf16 := sub (tileR b h) (Q0 I c)
/-- The device's own partial outputs. -/
def O0f : S4x256x1024.Idx → Elt F .f32 := tileFn fun b h => k0_pay8 (qT I c b h) (kB I c b h) (vB I c b h)
/-- The same, rounded. -/
def O0b : S4x256x1024.Idx → Elt F .bf16 := tileFn fun b h => k0_pay9 (qT I c b h) (kB I c b h) (vB I c b h)
/-- The device's own maxima and sums. -/
def ML0 : S4x256x16.Idx → Elt F .f32 := colFn fun b j =>
  if hj : j.val < 8 then k0_pay10 (qT I c b ⟨j.val, hj⟩) (kB I c b ⟨j.val, hj⟩)
  else k0_pay11 (qT I c b ⟨j.val - 8, by omega⟩) (kB I c b ⟨j.val - 8, by omega⟩)

/-- One row of maxima and sums. -/
def mlOf (f : S4x256x16.Idx → Elt F .f32) (b : Fin 4) : Vec F S1x256x16 .f32 := sub (mlrowR b) f
/-- One row of maxima and sums as it is received. -/
def mlRcv (f : S4x256x16.Idx → Elt F .f32) (b : Fin 4) : Vec F S1x1x256x16 .f32 := fun i => f (ix3 b (i 2) (i 3))
/-- One tile of partial outputs as it is received. -/
def tRcv (f : S4x256x1024.Idx → Elt F .bf16) (b : Fin 4) (h : Fin 8) : Vec F S1x1x256x128 .bf16 := fun i =>
  f (ix3 b (i 2) (⟨128 * h.val + (i 3).val, by have h3 : (i 3).val < 128 := (i 3).isLt; have := h.isLt; omega⟩ : Fin 1024))

/-- The maxima and sums merged over the first pair of devices. -/
def ML1 : S4x256x16.Idx → Elt F .f32 := halfFn fun b g =>
  if g = 0 then as8 (newM (mlOf (ML0 I c) b) (mlRcv (ML0 I (par 0 c)) b)) else as8 (newL (mlOf (ML0 I c) b) (mlRcv (ML0 I (par 0 c)) b))
/-- The weights of the first merge. -/
def A0 : S4x256x16.Idx → Elt F .f32 := halfFn fun b g =>
  if g = 0 then as8 (wgtA (mlOf (ML0 I c) b) (mlRcv (ML0 I (par 0 c)) b)) else as8 (wgtB (mlOf (ML0 I c) b) (mlRcv (ML0 I (par 0 c)) b))
/-- Column `h` of the weights: the weight of the device's own part. -/
def wA (f : S4x256x16.Idx → Elt F .f32) (b : Fin 4) (h : Fin 8) : Vec F S1x256x1 .f32 := sub (colR b ⟨h.val, by omega⟩) f
/-- Column `8 + h` of the weights: the weight of the part received. -/
def wB (f : S4x256x16.Idx → Elt F .f32) (b : Fin 4) (h : Fin 8) : Vec F S1x256x1 .f32 := sub (colR b ⟨8 + h.val, by omega⟩) f
/-- One tile merged over the first pair of devices. -/
def mix0 (b : Fin 4) (h : Fin 8) : FVec F S256x128 .f32 :=
  mix (sub (tileR b h) (O0f I c)) (wA (A0 I c) b h) (tRcv (O0b I (par 0 c)) b h) (wB (A0 I c) b h)
/-- The partial outputs merged over the first pair of devices. -/
def O1f : S4x256x1024.Idx → Elt F .f32 := tileFn fun b h => tileF (mix0 I c b h)
/-- The same, rounded. -/
def O1b : S4x256x1024.Idx → Elt F .bf16 := tileFn fun b h => tileB (mix0 I c b h)
/-- The weights of the second merge, each already divided by the merged sum. -/
def A1 : S4x256x16.Idx → Elt F .f32 := halfFn fun b g =>
  if g = 0 then as8 (divf (wgtA (mlOf (ML1 I c) b) (mlRcv (ML1 I (par 1 c)) b)) (newL (mlOf (ML1 I c) b) (mlRcv (ML1 I (par 1 c)) b)))
  else as8 (divf (wgtB (mlOf (ML1 I c) b) (mlRcv (ML1 I (par 1 c)) b)) (newL (mlOf (ML1 I c) b) (mlRcv (ML1 I (par 1 c)) b)))
/-- One tile merged over all four devices. -/
def mix1 (b : Fin 4) (h : Fin 8) : FVec F S256x128 .f32 :=
  mix (sub (tileR b h) (O1f I c)) (wA (A1 I c) b h) (tRcv (O1b I (par 1 c)) b h) (wB (A1 I c) b h)
/-- The normalised outputs, rounded. -/
def O2b : S4x256x1024.Idx → Elt F .bf16 := tileFn fun b h => tileB (mix1 I c b h)
/-- The result. -/
def OUT : S4x256x1024.Idx → Elt F .f32 := rowFn fun b => proj (sub (rowR b) (O2b I c)) (woB I c)

/-- What is sent at stage `s`: the rounded partial outputs. -/
def sentO (s : Fin 2) : S4x256x1024.Idx → Elt F .bf16 := if s = 0 then O0b I c else O1b I c
/-- What is sent at stage `s`: the maxima and sums. -/
def sentML (s : Fin 2) : S4x256x16.Idx → Elt F .f32 := if s = 0 then ML0 I c else ML1 I c
/-- What the landing buffer of partial outputs holds once everything has arrived. -/
def gOr : S2x4x256x1024.Idx → Elt F .bf16 := planeFn fun s => sentO I (par s c) s
/-- What the landing buffer of maxima and sums holds once everything has arrived. -/
def gMlr : S2x4x256x16.Idx → Elt F .f32 := mlPlaneFn fun s => sentML I (par s c) s

/-! ## Reading a block of a function given by blocks -/

section Index
variable {α : Type}

theorem emb_val {s : Shape} (off size : Fin s.rank → ℕ) (inb : ∀ a, off a + size a ≤ s.size a) (x : (Rect.unit (s := s) off size inb).shape.Idx) (a : Fin s.rank) :
    ((Rect.unit (s := s) off size inb).emb x a).val = off a + (x a).val := by
  rw [Rect.emb_apply]; simp [Rect.unit]

/-- A coordinate of an axis of one element is zero. -/
theorem fin1 {n : ℕ} (h : n = 1) (x : Fin n) : x.val = 0 := by have := x.isLt; omega

theorem row_emb (b : Fin 4) (x : S1x256x1024.Idx) : (rowR b).emb x = ix3 b (x 1) (x 2) := by
  refine (eq_ix3 _).trans ?_
  have h0 : (rowR b).emb x 0 = b := Fin.ext (by have := fin1 (n := 1) rfl (x 0); rw [emb_val]; simp; omega)
  have h1 : (rowR b).emb x 1 = x 1 := Fin.ext (by rw [emb_val]; simp)
  have h2 : (rowR b).emb x 2 = x 2 := Fin.ext (by rw [emb_val]; simp)
  rw [h0, h1, h2]; rfl

theorem tile_emb (b : Fin 4) (h : Fin 8) (x : S1x256x128.Idx) :
    (tileR b h).emb x = ix3 b (x 1) (⟨128 * h.val + (x 2).val, by have h3 : (x 2).val < 128 := (x 2).isLt; have := h.isLt; omega⟩ : Fin 1024) := by
  refine (eq_ix3 _).trans ?_
  have h0 : (tileR b h).emb x 0 = b := Fin.ext (by have := fin1 (n := 1) rfl (x 0); rw [emb_val]; simp; omega)
  have h1 : (tileR b h).emb x 1 = x 1 := Fin.ext (by rw [emb_val]; simp)
  have h2 : (tileR b h).emb x 2 = (⟨128 * h.val + (x 2).val, by have h3 : (x 2).val < 128 := (x 2).isLt; have := h.isLt; omega⟩ : Fin 1024) :=
    Fin.ext (by rw [emb_val]; simp)
  rw [h0, h1, h2]; rfl

theorem mlrow_emb (b : Fin 4) (x : S1x256x16.Idx) : (mlrowR b).emb x = ix3 b (x 1) (x 2) := by
  refine (eq_ix3 _).trans ?_
  have h0 : (mlrowR b).emb x 0 = b := Fin.ext (by have := fin1 (n := 1) rfl (x 0); rw [emb_val]; simp; omega)
  have h1 : (mlrowR b).emb x 1 = x 1 := Fin.ext (by rw [emb_val]; simp)
  have h2 : (mlrowR b).emb x 2 = x 2 := Fin.ext (by rw [emb_val]; simp)
  rw [h0, h1, h2]; rfl

theorem col_emb (b : Fin 4) (j : Fin 16) (x : S1x256x1.Idx) : (colR b j).emb x = ix3 b (x 1) j := by
  refine (eq_ix3 _).trans ?_
  have h0 : (colR b j).emb x 0 = b := Fin.ext (by have := fin1 (n := 1) rfl (x 0); rw [emb_val]; simp; omega)
  have h1 : (colR b j).emb x 1 = x 1 := Fin.ext (by rw [emb_val]; simp)
  have h2 : (colR b j).emb x 2 = j := Fin.ext (by have := fin1 (n := 1) rfl (x 2); rw [emb_val]; simp; omega)
  rw [h0, h1, h2]; rfl

theorem half_emb (b : Fin 4) (g : Fin 2) (x : S1x256x8.Idx) :
    (halfR b g).emb x = ix3 b (x 1) (⟨8 * g.val + (x 2).val, by have h3 : (x 2).val < 8 := (x 2).isLt; have := g.isLt; omega⟩ : Fin 16) := by
  refine (eq_ix3 _).trans ?_
  have h0 : (halfR b g).emb x 0 = b := Fin.ext (by have := fin1 (n := 1) rfl (x 0); rw [emb_val]; simp; omega)
  have h1 : (halfR b g).emb x 1 = x 1 := Fin.ext (by rw [emb_val]; simp)
  have h2 : (halfR b g).emb x 2 = (⟨8 * g.val + (x 2).val, by have h3 : (x 2).val < 8 := (x 2).isLt; have := g.isLt; omega⟩ : Fin 16) :=
    Fin.ext (by rw [emb_val]; simp)
  rw [h0, h1, h2]; rfl

theorem slot_emb (s : Fin 4) (x : S1x1024x128.Idx) : (slotR s).emb x = ix3 s (x 1) (x 2) := by
  refine (eq_ix3 _).trans ?_
  have h0 : (slotR s).emb x 0 = s := Fin.ext (by have := fin1 (n := 1) rfl (x 0); rw [emb_val]; simp; omega)
  have h1 : (slotR s).emb x 1 = x 1 := Fin.ext (by rw [emb_val]; simp)
  have h2 : (slotR s).emb x 2 = x 2 := Fin.ext (by rw [emb_val]; simp)
  rw [h0, h1, h2]; rfl

theorem rtile_emb (s : Fin 2) (b : Fin 4) (h : Fin 8) (x : S1x1x256x128.Idx) :
    (rtileR s b h).emb x = ix4 s b (x 2) (⟨128 * h.val + (x 3).val, by have h3 : (x 3).val < 128 := (x 3).isLt; have := h.isLt; omega⟩ : Fin 1024) := by
  refine (eq_ix4 _).trans ?_
  have h0 : (rtileR s b h).emb x 0 = s := Fin.ext (by have := fin1 (n := 1) rfl (x 0); rw [emb_val]; simp; omega)
  have h1 : (rtileR s b h).emb x 1 = b := Fin.ext (by have := fin1 (n := 1) rfl (x 1); rw [emb_val]; simp; omega)
  have h2 : (rtileR s b h).emb x 2 = x 2 := Fin.ext (by rw [emb_val]; simp)
  have h3 : (rtileR s b h).emb x 3 = (⟨128 * h.val + (x 3).val, by have h3 : (x 3).val < 128 := (x 3).isLt; have := h.isLt; omega⟩ : Fin 1024) :=
    Fin.ext (by rw [emb_val]; simp)
  rw [h0, h1, h2, h3]; rfl

theorem rrow_emb (s : Fin 2) (b : Fin 4) (x : S1x1x256x1024.Idx) : (rrowR s b).emb x = ix4 s b (x 2) (x 3) := by
  refine (eq_ix4 _).trans ?_
  have h0 : (rrowR s b).emb x 0 = s := Fin.ext (by have := fin1 (n := 1) rfl (x 0); rw [emb_val]; simp; omega)
  have h1 : (rrowR s b).emb x 1 = b := Fin.ext (by have := fin1 (n := 1) rfl (x 1); rw [emb_val]; simp; omega)
  have h2 : (rrowR s b).emb x 2 = x 2 := Fin.ext (by rw [emb_val]; simp)
  have h3 : (rrowR s b).emb x 3 = x 3 := Fin.ext (by rw [emb_val]; simp)
  rw [h0, h1, h2, h3]; rfl

theorem rml_emb (s : Fin 2) (b : Fin 4) (x : S1x1x256x16.Idx) : (rmlR s b).emb x = ix4 s b (x 2) (x 3) := by
  refine (eq_ix4 _).trans ?_
  have h0 : (rmlR s b).emb x 0 = s := Fin.ext (by have := fin1 (n := 1) rfl (x 0); rw [emb_val]; simp; omega)
  have h1 : (rmlR s b).emb x 1 = b := Fin.ext (by have := fin1 (n := 1) rfl (x 1); rw [emb_val]; simp; omega)
  have h2 : (rmlR s b).emb x 2 = x 2 := Fin.ext (by rw [emb_val]; simp)
  have h3 : (rmlR s b).emb x 3 = x 3 := Fin.ext (by rw [emb_val]; simp)
  rw [h0, h1, h2, h3]; rfl

/-- An index of a block with a leading axis of one element, by its other coordinates. -/
theorem ix3_zero {n1 n2 : ℕ} (x : (⟨3, ![1, n1, n2]⟩ : Shape).Idx) : ix3 (0 : Fin 1) (x 1) (x 2) = x := by
  refine Eq.trans ?_ (eq_ix3 x).symm
  congr 1
  exact Fin.ext (by have := fin1 (n := 1) rfl (x 0); simp [this])

theorem sub_rowFn (P : Fin 4 → S1x256x1024.Idx → α) (b : Fin 4) : sub (rowR b) (rowFn P) = P b := by
  funext x
  show rowFn P ((rowR b).emb x) = _
  rw [row_emb]
  exact congrArg (P b) (ix3_zero x)

theorem sub_tileFn (P : Fin 4 → Fin 8 → S1x256x128.Idx → α) (b : Fin 4) (h : Fin 8) : sub (tileR b h) (tileFn P) = P b h := by
  funext x
  show tileFn P ((tileR b h).emb x) = _
  rw [tile_emb]
  have h3 : (x 2).val < 128 := (x 2).isLt
  show P b ⟨(128 * h.val + (x 2).val) / 128, _⟩ (ix3 (0 : Fin 1) (x 1) (⟨(128 * h.val + (x 2).val) % 128, _⟩ : Fin 128)) = _
  have e1 : (⟨(128 * h.val + (x 2).val) / 128, by omega⟩ : Fin 8) = h := Fin.ext (by simp; omega)
  have e2 : (⟨(128 * h.val + (x 2).val) % 128, by omega⟩ : Fin 128) = x 2 := Fin.ext (by simp; omega)
  rw [e1, e2]
  exact congrArg (P b h) (ix3_zero x)

theorem sub_colFn (P : Fin 4 → Fin 16 → S1x256x1.Idx → α) (b : Fin 4) (j : Fin 16) : sub (colR b j) (colFn P) = P b j := by
  funext x
  show colFn P ((colR b j).emb x) = _
  rw [col_emb]
  show P b j (ix3 (0 : Fin 1) (x 1) (0 : Fin 1)) = _
  have e2 : (0 : Fin 1) = x 2 := Fin.ext (fin1 (n := 1) rfl (x 2)).symm
  exact congrArg (P b j) ((congrArg (ix3 (0 : Fin 1) (x 1)) e2).trans (ix3_zero x))

theorem sub_halfFn (P : Fin 4 → Fin 2 → S1x256x8.Idx → α) (b : Fin 4) (g : Fin 2) : sub (halfR b g) (halfFn P) = P b g := by
  funext x
  show halfFn P ((halfR b g).emb x) = _
  rw [half_emb]
  have h3 : (x 2).val < 8 := (x 2).isLt
  show P b ⟨(8 * g.val + (x 2).val) / 8, _⟩ (ix3 (0 : Fin 1) (x 1) (⟨(8 * g.val + (x 2).val) % 8, _⟩ : Fin 8)) = _
  have e1 : (⟨(8 * g.val + (x 2).val) / 8, by omega⟩ : Fin 2) = g := Fin.ext (by simp; omega)
  have e2 : (⟨(8 * g.val + (x 2).val) % 8, by omega⟩ : Fin 8) = x 2 := Fin.ext (by simp; omega)
  rw [e1, e2]
  exact congrArg (P b g) (ix3_zero x)

theorem upto_zero (f g : S4x256x1024.Idx → α) : upto 0 f g = g := by
  funext i; simp [upto]
theorem upto_eight (f g : S4x256x1024.Idx → α) : upto 8 f g = f := by
  funext i; have h : (i 2).val < 1024 := (i 2).isLt; simp only [upto]; rw [if_pos (by omega)]
theorem uptoCols_zero (f g : S4x256x16.Idx → α) : uptoCols 0 0 f g = g := by
  funext i; simp [uptoCols]
theorem uptoCols_eight (f g : S4x256x16.Idx → α) : uptoCols 8 8 f g = f := by
  funext i; simp only [uptoCols]; rw [if_pos (by simp; omega)]
theorem uptoHalf_zero (f g : S4x256x16.Idx → α) : uptoHalf 0 f g = g := by
  funext i; simp [uptoHalf]
theorem uptoHalf_two (f g : S4x256x16.Idx → α) : uptoHalf 2 f g = f := by
  funext i; have h : (i 2).val < 16 := (i 2).isLt; simp only [uptoHalf]; rw [if_pos (by omega)]

/-- The tile that is next to be written still reads as it did, -/
theorem sub_upto_old (f g : S4x256x1024.Idx → α) (b : Fin 4) (h : Fin 8) : sub (tileR b h) (upto h.val f g) = sub (tileR b h) g := by
  funext x
  show upto h.val f g ((tileR b h).emb x) = g ((tileR b h).emb x)
  rw [tile_emb]; exact if_neg (by simp)
/-- and once written as the new contents. -/
theorem sub_upto_new (f g : S4x256x1024.Idx → α) (b : Fin 4) (h : Fin 8) : sub (tileR b h) (upto (h.val + 1) f g) = sub (tileR b h) f := by
  funext x
  show upto (h.val + 1) f g ((tileR b h).emb x) = f ((tileR b h).emb x)
  have h3 : (x 2).val < 128 := (x 2).isLt
  rw [tile_emb]; exact if_pos (by simp; omega)
/-- Writing a tile changes nothing of its row outside it. -/
theorem upto_out (f g : S4x256x1024.Idx → α) (b : Fin 4) (h : Fin 8) :
    ∀ i ∈ (rowR b).set, i ∉ (tileR b h).set → upto h.val f g i = upto (h.val + 1) f g i := by
  intro i hi hn
  rw [Rect.mem_set_unit] at hi hn
  have h0 := hi 0; have h1 := hi 1; have h2 := hi 2
  simp [Fin.forall_fin_succ] at h0 h1 h2 hn
  simp only [upto]
  by_cases hc : (i 2).val < 128 * h.val
  · rw [if_pos hc, if_pos (by omega)]
  · rw [if_neg hc, if_neg (by have := hn (by omega) (by omega) (by omega); omega)]

theorem sub_uptoCols_max (f g : S4x256x16.Idx → α) (b : Fin 4) (h : Fin 8) :
    sub (colR b ⟨h.val, by omega⟩) (uptoCols (h.val + 1) h.val f g) = sub (colR b ⟨h.val, by omega⟩) f := by
  funext x
  show uptoCols _ _ f g ((colR b ⟨h.val, by omega⟩).emb x) = f ((colR b ⟨h.val, by omega⟩).emb x)
  rw [col_emb]; exact if_pos (by simp; omega)
theorem sub_uptoCols_sum (f g : S4x256x16.Idx → α) (b : Fin 4) (h : Fin 8) :
    sub (colR b ⟨8 + h.val, by omega⟩) (uptoCols (h.val + 1) (h.val + 1) f g) = sub (colR b ⟨8 + h.val, by omega⟩) f := by
  funext x
  show uptoCols _ _ f g ((colR b ⟨8 + h.val, by omega⟩).emb x) = f ((colR b ⟨8 + h.val, by omega⟩).emb x)
  rw [col_emb]; exact if_pos (by simp; omega)
theorem uptoCols_out_max (f g : S4x256x16.Idx → α) (b : Fin 4) (h : Fin 8) :
    ∀ i ∈ (mlrowR b).set, i ∉ (colR b ⟨h.val, by omega⟩).set → uptoCols h.val h.val f g i = uptoCols (h.val + 1) h.val f g i := by
  intro i hi hn
  rw [Rect.mem_set_unit] at hi hn
  have h0 := hi 0; have h1 := hi 1; have h2 := hi 2
  simp [Fin.forall_fin_succ] at h0 h1 h2 hn
  have := hn (by omega) (by omega) (by omega)
  simp only [uptoCols]
  refine if_congr ?_ rfl rfl
  split <;> omega
theorem uptoCols_out_sum (f g : S4x256x16.Idx → α) (b : Fin 4) (h : Fin 8) :
    ∀ i ∈ (mlrowR b).set, i ∉ (colR b ⟨8 + h.val, by omega⟩).set → uptoCols (h.val + 1) h.val f g i = uptoCols (h.val + 1) (h.val + 1) f g i := by
  intro i hi hn
  rw [Rect.mem_set_unit] at hi hn
  have h0 := hi 0; have h1 := hi 1; have h2 := hi 2
  simp [Fin.forall_fin_succ] at h0 h1 h2 hn
  have := hn (by omega) (by omega) (by omega)
  simp only [uptoCols]
  refine if_congr ?_ rfl rfl
  split <;> omega

theorem sub_uptoHalf (f g : S4x256x16.Idx → α) (b : Fin 4) (n : Fin 2) : sub (halfR b n) (uptoHalf (n.val + 1) f g) = sub (halfR b n) f := by
  funext x
  show uptoHalf _ f g ((halfR b n).emb x) = f ((halfR b n).emb x)
  have h3 : (x 2).val < 8 := (x 2).isLt
  rw [half_emb]; exact if_pos (by simp; omega)
theorem uptoHalf_out (f g : S4x256x16.Idx → α) (b : Fin 4) (n : Fin 2) :
    ∀ i ∈ (mlrowR b).set, i ∉ (halfR b n).set → uptoHalf n.val f g i = uptoHalf (n.val + 1) f g i := by
  intro i hi hn
  rw [Rect.mem_set_unit] at hi hn
  have h0 := hi 0; have h1 := hi 1; have h2 := hi 2
  simp [Fin.forall_fin_succ] at h0 h1 h2 hn
  have := hn (by omega) (by omega) (by omega)
  simp only [uptoHalf]
  refine if_congr ?_ rfl rfl
  omega

end Index

/-! ## What the loads of the merges read -/

theorem sub_gMlr (s : Fin 2) (b : Fin 4) : sub (rmlR s b) (gMlr I c) = mlRcv (sentML I (par s c) s) b := by
  funext x
  show gMlr I c ((rmlR s b).emb x) = _
  rw [rml_emb]; rfl
theorem sub_gOr (s : Fin 2) (b : Fin 4) (h : Fin 8) : sub (rtileR s b h) (gOr I c) = tRcv (sentO I (par s c) s) b h := by
  funext x
  show gOr I c ((rtileR s b h).emb x) = _
  rw [rtile_emb]; rfl
theorem sub_kAt (s : Fin 4) (b : Fin 4) (h : Fin 8) : sub (slotR s) (kAt I c b h) = kB I c b h := by
  funext x
  show kAt I c b h ((slotR s).emb x) = _
  rw [slot_emb]; rfl
theorem sub_vAt (s : Fin 4) (b : Fin 4) (h : Fin 8) : sub (slotR s) (vAt I c b h) = vB I c b h := by
  funext x
  show vAt I c b h ((slotR s).emb x) = _
  rw [slot_emb]; rfl
theorem sub_full {α : Type} (f : S1024x1024.Idx → α) : sub fullR f = f := by
  funext x
  show f (fullR.emb x) = f x
  congr 1
  refine (eq_ix2 _).trans (Eq.trans ?_ (eq_ix2 x).symm)
  have h0 : fullR.emb x 0 = x 0 := Fin.ext (by rw [emb_val]; simp)
  have h1 : fullR.emb x 1 = x 1 := Fin.ext (by rw [emb_val]; simp)
  rw [h0, h1]

end Cert.KernelIdeal.Body

end
-- ==== Proof.Proto.lean ====
/- The protocol of the kernel's semaphores: which counters are shared, what each delivers, who pays what and in
   which order, and the levels by which every wait is justified. -/
module

public import proofs.«01_k».proof.Proof.Values
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Idealize.ShloMosaic.ValueIdx

variable {F : FTy → Type} [FloatOps F]

/-! ## The resource algebra: the pipeline's rounds, the exchange's rounds, the local transfers' counters -/

/-- The exchange's rounds: a barrier cell has the two duties of its two payers, another cell the duty `0`. -/
abbrev UB : Type := URounds (GSem nD τ sig) (Fin 2)
/-- The whole user algebra. -/
abbrev UU : Type := UR sig nD τ × (UB × Counters)

local notation "𝕄" => MT nD τ sig Unit (Elt F) ℕ UU ℕ

/-- The pipeline's component. -/
abbrev EP : Emb (UR sig nD τ) (MT nD τ sig Unit (Elt F) ℕ UU ℕ) := embL
/-- The exchange's component. -/
abbrev ER : Emb UB (MT nD τ sig Unit (Elt F) ℕ UU ℕ) := (Emb.inl : Emb UB (UB × Counters)).trans embR
/-- The local transfers' component. -/
abbrev EC : UEmb Counters (MT nD τ sig Unit (Elt F) ℕ UU ℕ) := countersEmb

/-! ## The partners -/

theorem par_par (s : Fin 2) (c : Dev nD) : par s (par s c) = c := by revert s c; decide
/-- Taking the partner, as a permutation of the devices. -/
def parE (s : Fin 2) : Dev nD ≃ Dev nD := ⟨par s, par s, par_par s, par_par s⟩

/-! ## The cells -/

/-- The runtime's barrier semaphore. -/
abbrev barS : Sem sig := (SemArray.scalar (sig.barrier 0 rfl) : Sems sig S_).sem
/-- Device `c`'s barrier cell. -/
abbrev barCell (c : Dev nD) : GSem nD τ sig := ((c : Thread nD τ), .reg barS)
/-- Device `c`'s departure cell of exchange `i`. -/
abbrev sendCell (c : Dev nD) (i : Fin 16) : GSem nD τ sig := ((c : Thread nD τ), .dma (sendSem i))
/-- Device `c`'s arrival cell of exchange `i`. -/
abbrev recvCell (c : Dev nD) (i : Fin 16) : GSem nD τ sig := ((c : Thread nD τ), .dma (recvSem i))

theorem sendSem_val (i : Fin 16) : (sendSem i).val = 12 + i.val := by revert i; decide
theorem recvSem_val (i : Fin 16) : (recvSem i).val = 28 + i.val := by revert i; decide
theorem kvSem_val (s : Fin 4) (j : Fin 2) : (kvSem s j).val = 4 + 2 * s.val + j.val := by revert s j; decide

/-- The kernel's own semaphores: those of the key and value slots, and those of the exchanges. -/
abbrev osem : (Fin 4 × Fin 2) ⊕ (Fin 2 × Fin 16) → SemLoc sig
  | .inl p => .dma (kvSem p.1 p.2)
  | .inr p => if p.1 = 0 then .dma (sendSem p.2) else .dma (recvSem p.2)
/-- The semaphores of the exchange: the barrier, the departures, the arrivals. -/
abbrev csem : Unit ⊕ (Fin 2 × Fin 16) → SemLoc sig
  | .inl _ => .reg barS
  | .inr p => if p.1 = 0 then .dma (sendSem p.2) else .dma (recvSem p.2)
/-- The cells of the exchange. -/
abbrev kcell (ck : Dev nD × (Unit ⊕ (Fin 2 × Fin 16))) : GSem nD τ sig := ((ck.1 : Thread nD τ), csem ck.2)

/-- The credit of one transfer of a row of partial outputs. -/
abbrev No : ℕ := (orRow 0 0).view.dmaCredit
/-- The credit of one transfer of a row of maxima and sums. -/
abbrev Nml : ℕ := (mlrRow 0 0).view.dmaCredit
theorem No_pos : 0 < No := View.dmaCredit_pos _ (by decide)
theorem Nml_pos : 0 < Nml := View.dmaCredit_pos _ (by decide)
/-- The credit of the transfers of kind `j`. -/
def amt (j : ℕ) : ℕ := if j = 0 then No else Nml
theorem amt_pos (j : ℕ) : 0 < amt j := by unfold amt; split; exacts [No_pos, Nml_pos]

/-! ## The buffers, row by row -/

section Pts
variable (c : Dev nD)
/-- Batch row `b` of the send buffer. -/
def ptQ (b : Fin 4) (f : S4x256x1024.Idx → Elt F .bf16) : sProp 𝕄 := (c : Thread nD τ).loc cc0_scratch0 ↦[(rowR b).set]{fullShare} f
/-- Batch row `b` of the partial outputs. -/
def ptO (b : Fin 4) (f : S4x256x1024.Idx → Elt F .f32) : sProp 𝕄 := (c : Thread nD τ).loc cc0_scratch1 ↦[(rowR b).set]{fullShare} f
/-- Batch row `b` of the maxima and sums. -/
def ptML (b : Fin 4) (f : S4x256x16.Idx → Elt F .f32) : sProp 𝕄 := (c : Thread nD τ).loc cc0_scratch2 ↦[(mlrowR b).set]{fullShare} f
/-- Batch row `b` of the merge weights. -/
def ptA (b : Fin 4) (f : S4x256x16.Idx → Elt F .f32) : sProp 𝕄 := (c : Thread nD τ).loc cc0_scratch3 ↦[(mlrowR b).set]{fullShare} f
/-- Where batch row `b` of the partial outputs arrives at stage `s`. -/
def ptOr (s : Fin 2) (b : Fin 4) (f : S2x4x256x1024.Idx → Elt F .bf16) : sProp 𝕄 := (c : Thread nD τ).loc cc0_scratch4 ↦[(rrowR s b).set]{fullShare} f
/-- Where batch row `b` of the maxima and sums arrives at stage `s`. -/
def ptMlr (s : Fin 2) (b : Fin 4) (f : S2x4x256x16.Idx → Elt F .f32) : sProp 𝕄 := (c : Thread nD τ).loc cc0_scratch5 ↦[(rmlR s b).set]{fullShare} f

instance (b : Fin 4) (f) : BI.Storable (upEmb : UEmb _ 𝕄) (ptQ (F := F) c b f) := by unfold ptQ; infer_instance
instance (b : Fin 4) (f) : BI.Storable (upEmb : UEmb _ 𝕄) (ptML (F := F) c b f) := by unfold ptML; infer_instance
instance (s : Fin 2) (b : Fin 4) (f) : BI.Storable (upEmb : UEmb _ 𝕄) (ptOr (F := F) c s b f) := by unfold ptOr; infer_instance
instance (s : Fin 2) (b : Fin 4) (f) : BI.Storable (upEmb : UEmb _ 𝕄) (ptMlr (F := F) c s b f) := by unfold ptMlr; infer_instance
end Pts

/-! ## The schedule -/

variable (I : Dev nD → In F)

/-- The stage of exchange `n`. -/
def exS (n : ℕ) : Fin 2 := ⟨n / 8 % 2, Nat.mod_lt _ (by decide)⟩
/-- The batch row of exchange `n`. -/
def exB (n : ℕ) : Fin 4 := ⟨n / 2 % 4, Nat.mod_lt _ (by decide)⟩

/-- What a partner's signal hands over: where this device may write in the partner's landing buffers of stage `s`. -/
def barPay (c : Dev nD) (s : Fin 2) : sProp 𝕄 :=
  bigSep Finset.univ fun b : Fin 4 => iprop((∃ f, ptOr c s b f) ∗ (∃ f, ptMlr c s b f))
/-- What an arrival delivers: the row of the landing buffer, holding what the partner sent. -/
def recvPay (c : Dev nD) (n : ℕ) : sProp 𝕄 :=
  if n % 2 = 0 then ptOr c (exS n) (exB n) (gOr I c) else ptMlr c (exS n) (exB n) (gMlr I c)
/-- What a departure returns: the row that was sent, unchanged. -/
def sendPay (c : Dev nD) (n : ℕ) : sProp 𝕄 :=
  if n % 2 = 0 then ptQ c (exB n) (sentO I c (exS n)) else ptML c (exB n) (sentML I c (exS n))

/-- One round, round 0: a barrier cell has two duties of one unit each, duty `s` paid by the partner of stage `s`; a
    departure or arrival cell has the duty `0`, of the transfer's credit. -/
def rd : Rounds.Schedule (GSem nD τ sig) (Fin 2) 𝕄 where
  duties g r := if r = 0 ∧ g.1.2 = .tc then (match g.2 with | .reg q => if q = barS then Finset.univ else ∅ | .dma q => if 12 ≤ q.val then {0} else ∅) else ∅
  unitless _ := False
  amount g _ _ := match g.2 with | .reg _ => 1 | .dma q => amt (q.val % 2)
  payload g _ d := match g.2 with
    | .reg _ => barPay (par d g.1.1) d
    | .dma q => if 28 ≤ q.val then recvPay I g.1.1 (q.val - 28) else sendPay I g.1.1 (q.val - 12)
  amount_pos g _ _ _ := by rcases g with ⟨t, _ | q⟩; exacts [Nat.one_pos, amt_pos _]

instance rd_payload_storable (g : GSem nD τ sig) (r : ℕ) (d : Fin 2) : BI.Storable (upEmb : UEmb _ 𝕄) ((rd (F := F) I).payload g r d) := by
  rcases g with ⟨t, q | q⟩
  · show BI.Storable upEmb (barPay (par d t.1) d)
    unfold barPay; infer_instance
  · show BI.Storable upEmb (if 28 ≤ q.val then recvPay I t.1 (q.val - 28) else sendPay I t.1 (q.val - 12))
    unfold recvPay sendPay
    (repeat' split) <;> infer_instance

section Sched
variable (c : Dev nD)

theorem duties_bar : (rd I).duties (barCell c) 0 = Finset.univ := by dsimp only [rd]; rw [if_pos ⟨rfl, rfl⟩]; exact if_pos rfl
theorem duties_send (i : Fin 16) : (rd I).duties (sendCell c i) 0 = {0} := by
  dsimp only [rd]; rw [if_pos ⟨rfl, rfl⟩]; exact if_pos (by rw [sendSem_val]; omega)
theorem duties_recv (i : Fin 16) : (rd I).duties (recvCell c i) 0 = {0} := by
  dsimp only [rd]; rw [if_pos ⟨rfl, rfl⟩]; exact if_pos (by rw [recvSem_val]; omega)
theorem duties_later (g : GSem nD τ sig) : ∀ r, 1 ≤ r → (rd I).duties g r = ∅ :=
  fun r hr => by dsimp only [rd]; rw [if_neg fun h => by omega]

theorem amount_bar (d : Fin 2) : (rd I).amount (barCell c) 0 d = 1 := rfl
theorem amount_send (s : Fin 2) (b : Fin 4) (j : Fin 2) (d : Fin 2) : (rd I).amount (sendCell c (exId s b j)) 0 d = amt j.val := by
  show amt ((sendSem (exId s b j)).val % 2) = _
  rw [sendSem_val]; congr 1; simp; omega
theorem amount_recv (s : Fin 2) (b : Fin 4) (j : Fin 2) (d : Fin 2) : (rd I).amount (recvCell c (exId s b j)) 0 d = amt j.val := by
  show amt ((recvSem (exId s b j)).val % 2) = _
  rw [recvSem_val]; congr 1; simp; omega

theorem expect_bar : (rd I).expect (barCell c) 0 = 2 := by
  unfold Schedule.expect Schedule.amountOf
  rw [duties_bar, Finset.sum_congr rfl fun d _ => amount_bar I c d, Finset.sum_const, Finset.card_univ, Fintype.card_fin, smul_eq_mul]
theorem expect_send (s : Fin 2) (b : Fin 4) (j : Fin 2) : (rd I).expect (sendCell c (exId s b j)) 0 = amt j.val := by
  unfold Schedule.expect Schedule.amountOf; rw [duties_send, Finset.sum_singleton, amount_send]
theorem expect_recv (s : Fin 2) (b : Fin 4) (j : Fin 2) : (rd I).expect (recvCell c (exId s b j)) 0 = amt j.val := by
  unfold Schedule.expect Schedule.amountOf; rw [duties_recv, Finset.sum_singleton, amount_recv]

theorem exS_exId (s : Fin 2) (b : Fin 4) (j : Fin 2) : exS (exId s b j).val = s := by revert s b j; decide
theorem exB_exId (s : Fin 2) (b : Fin 4) (j : Fin 2) : exB (exId s b j).val = b := by revert s b j; decide
theorem exJ_exId (s : Fin 2) (b : Fin 4) (j : Fin 2) : (exId s b j).val % 2 = j.val := by revert s b j; decide

theorem payload_bar (d : Fin 2) : (rd I).payload (barCell c) 0 d = barPay (par d c) d := rfl
theorem payload_send (i : Fin 16) (d : Fin 2) : (rd I).payload (sendCell c i) 0 d = sendPay I c i.val := by
  show (if 28 ≤ (sendSem i).val then recvPay I c ((sendSem i).val - 28) else sendPay I c ((sendSem i).val - 12)) = _
  rw [sendSem_val, if_neg (by omega), Nat.add_sub_cancel_left]
theorem payload_recv (i : Fin 16) (d : Fin 2) : (rd I).payload (recvCell c i) 0 d = recvPay I c i.val := by
  show (if 28 ≤ (recvSem i).val then recvPay I c ((recvSem i).val - 28) else sendPay I c ((recvSem i).val - 12)) = _
  rw [recvSem_val, if_pos (by omega), Nat.add_sub_cancel_left]

theorem sendPay_o (s : Fin 2) (b : Fin 4) : sendPay I c (exId s b 0).val = ptQ c b (sentO I c s) := by
  unfold sendPay; rw [exJ_exId, exS_exId, exB_exId]; exact if_pos rfl
theorem sendPay_ml (s : Fin 2) (b : Fin 4) : sendPay I c (exId s b 1).val = ptML c b (sentML I c s) := by
  unfold sendPay; rw [exJ_exId, exS_exId, exB_exId]; exact if_neg (by decide)
theorem recvPay_o (s : Fin 2) (b : Fin 4) : recvPay I c (exId s b 0).val = ptOr c s b (gOr I c) := by
  unfold recvPay; rw [exJ_exId, exS_exId, exB_exId]; exact if_pos rfl
theorem recvPay_ml (s : Fin 2) (b : Fin 4) : recvPay I c (exId s b 1).val = ptMlr c s b (gMlr I c) := by
  unfold recvPay; rw [exJ_exId, exS_exId, exB_exId]; exact if_neg (by decide)

/-- The rest of a barrier cell's round: both partners' landing rows. -/
theorem rest_bar : bigSep ((rd I).duties (barCell c) 0 \ ∅) (fun d => (rd I).payload (barCell c) 0 d) = iprop(barPay (par 0 c) 0 ∗ barPay (par 1 c) 1) := by
  rw [Finset.sdiff_empty, duties_bar, bigSep_univ_eq_bigSepL [0, 1] (by decide) (by decide), bigSepL_cons_cons, bigSepL_singleton, payload_bar, payload_bar]; rfl
/-- The rest of a departure cell's round: the row sent. -/
theorem rest_send (i : Fin 16) : bigSep ((rd I).duties (sendCell c i) 0 \ ∅) (fun d => (rd I).payload (sendCell c i) 0 d) = sendPay I c i.val := by
  rw [Finset.sdiff_empty, duties_send, bigSep_singleton, payload_send]
/-- The rest of an arrival cell's round: the row landed. -/
theorem rest_recv (i : Fin 16) : bigSep ((rd I).duties (recvCell c i) 0 \ ∅) (fun d => (rd I).payload (recvCell c i) 0 d) = recvPay I c i.val := by
  rw [Finset.sdiff_empty, duties_recv, bigSep_singleton, payload_recv]

end Sched

/-! ## What each device owes, and the levels -/

/-- What device `c` owes for one exchange: the credit of its two transfers at the partner's arrival cells. -/
def due (c : Dev nD) (x : Fin 2 × Fin 4) (j : Fin 2) : CellTallies nD τ sig Unit := tallyAt (recvCell (par x.1 c) (exId x.1 x.2 j)) () (amt j.val)
/-- What device `c` owes for a list of exchanges, in the order it pays them. -/
def owedL (c : Dev nD) : List (Fin 2 × Fin 4) → CellTallies nD τ sig Unit
  | [] => 0
  | x :: l => owedL c l + due c x 1 + due c x 0
/-- The order in which the exchanges are started. -/
abbrev order : List (Fin 2 × Fin 4) := [(0, 0), (0, 1), (1, 0), (0, 2), (1, 1), (0, 3), (1, 2), (1, 3)]
/-- What device `c` owes at launch. -/
def O₀ (c : Dev nD) : CellTallies nD τ sig Unit := owedL c order + tallyAt (barCell (par 1 c)) () 1 + tallyAt (barCell (par 0 c)) () 1

/-- Every TensorCore cell may be given a level. -/
def L (g : GSem nD τ sig) : Finset Unit := if g.1.2 = .tc then {()} else ∅
/-- A semaphore's level: the barrier's 1, an arrival's two more than the place of its exchange, any other's 0. -/
def lvs : SemLoc sig → ℕ
  | .reg _ => 1
  | .dma q => if 28 ≤ q.val then 2 + (q.val - 28) / 2 else 0
/-- A cell's level. -/
def lv (g : GSem nD τ sig) (_ : Unit) : ℕ := lvs g.2

theorem L_of_ne (g : GSem nD τ sig) (h : g.1.2 ≠ .tc) : L g = ∅ := if_neg h
theorem L_tc (c : Dev nD) (sm : SemLoc sig) : L ((c : Thread nD τ), sm) = {()} := if_pos rfl

theorem lvs_recv (s : Fin 2) (b : Fin 4) (j : Fin 2) : lvs (.dma (recvSem (exId s b j))) = 2 + 4 * s.val + b.val := by
  show (if 28 ≤ (recvSem (exId s b j)).val then 2 + ((recvSem (exId s b j)).val - 28) / 2 else 0) = _
  rw [recvSem_val, if_pos (by omega)]; simp; omega
theorem lvs_send (i : Fin 16) : lvs (.dma (sendSem i)) = 0 := by
  show (if 28 ≤ (sendSem i).val then _ else 0) = _
  rw [sendSem_val, if_neg (by omega)]
theorem lvs_kv (s : Fin 4) (j : Fin 2) : lvs (.dma (kvSem s j)) = 0 := by
  show (if 28 ≤ (kvSem s j).val then _ else 0) = _
  rw [kvSem_val, if_neg (by omega)]

theorem tallyAt_pos {g g' : GSem nD τ sig} {n : ℕ} {u u' : Unit} (h : 0 < (tallyAt g u n : CellTallies nD τ sig Unit) g' u') : g' = g := by
  by_contra hn
  rw [tallyAt_apply, if_neg (fun h' => hn h'.1)] at h
  exact Nat.lt_irrefl 0 h

theorem add_pos {A B : CellTallies nD τ sig Unit} {g : GSem nD τ sig} {u : Unit} (h : 0 < (A + B) g u) : 0 < A g u ∨ 0 < B g u := by
  rw [Pi.add_apply, Finsupp.add_apply] at h; omega

theorem owedL_pos {c : Dev nD} {g : GSem nD τ sig} {u : Unit} : ∀ {l : List (Fin 2 × Fin 4)}, 0 < owedL c l g u → ∃ x ∈ l, ∃ j, g = recvCell (par x.1 c) (exId x.1 x.2 j)
  | [], h => absurd h (Nat.lt_irrefl 0)
  | x :: l, h => by
    rcases add_pos h with h | h
    · rcases add_pos h with h | h
      · obtain ⟨y, hy, j, e⟩ := owedL_pos h
        exact ⟨y, List.mem_cons_of_mem _ hy, j, e⟩
      · exact ⟨x, List.mem_cons_self .., 1, tallyAt_pos h⟩
    · exact ⟨x, List.mem_cons_self .., 0, tallyAt_pos h⟩

/-- A wait is justified when every exchange still owed stands above its semaphore. -/
theorem mayWait (c : Dev nD) (sm : SemLoc sig) (l : List (Fin 2 × Fin 4)) (h : ∀ x ∈ l, lvs sm < 2 + 4 * x.1.val + x.2.val) :
    (levAts L lv : sProp 𝕄) ⊢ MayWait (c : Thread nD τ) sm () (owedL c l) :=
  MayOwe.of_cut (L := L) (lev := lv) (lvs sm) (fun p hp => by rw [Finset.mem_singleton.mp hp, L_tc]; exact Finset.mem_singleton_self _)
    (fun g u hg => by obtain ⟨x, -, j, rfl⟩ := owedL_pos hg; rw [L_tc]; exact Finset.mem_singleton_self _)
    (fun p hp => by rw [Finset.mem_singleton.mp hp]; exact le_refl _)
    (fun g u hg => by obtain ⟨x, hx, j, rfl⟩ := owedL_pos hg; exact lt_of_lt_of_eq (h x hx) (lvs_recv _ _ _).symm)

/-- At launch a device may wait on any semaphore of level 0. -/
theorem mayWait_stage (c : Dev nD) (sm : SemLoc sig) (h : lvs sm = 0) : (levAts L lv : sProp 𝕄) ⊢ MayWait (c : Thread nD τ) sm () (O₀ c) := by
  have key : ∀ (g : GSem nD τ sig) (u : Unit), 0 < O₀ c g u → (∃ c', g.1 = (Dev.tc c' : Thread nD τ)) ∧ 0 < lvs g.2 := by
    intro g u hg
    rcases add_pos hg with hg | hg
    · rcases add_pos hg with hg | hg
      · obtain ⟨x, -, j, rfl⟩ := owedL_pos hg
        exact ⟨⟨_, rfl⟩, by rw [lvs_recv]; omega⟩
      · rw [tallyAt_pos hg]; exact ⟨⟨_, rfl⟩, Nat.one_pos⟩
    · rw [tallyAt_pos hg]; exact ⟨⟨_, rfl⟩, Nat.one_pos⟩
  exact MayOwe.of_cut (L := L) (lev := lv) 0 (fun p hp => by rw [Finset.mem_singleton.mp hp, L_tc]; exact Finset.mem_singleton_self _)
    (fun g u hg => by
      obtain ⟨⟨c', e⟩, -⟩ := key g u hg
      unfold L; rw [e]; exact Finset.mem_singleton_self _)
    (fun p hp => by rw [Finset.mem_singleton.mp hp]; exact le_of_eq h)
    (fun g u hg => (key g u hg).2)

end Cert.KernelIdeal.Body

end
-- ==== Proof.Steps.lean ====
/- Programs as triples: what a piece of the program takes from the state and what it leaves there, how pieces are put in
   sequence, and the load and the store of a rectangle of a whole buffer. -/
module

public import proofs.«01_k».proof.Proof.Proto

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen Idealize.ShloMosaic.ValueIdx

variable {F : FTy → Type} [FloatOps F]

local notation "𝕄" => MT nD τ sig Unit (Elt F) ℕ UU ℕ

abbrev 𝒱₀ : Variants := Variants.none

/-- Running `p` on device `c` reaches `Q`. -/
abbrev WP {α : Type} (c : Dev nD) (p : PP F α) (Q : α → sProp 𝕄) : sProp 𝕄 :=
  wp frame (wpE (defs₀ (F := F)) 𝒱₀ (c : Thread nD τ) none) Set.univ p Q

/-- From `P`, the piece `p` runs on device `c` and leaves `Q`. -/
def Tri (c : Dev nD) (P : sProp 𝕄) (p : PP F PUnit) (Q : sProp 𝕄) : Prop :=
  ∀ Kt : PUnit → sProp 𝕄, iprop(P ∗ (Q -∗ Kt ⟨⟩)) ⊢ WP c p Kt

section Tri

/-- A piece at the head of a program. -/
theorem Tri.step {c : Dev nD} {P Q : sProp 𝕄} {p : PP F PUnit} (h : Tri c P p Q) {f : PUnit → PP F PUnit} {Kt : PUnit → sProp 𝕄} :
    P ⊢ iprop((Q -∗ WP c (f ⟨⟩) Kt) -∗ WP c (p >>= f) Kt) := by
  iintro HP HK
  iapply (Entails.of_eq (wp_bind ..).symm)
  iapply (h (fun x => WP c (f x) Kt))
  isplitl [HP]; · iexact HP
  iexact HK

/-- A piece at the end of a program. -/
theorem Tri.last {c : Dev nD} {P Q : sProp 𝕄} {p : PP F PUnit} (h : Tri c P p Q) {Kt : PUnit → sProp 𝕄} : P ⊢ iprop((Q -∗ Kt ⟨⟩) -∗ WP c p Kt) := by
  iintro HP HK
  iapply (h Kt)
  isplitl [HP]; · iexact HP
  iexact HK

theorem Tri.seq {c : Dev nD} {P Q R : sProp 𝕄} {p p' : PP F PUnit} (h : Tri c P p Q) (h' : Tri c Q p' R) : Tri c P (p >>= fun _ => p') R := by
  intro Kt
  iintro ⟨HP, HK⟩
  iapply (Tri.step h) $$ HP
  iintro HQ
  iapply (Tri.last h') $$ HQ
  iexact HK

theorem Tri.skip {c : Dev nD} {P : sProp 𝕄} : Tri c P (pure ⟨⟩ : PP F PUnit) P := by
  intro Kt
  rw [Prog.pure_eq_ret]
  show _ ⊢ wp _ _ _ _ _
  rw [wp_ret]
  iintro ⟨HP, HK⟩
  imodintro
  iapply HK $$ HP

theorem Tri.frame {c : Dev nD} {P Q : sProp 𝕄} {p : PP F PUnit} (h : Tri c P p Q) (R : sProp 𝕄) : Tri c iprop(P ∗ R) p iprop(Q ∗ R) := by
  intro Kt
  iintro ⟨⟨HP, HR⟩, HK⟩
  iapply (Tri.last h) $$ HP
  iintro HQ
  iapply HK
  isplitl [HQ] <;> iassumption

theorem Tri.mono {c : Dev nD} {P Q : sProp 𝕄} {p : PP F PUnit} {P' Q' : sProp 𝕄} (h : Tri c P p Q) (hP : P' ⊢ P) (hQ : Q ⊢ Q') : Tri c P' p Q' := by
  intro Kt
  iintro ⟨HP, HK⟩
  iapply (Tri.last h) $$ [HP]
  · iapply hP $$ HP
  iintro HQ
  iapply HK
  iapply hQ $$ HQ

/-- The eight heads in order: `J h` is what holds after the first `h`. -/
theorem Tri.heads {c : Dev nD} (J : ℕ → sProp 𝕄) (f : Fin 8 → PP F PUnit) (h : ∀ i : Fin 8, Tri c (J i.val) (f i) (J (i.val + 1))) :
    Tri c (J 0) (seqL heads f) (J 8) :=
  (h 0).seq ((h 1).seq ((h 2).seq ((h 3).seq ((h 4).seq ((h 5).seq ((h 6).seq ((h 7).seq Tri.skip)))))))
end Tri

theorem wp_done {c : Dev nD} {Kt : PUnit → sProp 𝕄} : Kt ⟨⟩ ⊢ WP c (Prog.ret (⟨⟩ : PUnit)) Kt := by
  show Kt ⟨⟩ ⊢ wp _ _ _ _ _
  rw [wp_ret]
  iintro H
  imodintro
  iexact H

/-! ## Loads and stores of a rectangle of a whole buffer -/

section Access
variable {c : Dev nD}

/-- A whole buffer as a memref. -/
abbrev wh (ref : Ref sig .tc) : Memref sig .tc ref.space ref.ty.shape ref.ty.elt := Memref.whole ref

theorem setOn_whole (ref : Ref sig .tc) (r : Rect ref.ty.shape) : (wh ref).view.setOn r.toLoadRect.set = r.set :=
  (View.set_slice (wh ref).view r).symm.trans (View.set_slice_whole ref r)

/-- What a buffer holds after a store of `w` at `r`: any function `g` that reads `w` at `r` and is unchanged elsewhere. -/
theorem write_whole (ref : Ref sig .tc) {r : Rect ref.ty.shape} {S : Finset ref.ty.shape.Idx} {f g : ref.ty.shape.Idx → Elt F ref.ty.elt}
    {w : r.shape.Idx → Elt F ref.ty.elt} (hin : sub r g = w) (hout : ∀ i ∈ S, i ∉ r.set → f i = g i) :
    ∀ i ∈ S, ((wh ref).access r).write (Elt F) f w Finset.univ i = g i := by
  intro i hi
  by_cases hr : i ∈ r.set
  · rw [← Rect.map_emb_univ] at hr
    obtain ⟨x, -, rfl⟩ := Finset.mem_map.mp hr
    exact (View.write_emb_of_mem (v := (wh ref).access r) f w (Finset.mem_univ x)).trans (congrFun hin x).symm
  · refine (View.write_of_not_mem (v := (wh ref).access r) f w Finset.univ (fun hx => ?_)).trans (hout i hi hr)
    rw [View.setOn_univ] at hx
    exact hr ((View.set_slice_whole ref r) ▸ hx)

/-- A load of a rectangle continues with what the buffer holds there. -/
theorem wp_ld {cs : CoreSpace} {s : Shape} {e : EltTy} (m : Memref sig .tc (.core cs) s e) (r : Rect s) {hl : m.view.LoadsAt r.toLoadRect}
    {k : (r.shape.Idx → Elt F e) → PP F PUnit} {Kt : PUnit → sProp 𝕄} {S : Finset (Idx (m.view.loc (c : Thread nD τ)))} {q : PosShare TreeShare}
    {f : Buf (Elt F) (m.view.loc (c : Thread nD τ))} {v : r.shape.Idx → Elt F e} (hS : m.view.setOn r.toLoadRect.set ⊆ S) (hv : m.view.readAt (Elt F) r.toLoadRect f = v) :
    (m.view.loc (c : Thread nD τ) ↦[S]{q} f : sProp 𝕄)
      ⊢ iprop(((m.view.loc (c : Thread nD τ) ↦[S]{q} f) -∗ WP c (k v) Kt) -∗ WP c (.op (.load m r.toLoadRect hl) k) Kt) := by
  subst hv
  exact wp_load 𝒱₀ (c : Thread nD τ) none Set.univ hS

/-- A store at a rectangle leaves any function that agrees with what the store writes. -/
theorem wp_st {cs : CoreSpace} {s : Shape} {e : EltTy} (m : Memref sig .tc (.core cs) s e) (r : Rect s) {w : r.shape.Idx → Elt F e}
    {hx : (m.access r).Stores Finset.univ} {hm : (Finset.univ : Finset r.shape.Idx) = Finset.univ ∨ ∀ a, r.stride a = 1}
    {k : PUnit → PP F PUnit} {Kt : PUnit → sProp 𝕄} {S : Finset (Idx (m.view.loc (c : Thread nD τ)))} {f : Buf (Elt F) (m.view.loc (c : Thread nD τ))}
    (g : Buf (Elt F) (m.view.loc (c : Thread nD τ))) (hS : m.view.setOn r.toLoadRect.set ⊆ S)
    (hg : ∀ i ∈ S, (m.access r).write (Elt F) f w Finset.univ i = g i) :
    (m.view.loc (c : Thread nD τ) ↦[S]{fullShare} f : sProp 𝕄)
      ⊢ iprop(((m.view.loc (c : Thread nD τ) ↦[S]{fullShare} g) -∗ WP c (k ⟨⟩) Kt) -∗ WP c (.op (.store m r w Finset.univ hx hm) k) Kt) := by
  have e : (m.view.loc (c : Thread nD τ) ↦[S]{fullShare} ((m.access r).write (Elt F) f w Finset.univ) : sProp 𝕄) = (m.view.loc (c : Thread nD τ) ↦[S]{fullShare} g) :=
    pointsTo_congr hg
  rw [← e]
  exact wp_store 𝒱₀ (c : Thread nD τ) none Set.univ (m := m) (r := r) (Mk := Finset.univ) (by rw [View.setOn_univ, View.set_slice]; exact hS)

end Access

/-! ## Rectangles within rows -/

theorem tile_sub (b : Fin 4) (h : Fin 8) : (tileR b h).set ⊆ (rowR b).set := by
  intro i hi
  rw [Rect.mem_set_unit] at hi ⊢
  have h0 := hi 0; have h1 := hi 1; have h2 := hi 2
  simp [Fin.forall_fin_succ] at h0 h1 h2 ⊢
  omega
theorem col_sub (b : Fin 4) (j : Fin 16) : (colR b j).set ⊆ (mlrowR b).set := by
  intro i hi
  rw [Rect.mem_set_unit] at hi ⊢
  have h0 := hi 0; have h1 := hi 1; have h2 := hi 2
  simp [Fin.forall_fin_succ] at h0 h1 h2 ⊢
  omega
theorem half_sub (b : Fin 4) (g : Fin 2) : (halfR b g).set ⊆ (mlrowR b).set := by
  intro i hi
  rw [Rect.mem_set_unit] at hi ⊢
  have h0 := hi 0; have h1 := hi 1; have h2 := hi 2
  simp [Fin.forall_fin_succ] at h0 h1 h2 ⊢
  omega
theorem rtile_sub (s : Fin 2) (b : Fin 4) (h : Fin 8) : (rtileR s b h).set ⊆ (rrowR s b).set := by
  intro i hi
  rw [Rect.mem_set_unit] at hi ⊢
  have h0 := hi 0; have h1 := hi 1; have h2 := hi 2; have h3 := hi 3
  simp [Fin.forall_fin_succ] at h0 h1 h2 h3 ⊢
  omega

end Cert.KernelIdeal.Body

end
-- ==== Proof.Compute.lean ====
/- The pieces of the program that only read and write the device's own buffers: what each leaves in them. -/
module

public import proofs.«01_k».proof.Proof.Steps

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen Idealize.ShloMosaic.ValueIdx

variable {F : FTy → Type} [FloatOps F]

local notation "𝕄" => MT nD τ sig Unit (Elt F) ℕ UU ℕ

variable (I : Dev nD → In F) (c : Dev nD)

/-- Slot `s` of the key ring. -/
def ptK (s : Fin 4) (f : S4x1024x128.Idx → Elt F .f32) : sProp 𝕄 := (c : Thread nD τ).loc cc0_scratch6 ↦[(slotR s).set]{fullShare} f
/-- Slot `s` of the value ring. -/
def ptV (s : Fin 4) (f : S4x1024x128.Idx → Elt F .f32) : sProp 𝕄 := (c : Thread nD τ).loc cc0_scratch7 ↦[(slotR s).set]{fullShare} f
/-- The rounded weights in use. -/
def ptW (f : S1024x1024.Idx → Elt F .bf16) : sProp 𝕄 := (c : Thread nD τ).loc cc0_scratch8 ↦{fullShare} f
/-- The staged input rows. -/
def ptX : sProp 𝕄 := (c : Thread nD τ).loc cc0_stg0_0 ↦{fullShare} (I c).x
/-- The staged query weights. -/
def ptWq : sProp 𝕄 := (c : Thread nD τ).loc cc0_stg1_0 ↦{fullShare} (I c).wq
/-- The staged output weights. -/
def ptWo : sProp 𝕄 := (c : Thread nD τ).loc cc0_stg2_0 ↦{fullShare} (I c).wo
/-- Batch row `b` of the staged result. -/
def ptOut (b : Fin 4) (f : S4x256x1024.Idx → Elt F .f32) : sProp 𝕄 := (c : Thread nD τ).loc cc0_stg3_0 ↦[(rowR b).set]{fullShare} f

theorem le_set (ref : Ref sig .tc) (r : Rect ref.ty.shape) {S : Finset ref.ty.shape.Idx} (h : r.set ⊆ S) : (wh ref).view.setOn r.toLoadRect.set ⊆ S := by
  rw [setOn_whole]; exact h
theorem full_out {α : Type} {f g : S1024x1024.Idx → α} : ∀ i ∈ (Finset.univ : Finset S1024x1024.Idx), i ∉ fullR.set → f i = g i := by
  intro i _ hn
  refine absurd ?_ hn
  have h0 : (i 0).val < 1024 := (i 0).isLt
  have h1 : (i 1).val < 1024 := (i 1).isLt
  rw [Rect.mem_set_unit]
  simp [Fin.forall_fin_succ]
  omega
theorem row_out {α : Type} {f g : S4x256x1024.Idx → α} (b : Fin 4) : ∀ i ∈ (rowR b).set, i ∉ (rowR b).set → f i = g i := fun i hi hn => absurd hi hn

/-- Rounding the query weights. -/
theorem loadW_q (f : S1024x1024.Idx → Elt F .bf16) :
    Tri c iprop(ptWq I c ∗ ptW c f) (loadW wqM) iprop(ptWq I c ∗ ptW c (wqB I c)) := by
  intro Kt
  unfold loadW ptWq ptW
  simp only [Prog.lift, Prog.bind_op, Prog.bind_ret]
  iintro ⟨⟨Hs, Hw⟩, HK⟩
  iapply (wp_ld wqM fullR (f := (I c).wq) (v := (I c).wq) (le_set cc0_stg1_0 _ (Finset.subset_univ _)) (sub_full _)) $$ Hs; iintro Hs
  iapply (wp_ld wM fullR (f := f) (v := _) (le_set cc0_scratch8 _ (Finset.subset_univ _)) rfl) $$ Hw; iintro Hw
  iapply (wp_st wM fullR (f := f) (wqB I c) (le_set cc0_scratch8 _ (Finset.subset_univ _)) (write_whole cc0_scratch8 (sub_full _) full_out)) $$ Hw; iintro Hw
  iapply wp_done
  iapply HK
  isplitl [Hs]; · iexact Hs
  iexact Hw

/-- Rounding the output weights. -/
theorem loadW_o (f : S1024x1024.Idx → Elt F .bf16) :
    Tri c iprop(ptWo I c ∗ ptW c f) (loadW woM) iprop(ptWo I c ∗ ptW c (woB I c)) := by
  intro Kt
  unfold loadW ptWo ptW
  simp only [Prog.lift, Prog.bind_op, Prog.bind_ret]
  iintro ⟨⟨Hs, Hw⟩, HK⟩
  iapply (wp_ld woM fullR (f := (I c).wo) (v := (I c).wo) (le_set cc0_stg2_0 _ (Finset.subset_univ _)) (sub_full _)) $$ Hs; iintro Hs
  iapply (wp_ld wM fullR (f := f) (v := _) (le_set cc0_scratch8 _ (Finset.subset_univ _)) rfl) $$ Hw; iintro Hw
  iapply (wp_st wM fullR (f := f) (woB I c) (le_set cc0_scratch8 _ (Finset.subset_univ _)) (write_whole cc0_scratch8 (sub_full _) full_out)) $$ Hw; iintro Hw
  iapply wp_done
  iapply HK
  isplitl [Hs]; · iexact Hs
  iexact Hw

/-- The scaled queries of batch row `b`. -/
theorem qproj_row (b : Fin 4) (f : S4x256x1024.Idx → Elt F .bf16) :
    Tri c iprop(ptX I c ∗ ptW c (wqB I c) ∗ ptQ c b f) (qproj b) iprop(ptX I c ∗ ptW c (wqB I c) ∗ ptQ c b (Q0 I c)) := by
  intro Kt
  unfold qproj ptX ptW ptQ
  simp only [Prog.lift, Prog.bind_op, Prog.bind_ret]
  iintro ⟨⟨Hx, Hw, Hq⟩, HK⟩
  iapply (wp_ld xM (rowR b) (f := (I c).x) (v := sub (rowR b) (I c).x) (le_set cc0_stg0_0 _ (Finset.subset_univ _)) rfl) $$ Hx; iintro Hx
  iapply (wp_ld wM fullR (f := wqB I c) (v := wqB I c) (le_set cc0_scratch8 _ (Finset.subset_univ _)) (sub_full _)) $$ Hw; iintro Hw
  iapply (wp_ld qM (rowR b) (f := f) (v := _) (le_set cc0_scratch0 _ (Finset.Subset.refl _)) rfl) $$ Hq; iintro Hq
  iapply (wp_st qM (rowR b) (f := f) (Q0 I c) (le_set cc0_scratch0 _ (Finset.Subset.refl _)) (write_whole cc0_scratch0 (sub_rowFn _ b) (row_out b))) $$ Hq; iintro Hq
  iapply wp_done
  iapply HK
  isplitl [Hx]; · iexact Hx
  isplitl [Hw]; · iexact Hw
  iexact Hq

theorem ML0_max (b : Fin 4) (h : Fin 8) : sub (colR b ⟨h.val, by omega⟩) (ML0 I c) = k0_pay10 (qT I c b h) (kB I c b h) :=
  (sub_colFn _ b _).trans (dif_pos h.isLt)
theorem ML0_sum (b : Fin 4) (h : Fin 8) : sub (colR b ⟨8 + h.val, by omega⟩) (ML0 I c) = k0_pay11 (qT I c b h) (kB I c b h) := by
  refine (sub_colFn _ b _).trans ((dif_neg (by simp)).trans ?_)
  have e : (⟨8 + h.val - 8, by omega⟩ : Fin 8) = h := Fin.ext (by simp)
  show k0_pay11 (qT I c b ⟨8 + h.val - 8, _⟩) (kB I c b ⟨8 + h.val - 8, _⟩) = _
  rw [e]

/-- One head's attention: its tile of partial outputs (kept, and rounded over its queries), its maxima and its sums. -/
theorem attend_head (b : Fin 4) (h : Fin 8) (s : Fin 4) (fo : S4x256x1024.Idx → Elt F .f32) (fm : S4x256x16.Idx → Elt F .f32) :
    Tri c iprop(ptQ c b (upto h.val (O0b I c) (Q0 I c)) ∗ ptO c b (upto h.val (O0f I c) fo) ∗ ptML c b (uptoCols h.val h.val (ML0 I c) fm)
        ∗ ptK c s (kAt I c b h) ∗ ptV c s (vAt I c b h)) (attend b h s)
      iprop(ptQ c b (upto (h.val + 1) (O0b I c) (Q0 I c)) ∗ ptO c b (upto (h.val + 1) (O0f I c) fo) ∗ ptML c b (uptoCols (h.val + 1) (h.val + 1) (ML0 I c) fm)
        ∗ ptK c s (kAt I c b h) ∗ ptV c s (vAt I c b h)) := by
  intro Kt
  unfold attend ptQ ptO ptML ptK ptV
  simp only [Prog.lift, Prog.bind_op, Prog.bind_ret]
  iintro ⟨⟨Hq, Ho, Hm, Hk, Hv⟩, HK⟩
  iapply (wp_ld qM (tileR b h) (f := upto h.val (O0b I c) (Q0 I c)) (v := qT I c b h) (le_set cc0_scratch0 _ (tile_sub b h)) (sub_upto_old _ _ b h)) $$ Hq; iintro Hq
  iapply (wp_ld kM (slotR s) (f := kAt I c b h) (v := kB I c b h) (le_set cc0_scratch6 _ (Finset.Subset.refl _)) (sub_kAt I c s b h)) $$ Hk; iintro Hk
  iapply (wp_ld vM (slotR s) (f := vAt I c b h) (v := vB I c b h) (le_set cc0_scratch7 _ (Finset.Subset.refl _)) (sub_vAt I c s b h)) $$ Hv; iintro Hv
  iapply (wp_ld oM (tileR b h) (f := upto h.val (O0f I c) fo) (v := _) (le_set cc0_scratch1 _ (tile_sub b h)) rfl) $$ Ho; iintro Ho
  iapply (wp_st oM (tileR b h) (f := upto h.val (O0f I c) fo) (upto (h.val + 1) (O0f I c) fo) (le_set cc0_scratch1 _ (tile_sub b h)) (write_whole cc0_scratch1 ((sub_upto_new _ _ b h).trans (sub_tileFn _ b h)) (upto_out _ _ b h))) $$ Ho; iintro Ho
  iapply (wp_ld qM (tileR b h) (f := upto h.val (O0b I c) (Q0 I c)) (v := _) (le_set cc0_scratch0 _ (tile_sub b h)) rfl) $$ Hq; iintro Hq
  iapply (wp_st qM (tileR b h) (f := upto h.val (O0b I c) (Q0 I c)) (upto (h.val + 1) (O0b I c) (Q0 I c)) (le_set cc0_scratch0 _ (tile_sub b h)) (write_whole cc0_scratch0 ((sub_upto_new _ _ b h).trans (sub_tileFn _ b h)) (upto_out _ _ b h))) $$ Hq; iintro Hq
  iapply (wp_ld mlM (colR b _) (f := uptoCols h.val h.val (ML0 I c) fm) (v := _) (le_set cc0_scratch2 _ (col_sub b _)) rfl) $$ Hm; iintro Hm
  iapply (wp_st mlM (colR b _) (f := uptoCols h.val h.val (ML0 I c) fm) (uptoCols (h.val + 1) h.val (ML0 I c) fm) (le_set cc0_scratch2 _ (col_sub b _)) (write_whole cc0_scratch2 ((sub_uptoCols_max _ _ b h).trans (ML0_max I c b h)) (uptoCols_out_max _ _ b h))) $$ Hm; iintro Hm
  iapply (wp_ld mlM (colR b _) (f := uptoCols (h.val + 1) h.val (ML0 I c) fm) (v := _) (le_set cc0_scratch2 _ (col_sub b _)) rfl) $$ Hm; iintro Hm
  iapply (wp_st mlM (colR b _) (f := uptoCols (h.val + 1) h.val (ML0 I c) fm) (uptoCols (h.val + 1) (h.val + 1) (ML0 I c) fm) (le_set cc0_scratch2 _ (col_sub b _)) (write_whole cc0_scratch2 ((sub_uptoCols_sum _ _ b h).trans (ML0_sum I c b h)) (uptoCols_out_sum _ _ b h))) $$ Hm; iintro Hm
  iapply wp_done
  iapply HK
  isplitl [Hq]; · iexact Hq
  isplitl [Ho]; · iexact Ho
  isplitl [Hm]; · iexact Hm
  isplitl [Hk]; · iexact Hk
  iexact Hv

theorem ML1_half (b : Fin 4) (g : Fin 2) : sub (halfR b g) (ML1 I c) = if g = 0 then as8 (newM (mlOf (ML0 I c) b) (mlRcv (ML0 I (par 0 c)) b))
    else as8 (newL (mlOf (ML0 I c) b) (mlRcv (ML0 I (par 0 c)) b)) := sub_halfFn _ b g
theorem A0_half (b : Fin 4) (g : Fin 2) : sub (halfR b g) (A0 I c) = if g = 0 then as8 (wgtA (mlOf (ML0 I c) b) (mlRcv (ML0 I (par 0 c)) b))
    else as8 (wgtB (mlOf (ML0 I c) b) (mlRcv (ML0 I (par 0 c)) b)) := sub_halfFn _ b g
theorem A1_half (b : Fin 4) (g : Fin 2) : sub (halfR b g) (A1 I c) = if g = 0 then as8 (divf (wgtA (mlOf (ML1 I c) b) (mlRcv (ML1 I (par 1 c)) b)) (newL (mlOf (ML1 I c) b) (mlRcv (ML1 I (par 1 c)) b)))
    else as8 (divf (wgtB (mlOf (ML1 I c) b) (mlRcv (ML1 I (par 1 c)) b)) (newL (mlOf (ML1 I c) b) (mlRcv (ML1 I (par 1 c)) b))) := sub_halfFn _ b g

/-- The weights of the merge at stage 0, and the merged maxima and sums. -/
theorem weights0_row (b : Fin 4) (fa : S4x256x16.Idx → Elt F .f32) :
    Tri c iprop(ptML c b (ML0 I c) ∗ ptA c b fa ∗ ptMlr c 0 b (gMlr I c)) (weights0 b)
      iprop(ptML c b (ML1 I c) ∗ ptA c b (A0 I c) ∗ ptMlr c 0 b (gMlr I c)) := by
  intro Kt
  unfold weights0 ptML ptA ptMlr
  simp only [Prog.lift, Prog.bind_op, Prog.bind_ret]
  iintro ⟨⟨Hm, Ha, Hr⟩, HK⟩
  iapply (wp_ld mlM (mlrowR b) (f := ML0 I c) (v := mlOf (ML0 I c) b) (le_set cc0_scratch2 _ (Finset.Subset.refl _)) rfl) $$ Hm; iintro Hm
  iapply (wp_ld mlrM (rmlR 0 b) (f := gMlr I c) (v := mlRcv (ML0 I (par 0 c)) b) (le_set cc0_scratch5 _ (Finset.Subset.refl _)) (sub_gMlr I c 0 b)) $$ Hr; iintro Hr
  rw [← uptoHalf_zero (ML1 I c) (ML0 I c), ← uptoHalf_zero (A0 I c) fa]
  iapply (wp_ld mlM (halfR b 0) (f := uptoHalf 0 (ML1 I c) (ML0 I c)) (v := _) (le_set cc0_scratch2 _ (half_sub b 0)) rfl) $$ Hm; iintro Hm
  iapply (wp_st mlM (halfR b 0) (f := uptoHalf 0 (ML1 I c) (ML0 I c)) (uptoHalf 1 (ML1 I c) (ML0 I c)) (le_set cc0_scratch2 _ (half_sub b 0)) (write_whole cc0_scratch2 ((sub_uptoHalf _ _ b 0).trans (ML1_half I c b 0)) (uptoHalf_out _ _ b 0))) $$ Hm; iintro Hm
  iapply (wp_ld mlM (halfR b 1) (f := uptoHalf 1 (ML1 I c) (ML0 I c)) (v := _) (le_set cc0_scratch2 _ (half_sub b 1)) rfl) $$ Hm; iintro Hm
  iapply (wp_st mlM (halfR b 1) (f := uptoHalf 1 (ML1 I c) (ML0 I c)) (uptoHalf 2 (ML1 I c) (ML0 I c)) (le_set cc0_scratch2 _ (half_sub b 1)) (write_whole cc0_scratch2 ((sub_uptoHalf _ _ b 1).trans (ML1_half I c b 1)) (uptoHalf_out _ _ b 1))) $$ Hm; iintro Hm
  iapply (wp_ld aM (halfR b 0) (f := uptoHalf 0 (A0 I c) fa) (v := _) (le_set cc0_scratch3 _ (half_sub b 0)) rfl) $$ Ha; iintro Ha
  iapply (wp_st aM (halfR b 0) (f := uptoHalf 0 (A0 I c) fa) (uptoHalf 1 (A0 I c) fa) (le_set cc0_scratch3 _ (half_sub b 0)) (write_whole cc0_scratch3 ((sub_uptoHalf _ _ b 0).trans (A0_half I c b 0)) (uptoHalf_out _ _ b 0))) $$ Ha; iintro Ha
  iapply (wp_ld aM (halfR b 1) (f := uptoHalf 1 (A0 I c) fa) (v := _) (le_set cc0_scratch3 _ (half_sub b 1)) rfl) $$ Ha; iintro Ha
  iapply (wp_st aM (halfR b 1) (f := uptoHalf 1 (A0 I c) fa) (uptoHalf 2 (A0 I c) fa) (le_set cc0_scratch3 _ (half_sub b 1)) (write_whole cc0_scratch3 ((sub_uptoHalf _ _ b 1).trans (A0_half I c b 1)) (uptoHalf_out _ _ b 1))) $$ Ha; iintro Ha
  iapply wp_done
  iapply HK
  rw [uptoHalf_two, uptoHalf_two]
  isplitl [Hm]; · iexact Hm
  isplitl [Ha]; · iexact Ha
  iexact Hr

/-- The weights of the merge at stage 1. -/
theorem weights1_row (b : Fin 4) (fa : S4x256x16.Idx → Elt F .f32) :
    Tri c iprop(ptML c b (ML1 I c) ∗ ptA c b fa ∗ ptMlr c 1 b (gMlr I c)) (weights1 b)
      iprop(ptML c b (ML1 I c) ∗ ptA c b (A1 I c) ∗ ptMlr c 1 b (gMlr I c)) := by
  intro Kt
  unfold weights1 ptML ptA ptMlr
  simp only [Prog.lift, Prog.bind_op, Prog.bind_ret]
  iintro ⟨⟨Hm, Ha, Hr⟩, HK⟩
  iapply (wp_ld mlM (mlrowR b) (f := ML1 I c) (v := mlOf (ML1 I c) b) (le_set cc0_scratch2 _ (Finset.Subset.refl _)) rfl) $$ Hm; iintro Hm
  iapply (wp_ld mlrM (rmlR 1 b) (f := gMlr I c) (v := mlRcv (ML1 I (par 1 c)) b) (le_set cc0_scratch5 _ (Finset.Subset.refl _)) (sub_gMlr I c 1 b)) $$ Hr; iintro Hr
  rw [← uptoHalf_zero (A1 I c) fa]
  iapply (wp_ld aM (halfR b 0) (f := uptoHalf 0 (A1 I c) fa) (v := _) (le_set cc0_scratch3 _ (half_sub b 0)) rfl) $$ Ha; iintro Ha
  iapply (wp_st aM (halfR b 0) (f := uptoHalf 0 (A1 I c) fa) (uptoHalf 1 (A1 I c) fa) (le_set cc0_scratch3 _ (half_sub b 0)) (write_whole cc0_scratch3 ((sub_uptoHalf _ _ b 0).trans (A1_half I c b 0)) (uptoHalf_out _ _ b 0))) $$ Ha; iintro Ha
  iapply (wp_ld aM (halfR b 1) (f := uptoHalf 1 (A1 I c) fa) (v := _) (le_set cc0_scratch3 _ (half_sub b 1)) rfl) $$ Ha; iintro Ha
  iapply (wp_st aM (halfR b 1) (f := uptoHalf 1 (A1 I c) fa) (uptoHalf 2 (A1 I c) fa) (le_set cc0_scratch3 _ (half_sub b 1)) (write_whole cc0_scratch3 ((sub_uptoHalf _ _ b 1).trans (A1_half I c b 1)) (uptoHalf_out _ _ b 1))) $$ Ha; iintro Ha
  iapply wp_done
  iapply HK
  rw [uptoHalf_two]
  isplitl [Hm]; · iexact Hm
  isplitl [Ha]; · iexact Ha
  iexact Hr

/-- One head merged at stage 0. -/
theorem mixHead0_head (b : Fin 4) (h : Fin 8) :
    Tri c iprop(ptQ c b (upto h.val (O1b I c) (sentO I c 0)) ∗ ptO c b (upto h.val (O1f I c) (O0f I c)) ∗ ptA c b (A0 I c) ∗ ptOr c 0 b (gOr I c)) (mixHead0 b h)
      iprop(ptQ c b (upto (h.val + 1) (O1b I c) (sentO I c 0)) ∗ ptO c b (upto (h.val + 1) (O1f I c) (O0f I c)) ∗ ptA c b (A0 I c) ∗ ptOr c 0 b (gOr I c)) := by
  intro Kt
  unfold mixHead0 ptQ ptO ptA ptOr
  simp only [Prog.lift, Prog.bind_op, Prog.bind_ret]
  iintro ⟨⟨Hq, Ho, Ha, Hr⟩, HK⟩
  iapply (wp_ld oM (tileR b h) (f := upto h.val (O1f I c) (O0f I c)) (v := sub (tileR b h) (O0f I c)) (le_set cc0_scratch1 _ (tile_sub b h)) (sub_upto_old _ _ b h)) $$ Ho; iintro Ho
  iapply (wp_ld aM (colR b _) (f := A0 I c) (v := wA (A0 I c) b h) (le_set cc0_scratch3 _ (col_sub b _)) rfl) $$ Ha; iintro Ha
  iapply (wp_ld orM (rtileR 0 b h) (f := gOr I c) (v := tRcv (O0b I (par 0 c)) b h) (le_set cc0_scratch4 _ (rtile_sub 0 b h)) (sub_gOr I c 0 b h)) $$ Hr; iintro Hr
  iapply (wp_ld aM (colR b _) (f := A0 I c) (v := wB (A0 I c) b h) (le_set cc0_scratch3 _ (col_sub b _)) rfl) $$ Ha; iintro Ha
  iapply (wp_ld oM (tileR b h) (f := upto h.val (O1f I c) (O0f I c)) (v := _) (le_set cc0_scratch1 _ (tile_sub b h)) rfl) $$ Ho; iintro Ho
  iapply (wp_st oM (tileR b h) (f := upto h.val (O1f I c) (O0f I c)) (upto (h.val + 1) (O1f I c) (O0f I c)) (le_set cc0_scratch1 _ (tile_sub b h)) (write_whole cc0_scratch1 ((sub_upto_new _ _ b h).trans (sub_tileFn _ b h)) (upto_out _ _ b h))) $$ Ho; iintro Ho
  iapply (wp_ld qM (tileR b h) (f := upto h.val (O1b I c) (sentO I c 0)) (v := _) (le_set cc0_scratch0 _ (tile_sub b h)) rfl) $$ Hq; iintro Hq
  iapply (wp_st qM (tileR b h) (f := upto h.val (O1b I c) (sentO I c 0)) (upto (h.val + 1) (O1b I c) (sentO I c 0)) (le_set cc0_scratch0 _ (tile_sub b h)) (write_whole cc0_scratch0 ((sub_upto_new _ _ b h).trans (sub_tileFn _ b h)) (upto_out _ _ b h))) $$ Hq; iintro Hq
  iapply wp_done
  iapply HK
  isplitl [Hq]; · iexact Hq
  isplitl [Ho]; · iexact Ho
  isplitl [Ha]; · iexact Ha
  iexact Hr

/-- One head merged at stage 1. -/
theorem mixHead1_head (b : Fin 4) (h : Fin 8) :
    Tri c iprop(ptQ c b (upto h.val (O2b I c) (sentO I c 1)) ∗ ptO c b (O1f I c) ∗ ptA c b (A1 I c) ∗ ptOr c 1 b (gOr I c)) (mixHead1 b h)
      iprop(ptQ c b (upto (h.val + 1) (O2b I c) (sentO I c 1)) ∗ ptO c b (O1f I c) ∗ ptA c b (A1 I c) ∗ ptOr c 1 b (gOr I c)) := by
  intro Kt
  unfold mixHead1 ptQ ptO ptA ptOr
  simp only [Prog.lift, Prog.bind_op, Prog.bind_ret]
  iintro ⟨⟨Hq, Ho, Ha, Hr⟩, HK⟩
  iapply (wp_ld oM (tileR b h) (f := O1f I c) (v := sub (tileR b h) (O1f I c)) (le_set cc0_scratch1 _ (tile_sub b h)) rfl) $$ Ho; iintro Ho
  iapply (wp_ld aM (colR b _) (f := A1 I c) (v := wA (A1 I c) b h) (le_set cc0_scratch3 _ (col_sub b _)) rfl) $$ Ha; iintro Ha
  iapply (wp_ld orM (rtileR 1 b h) (f := gOr I c) (v := tRcv (O1b I (par 1 c)) b h) (le_set cc0_scratch4 _ (rtile_sub 1 b h)) (sub_gOr I c 1 b h)) $$ Hr; iintro Hr
  iapply (wp_ld aM (colR b _) (f := A1 I c) (v := wB (A1 I c) b h) (le_set cc0_scratch3 _ (col_sub b _)) rfl) $$ Ha; iintro Ha
  iapply (wp_ld qM (tileR b h) (f := upto h.val (O2b I c) (sentO I c 1)) (v := _) (le_set cc0_scratch0 _ (tile_sub b h)) rfl) $$ Hq; iintro Hq
  iapply (wp_st qM (tileR b h) (f := upto h.val (O2b I c) (sentO I c 1)) (upto (h.val + 1) (O2b I c) (sentO I c 1)) (le_set cc0_scratch0 _ (tile_sub b h)) (write_whole cc0_scratch0 ((sub_upto_new _ _ b h).trans (sub_tileFn _ b h)) (upto_out _ _ b h))) $$ Hq; iintro Hq
  iapply wp_done
  iapply HK
  isplitl [Hq]; · iexact Hq
  isplitl [Ho]; · iexact Ho
  isplitl [Ha]; · iexact Ha
  iexact Hr

/-- The output projection of batch row `b`. -/
theorem outproj_row (b : Fin 4) (f : S4x256x1024.Idx → Elt F .f32) :
    Tri c iprop(ptQ c b (O2b I c) ∗ ptW c (woB I c) ∗ ptOut c b f) (outproj b) iprop(ptQ c b (O2b I c) ∗ ptW c (woB I c) ∗ ptOut c b (OUT I c)) := by
  intro Kt
  unfold outproj ptQ ptW ptOut
  simp only [Prog.lift, Prog.bind_op, Prog.bind_ret]
  iintro ⟨⟨Hq, Hw, Ho⟩, HK⟩
  iapply (wp_ld qM (rowR b) (f := O2b I c) (v := sub (rowR b) (O2b I c)) (le_set cc0_scratch0 _ (Finset.Subset.refl _)) rfl) $$ Hq; iintro Hq
  iapply (wp_ld wM fullR (f := woB I c) (v := woB I c) (le_set cc0_scratch8 _ (Finset.subset_univ _)) (sub_full _)) $$ Hw; iintro Hw
  iapply (wp_ld outM (rowR b) (f := f) (v := _) (le_set cc0_stg3_0 _ (Finset.Subset.refl _)) rfl) $$ Ho; iintro Ho
  iapply (wp_st outM (rowR b) (f := f) (OUT I c) (le_set cc0_stg3_0 _ (Finset.Subset.refl _)) (write_whole cc0_stg3_0 (sub_rowFn _ b) (row_out b))) $$ Ho; iintro Ho
  iapply wp_done
  iapply HK
  isplitl [Hq]; · iexact Hq
  isplitl [Hw]; · iexact Hw
  iexact Ho

end Cert.KernelIdeal.Body

end
-- ==== Proof.Exchange.lean ====
/- The exchanges: announcing to the partners, starting the transfers of one batch row, and waiting for them. -/
module

public import proofs.«01_k».proof.Proof.Compute
public import Idealize.ShloMosaic.Lib.ValueLayout

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Idealize.ShloMosaic.ValueIdx

variable {F : FTy → Type} [FloatOps F]

local notation "𝕄" => MT nD τ sig Unit (Elt F) ℕ UU ℕ

variable (I : Dev nD → In F) (c : Dev nD)

/-! ## The standing facts -/

/-- The names of the cells of the exchange. -/
abbrev CK : Type := Unit ⊕ (Fin 2 × Fin 16)
/-- What stands throughout: every cell's invariant, that every cell has reached round 0, and the levels. -/
def records (K : Dev nD × CK → ℕ) : sProp 𝕄 :=
  iprop((bigSep Finset.univ fun p : Dev nD × CK => cellInv ER (rd I) (K p) (kcell p)) ∗ (bigSep Finset.univ fun p : Dev nD × CK => reached ER (kcell p) 0) ∗ levAts L lv)

instance records_persistent (K : Dev nD × CK → ℕ) : BI.Persistent (records (F := F) I K) := by unfold records; infer_instance

variable (K : Dev nD × CK → ℕ)

theorem rec_inv (p : Dev nD × CK) : records I K ⊢ cellInv ER (rd I) (K p) (kcell p) := by
  unfold records
  iintro ⟨H, -, -⟩
  iapply (show bigSep Finset.univ (fun p : Dev nD × CK => cellInv ER (rd I) (K p) (kcell p)) ⊢ cellInv ER (rd I) (K p) (kcell p) from bigSep_elim (Φ := fun p : Dev nD × CK => cellInv ER (rd I) (K p) (kcell p)) (Finset.mem_univ p)) $$ H
theorem rec_reached (p : Dev nD × CK) : records I K ⊢ reached ER (kcell p) 0 := by
  unfold records
  iintro ⟨-, H, -⟩
  iapply (show (bigSep Finset.univ (fun p : Dev nD × CK => (reached ER (kcell p) 0 : sProp 𝕄))) ⊢ reached ER (kcell p) 0 from bigSep_elim (Φ := fun p : Dev nD × CK => (reached ER (kcell p) 0 : sProp 𝕄)) (Finset.mem_univ p)) $$ H
theorem rec_lev : records I K ⊢ levAts L lv := by
  unfold records
  iintro ⟨-, -, H⟩
  iexact H

/-- The barrier's name. -/
abbrev nB (c : Dev nD) : Dev nD × CK := (c, .inl ())
/-- A departure's name. -/
abbrev nS (c : Dev nD) (i : Fin 16) : Dev nD × CK := (c, .inr (0, i))
/-- An arrival's name. -/
abbrev nR (c : Dev nD) (i : Fin 16) : Dev nD × CK := (c, .inr (1, i))

/-- The device owes `O`, whatever it has already waited for. -/
def owing (O : CellTallies nD τ sig Unit) : sProp 𝕄 := iprop(∃ W, owes (c : Thread nD τ) O W)

/-! ## What an arrival leaves in the landing buffers -/

theorem or_set (s : Fin 2) (b : Fin 4) : (orRow s b).view.set = (rrowR s b).set :=
  (View.set_reshape _ _).trans (View.set_slice_whole cc0_scratch4 (rrowR s b))
theorem mlr_set (s : Fin 2) (b : Fin 4) : (mlrRow s b).view.set = (rmlR s b).set :=
  (View.set_reshape _ _).trans (View.set_slice_whole cc0_scratch5 (rmlR s b))
theorem q_set (b : Fin 4) : (qRow b).view.set = (rowR b).set := View.set_slice_whole cc0_scratch0 (rowR b)
theorem ml_set (b : Fin 4) : (mlRow b).view.set = (mlrowR b).set := View.set_slice_whole cc0_scratch2 (mlrowR b)

/-- A view written from another, entry by entry. -/
theorem write_view {κ : Kind} {sp : Space} {s : Shape} {e : EltTy} (v : View sig κ sp s e) {f : v.ref.ty.shape.Idx → Elt F v.ref.ty.elt} {w : s.Idx → Elt F e}
    {g : v.ref.ty.shape.Idx → Elt F v.ref.ty.elt} (h : ∀ x, v.read (Elt F) g x = w x) : ∀ i ∈ v.set, v.write (Elt F) f w Finset.univ i = g i := by
  intro i hi
  have hw : v.write (Elt F) f w Finset.univ = v.write (Elt F) f (v.read (Elt F) g) Finset.univ := by rw [show v.read (Elt F) g = w from funext h]
  obtain ⟨x, -, rfl⟩ := Finset.mem_map.mp hi
  rw [hw, View.write_emb_of_mem _ _ (Finset.mem_univ x), View.read_apply]
  simp

theorem or_land (s : Fin 2) (b : Fin 4) (fd : S2x4x256x1024.Idx → Elt F .bf16) :
    ∀ i ∈ (orRow s b).view.set, (orRow s b).view.write (Elt F) fd ((qRow b).view.read (Elt F) (sentO I c s)) Finset.univ i = gOr I (par s c) i := by
  refine write_view (F := F) (orRow s b).view (fun x => ?_)
  show gOr I (par s c) ((rrowR s b).emb (Shape.reshapeEquiv squeezes_S1x1x256x1024_S1x256x1024.numel_eq x)) = sentO I c s ((rowR b).emb x)
  have hx := (congrArg (Shape.reshapeEquiv squeezes_S1x1x256x1024_S1x256x1024.numel_eq) (eq_ix3 x)).trans (reshapeEquiv_ix3_1abc squeezes_S1x1x256x1024_S1x256x1024.numel_eq (x 0) (x 1) (x 2))
  rw [hx, rrow_emb, row_emb]
  show sentO I (par s (par s c)) s (ix3 b (x 1) (x 2)) = _
  rw [par_par]; rfl
theorem mlr_land (s : Fin 2) (b : Fin 4) (fd : S2x4x256x16.Idx → Elt F .f32) :
    ∀ i ∈ (mlrRow s b).view.set, (mlrRow s b).view.write (Elt F) fd ((mlRow b).view.read (Elt F) (sentML I c s)) Finset.univ i = gMlr I (par s c) i := by
  refine write_view (F := F) (mlrRow s b).view (fun x => ?_)
  show gMlr I (par s c) ((rmlR s b).emb (Shape.reshapeEquiv squeezes_S1x1x256x16_S1x256x16.numel_eq x)) = sentML I c s ((mlrowR b).emb x)
  have hx := (congrArg (Shape.reshapeEquiv squeezes_S1x1x256x16_S1x256x16.numel_eq) (eq_ix3 x)).trans (reshapeEquiv_ix3_1abc squeezes_S1x1x256x16_S1x256x16.numel_eq (x 0) (x 1) (x 2))
  rw [hx, rml_emb, mlrow_emb]
  show sentML I (par s (par s c)) s (ix3 b (x 1) (x 2)) = _
  rw [par_par]; rfl

attribute [local irreducible] gOr gMlr sentO sentML

/-! ## Starting an exchange -/

theorem No_eq (s : Fin 2) (b : Fin 4) : (orRow s b).view.dmaCredit = amt (0 : Fin 2).val := rfl
theorem Nml_eq (s : Fin 2) (b : Fin 4) : (mlrRow s b).view.dmaCredit = amt (1 : Fin 2).val := rfl
theorem No_eq' (b : Fin 4) : (qRow b).view.dmaCredit = amt (0 : Fin 2).val := rfl
theorem Nml_eq' (b : Fin 4) : (mlRow b).view.dmaCredit = amt (1 : Fin 2).val := rfl

/-- The right to pay the departure and the arrival of one transfer. -/
def toks (s : Fin 2) (b : Fin 4) (j : Fin 2) : sProp 𝕄 :=
  iprop(dutyTok ER (sendCell c (exId s b j)) 0 0 ∗ dutyTok ER (recvCell (par s c) (exId s b j)) 0 0)

/-- Sending a row of partial outputs. -/
theorem send_o (s : Fin 2) (b : Fin 4) (n : Dev nD) (hn : n = par s c) (fd : S2x4x256x1024.Idx → Elt F .bf16) (O : CellTallies nD τ sig Unit)
    {hsc : (orRow s b).view.ref.isScScratch = false} {hsrc : (qRow b).view.WordExact} {hdst : (orRow s b).view.WordExact}
    {hsem : DmaTarget.Typed .vmem (.dma (recvSem (exId s b 0))) (.remote (Dev.tc n : Thread nD τ) (orRow s b) (.dma (sendSem (exId s b 0))) hsc)}
    {k : PUnit → PP F PUnit} {Kt : PUnit → sProp 𝕄} :
    iprop(records I K ∗ ptQ c b (sentO I c s) ∗ ptOr (par s c) s b fd ∗ owing c (O + due c (s, b) 0) ∗ toks c s b 0)
      ⊢ iprop(((cred (tallyAt (sendCell c (exId s b 0)) () (amt (0 : Fin 2).val)) ∗ owing c O) -∗ WP c (k ⟨⟩) Kt)
          -∗ WP c (.op (.enqueueDma (qRow b) (.remote (Dev.tc n : Thread nD τ) (orRow s b) (.dma (sendSem (exId s b 0))) hsc) (.dma (recvSem (exId s b 0))) hsrc hdst hsem) k) Kt) := by
  subst hn
  unfold toks owing ptQ ptOr
  iintro ⟨#Hrec, Hq, Hr, ⟨%W, HO⟩, HtS, HtR⟩ HK
  rw [← q_set b, ← or_set s b]
  iapply (Rounds.wp_send_pointsTo 𝒱₀ ER (rd I) (c : Thread nD τ) none (c' := (par s c : Thread nD τ)) (src := qRow b) (dst := orRow s b) (sem := .dma (recvSem (exId s b 0))) (κ₁ := K (nS c (exId s b 0))) (κ₂ := K (nR (par s c) (exId s b 0)))
    (r₁ := 0) (r₂ := 0) (d₁ := 0) (d₂ := 0) (fd := fd) (fs := sentO I c s) (q := fullShare)
    (by rw [duties_send]; exact Finset.mem_singleton_self _) (by rw [duties_recv]; exact Finset.mem_singleton_self _)
    () () (amt (0 : Fin 2).val) (No_eq s b) (amount_send I c s b 0 0) (amount_recv I (par s c) s b 0 0) O rfl (W := W)
    (by rw [payload_send, sendPay_o]; unfold ptQ; rw [← q_set b])
    (by rw [payload_recv, recvPay_o]; unfold ptOr; rw [← or_set s b]; exact Entails.of_eq (pointsTo_congr (or_land I c s b fd)))) $$ [Hq Hr HO HtS HtR]
  · isplitr; · iapply (rec_inv I K (nS c (exId s b 0))) $$ Hrec
    isplitr; · iapply (rec_inv I K (nR (par s c) (exId s b 0))) $$ Hrec
    isplitl [Hq]; · iexact Hq
    isplitl [Hr]; · iexact Hr
    isplitl [HO]; · iexact HO
    isplitl [HtS]; · iexact HtS
    isplitr; · iapply (rec_reached I K (nS c (exId s b 0))) $$ Hrec
    isplitl [HtR]; · iexact HtR
    iapply (rec_reached I K (nR (par s c) (exId s b 0))) $$ Hrec
  iintro ⟨Hc, HO⟩
  iapply HK
  isplitl [Hc]; · iexact Hc
  iexists W; iexact HO

/-- Sending a row of maxima and sums. -/
theorem send_ml (s : Fin 2) (b : Fin 4) (n : Dev nD) (hn : n = par s c) (fd : S2x4x256x16.Idx → Elt F .f32) (O : CellTallies nD τ sig Unit)
    {hsc : (mlrRow s b).view.ref.isScScratch = false} {hsrc : (mlRow b).view.WordExact} {hdst : (mlrRow s b).view.WordExact}
    {hsem : DmaTarget.Typed .vmem (.dma (recvSem (exId s b 1))) (.remote (Dev.tc n : Thread nD τ) (mlrRow s b) (.dma (sendSem (exId s b 1))) hsc)}
    {k : PUnit → PP F PUnit} {Kt : PUnit → sProp 𝕄} :
    iprop(records I K ∗ ptML c b (sentML I c s) ∗ ptMlr (par s c) s b fd ∗ owing c (O + due c (s, b) 1) ∗ toks c s b 1)
      ⊢ iprop(((cred (tallyAt (sendCell c (exId s b 1)) () (amt (1 : Fin 2).val)) ∗ owing c O) -∗ WP c (k ⟨⟩) Kt)
          -∗ WP c (.op (.enqueueDma (mlRow b) (.remote (Dev.tc n : Thread nD τ) (mlrRow s b) (.dma (sendSem (exId s b 1))) hsc) (.dma (recvSem (exId s b 1))) hsrc hdst hsem) k) Kt) := by
  subst hn
  unfold toks owing ptML ptMlr
  iintro ⟨#Hrec, Hq, Hr, ⟨%W, HO⟩, HtS, HtR⟩ HK
  rw [← ml_set b, ← mlr_set s b]
  iapply (Rounds.wp_send_pointsTo 𝒱₀ ER (rd I) (c : Thread nD τ) none (c' := (par s c : Thread nD τ)) (src := mlRow b) (dst := mlrRow s b) (sem := .dma (recvSem (exId s b 1))) (κ₁ := K (nS c (exId s b 1))) (κ₂ := K (nR (par s c) (exId s b 1)))
    (r₁ := 0) (r₂ := 0) (d₁ := 0) (d₂ := 0) (fd := fd) (fs := sentML I c s) (q := fullShare)
    (by rw [duties_send]; exact Finset.mem_singleton_self _) (by rw [duties_recv]; exact Finset.mem_singleton_self _)
    () () (amt (1 : Fin 2).val) (Nml_eq s b) (amount_send I c s b 1 0) (amount_recv I (par s c) s b 1 0) O rfl (W := W)
    (by rw [payload_send, sendPay_ml]; unfold ptML; rw [← ml_set b])
    (by rw [payload_recv, recvPay_ml]; unfold ptMlr; rw [← mlr_set s b]; exact Entails.of_eq (pointsTo_congr (mlr_land I c s b fd)))) $$ [Hq Hr HO HtS HtR]
  · isplitr; · iapply (rec_inv I K (nS c (exId s b 1))) $$ Hrec
    isplitr; · iapply (rec_inv I K (nR (par s c) (exId s b 1))) $$ Hrec
    isplitl [Hq]; · iexact Hq
    isplitl [Hr]; · iexact Hr
    isplitl [HO]; · iexact HO
    isplitl [HtS]; · iexact HtS
    isplitr; · iapply (rec_reached I K (nS c (exId s b 1))) $$ Hrec
    isplitl [HtR]; · iexact HtR
    iapply (rec_reached I K (nR (par s c) (exId s b 1))) $$ Hrec
  iintro ⟨Hc, HO⟩
  iapply HK
  isplitl [Hc]; · iexact Hc
  iexists W; iexact HO

/-- The credits of a row's two departures. -/
def sendCreds (s : Fin 2) (b : Fin 4) : sProp 𝕄 :=
  iprop(cred (tallyAt (sendCell c (exId s b 0)) () (amt (0 : Fin 2).val)) ∗ cred (tallyAt (sendCell c (exId s b 1)) () (amt (1 : Fin 2).val)))

/-- Starting exchange `s` of batch row `b`, the next one owed: both rows go, and with them the right to the partner's landing rows. -/
theorem startEx_row (s : Fin 2) (b : Fin 4) (l : List (Fin 2 × Fin 4)) (d d' : Dev nD) (hd : d = par s c) (hd' : d' = par s c) :
    Tri c iprop(records I K ∗ ptQ c b (sentO I c s) ∗ ptML c b (sentML I c s) ∗ ((∃ f, ptOr (par s c) s b f) ∗ (∃ f, ptMlr (par s c) s b f))
        ∗ (toks c s b 0 ∗ toks c s b 1) ∗ owing c (owedL c ((s, b) :: l))) (startEx s b d d')
      iprop(sendCreds c s b ∗ owing c (owedL c l)) := by
  intro Kt
  unfold startEx sendCreds
  simp only [Prog.lift, Prog.bind_op, Prog.bind_ret]
  iintro ⟨⟨#Hrec, Hq, Hm, ⟨⟨%f, Ho⟩, ⟨%g, Hr⟩⟩, ⟨Ht0, Ht1⟩, HO⟩, HK⟩
  iapply (send_o I c K s b d hd f (owedL c l + due c (s, b) 1)) $$ [Hq Ho Ht0 HO]
  · isplitr; · iexact Hrec
    isplitl [Hq]; · iexact Hq
    isplitl [Ho]; · iexact Ho
    isplitl [HO]; · iexact HO
    iexact Ht0
  iintro ⟨Hc0, HO⟩
  iapply (send_ml I c K s b d' hd' g (owedL c l)) $$ [Hm Hr Ht1 HO]
  · isplitr; · iexact Hrec
    isplitl [Hm]; · iexact Hm
    isplitl [Hr]; · iexact Hr
    isplitl [HO]; · iexact HO
    iexact Ht1
  iintro ⟨Hc1, HO⟩
  iapply wp_done
  iapply HK
  isplitl [Hc0 Hc1]; · isplitl [Hc0] <;> iassumption
  iexact HO

/-! ## Waiting for an exchange -/

/-- Waiting for an arrival: the landing row, and the semaphore back at zero. -/
theorem wait_recv (s : Fin 2) (b : Fin 4) (j : Fin 2) (l : List (Fin 2 × Fin 4)) (hl : ∀ x ∈ l, 4 * s.val + b.val < 4 * x.1.val + x.2.val)
    {κ' : Kind} {sp sp' : Space} {s₁ s₂ : Shape} {e₁ e₂ : EltTy} {srcw : Memref sig .tc sp' s₁ e₁} {dstw : Memref sig κ' sp s₂ e₂}
    {hsrc : srcw.view.WordExact} {hdst : dstw.view.WordExact} (hN : dstw.view.dmaCredit = amt j.val) {k : PUnit → PP F PUnit} {Kt : PUnit → sProp 𝕄} :
    iprop(records I K ∗ cred (tallyAt (recvCell c (exId s b j)) () (amt j.val)) ∗ atPos ER (recvCell c (exId s b j)) 0 ∅ 0 ∗ owing c (owedL c l))
      ⊢ iprop(((recvPay I c (exId s b j).val ∗ semVal (recvCell c (exId s b j)) 0 ∗ owing c (owedL c l)) -∗ WP c (k ⟨⟩) Kt)
          -∗ WP c (.op (.waitDma2 (recvSem (exId s b j)) srcw dstw hsrc hdst) k) Kt) := by
  unfold owing
  iintro ⟨#Hrec, Hc, Hat, ⟨%W, HO⟩⟩ HK
  rw [← hN]
  iapply (Rounds.wp_wait_rest_token 𝒱₀ ER (rd I) (c : Thread nD τ) none (sm := .dma (recvSem (exId s b j))) (κ := K (nR c (exId s b j)))
      (wpE_waitDma2_eq 𝒱₀ (c : Thread nD τ) none Set.univ) (Set.mem_univ _) () (O := owedL c l) (W := W) (R := 0) (m := 0) (T := ∅)
      (by rw [Nat.zero_add, expect_recv, hN])) $$ [Hc Hat HO]
  · isplitr; · iapply (rec_inv I K (nR c (exId s b j))) $$ Hrec
    isplitl [Hc]; · iexact Hc
    isplitl [HO]; · iexact HO
    isplitr
    · iapply (mayWait c (.dma (recvSem (exId s b j))) l (fun x hx => by rw [lvs_recv]; have := hl x hx; omega))
      iapply (rec_lev I K) $$ Hrec
    iexact Hat
  iintro ⟨HO, Hat, -, Hpay⟩
  ihave Hp := (Entails.of_eq (rest_recv I c (exId s b j))) $$ Hpay
  imod (Rounds.cell_close ER (rd I) (Set.mem_univ (K (nR c (exId s b j)))) (fun h => h) (R := 0 + 1) (duties_later I (recvCell c (exId s b j)))) $$ [Hat] with Hz
  · isplitr; · iapply (rec_inv I K (nR c (exId s b j))) $$ Hrec
    iexact Hat
  iapply HK
  isplitl [Hp]; · iexact Hp
  isplitl [Hz]; · iexact Hz
  iexists _; iexact HO

/-- Waiting for a departure: the row sent, and the semaphore back at zero. -/
theorem wait_send (s : Fin 2) (b : Fin 4) (j : Fin 2) (l : List (Fin 2 × Fin 4))
    {κ' : Kind} {sp sp' : Space} {s₁ s₂ : Shape} {e₁ e₂ : EltTy} {srcw : Memref sig .tc sp' s₁ e₁} {dstw : Memref sig κ' sp s₂ e₂}
    {hsrc : srcw.view.WordExact} {hdst : dstw.view.WordExact} (hN : dstw.view.dmaCredit = amt j.val) {k : PUnit → PP F PUnit} {Kt : PUnit → sProp 𝕄} :
    iprop(records I K ∗ cred (tallyAt (sendCell c (exId s b j)) () (amt j.val)) ∗ atPos ER (sendCell c (exId s b j)) 0 ∅ 0 ∗ owing c (owedL c l))
      ⊢ iprop(((sendPay I c (exId s b j).val ∗ semVal (sendCell c (exId s b j)) 0 ∗ owing c (owedL c l)) -∗ WP c (k ⟨⟩) Kt)
          -∗ WP c (.op (.waitDma2 (sendSem (exId s b j)) srcw dstw hsrc hdst) k) Kt) := by
  unfold owing
  iintro ⟨#Hrec, Hc, Hat, ⟨%W, HO⟩⟩ HK
  rw [← hN]
  iapply (Rounds.wp_wait_rest_token 𝒱₀ ER (rd I) (c : Thread nD τ) none (sm := .dma (sendSem (exId s b j))) (κ := K (nS c (exId s b j)))
      (wpE_waitDma2_eq 𝒱₀ (c : Thread nD τ) none Set.univ) (Set.mem_univ _) () (O := owedL c l) (W := W) (R := 0) (m := 0) (T := ∅)
      (by rw [Nat.zero_add, expect_send, hN])) $$ [Hc Hat HO]
  · isplitr; · iapply (rec_inv I K (nS c (exId s b j))) $$ Hrec
    isplitl [Hc]; · iexact Hc
    isplitl [HO]; · iexact HO
    isplitr
    · iapply (mayWait c (.dma (sendSem (exId s b j))) l (fun x hx => by rw [lvs_send]; omega))
      iapply (rec_lev I K) $$ Hrec
    iexact Hat
  iintro ⟨HO, Hat, -, Hpay⟩
  ihave Hp := (Entails.of_eq (rest_send I c (exId s b j))) $$ Hpay
  imod (Rounds.cell_close ER (rd I) (Set.mem_univ (K (nS c (exId s b j)))) (fun h => h) (R := 0 + 1) (duties_later I (sendCell c (exId s b j)))) $$ [Hat] with Hz
  · isplitr; · iapply (rec_inv I K (nS c (exId s b j))) $$ Hrec
    iexact Hat
  iapply HK
  isplitl [Hp]; · iexact Hp
  isplitl [Hz]; · iexact Hz
  iexists _; iexact HO

/-- The credits of a row's two arrivals. -/
def recvCreds (s : Fin 2) (b : Fin 4) : sProp 𝕄 :=
  iprop(cred (tallyAt (recvCell c (exId s b 0)) () (amt (0 : Fin 2).val)) ∗ cred (tallyAt (recvCell c (exId s b 1)) () (amt (1 : Fin 2).val)))
/-- The device at round 0 of a row's four cells. -/
def starts (s : Fin 2) (b : Fin 4) : sProp 𝕄 :=
  iprop((atPos ER (sendCell c (exId s b 0)) 0 ∅ 0 ∗ atPos ER (recvCell c (exId s b 0)) 0 ∅ 0) ∗ (atPos ER (sendCell c (exId s b 1)) 0 ∅ 0 ∗ atPos ER (recvCell c (exId s b 1)) 0 ∅ 0))
/-- A row's four cells back at zero. -/
def zeros (s : Fin 2) (b : Fin 4) : sProp 𝕄 :=
  iprop((semVal (sendCell c (exId s b 0)) 0 ∗ semVal (recvCell c (exId s b 0)) 0) ∗ (semVal (sendCell c (exId s b 1)) 0 ∗ semVal (recvCell c (exId s b 1)) 0))

/-- Waiting for exchange `s` of batch row `b`: the rows sent back, and the landing rows with what the partner sent. -/
theorem waitEx_row (s : Fin 2) (b : Fin 4) (l : List (Fin 2 × Fin 4)) (hl : ∀ x ∈ l, 4 * s.val + b.val < 4 * x.1.val + x.2.val) :
    Tri c iprop(records I K ∗ recvCreds c s b ∗ sendCreds c s b ∗ starts c s b ∗ owing c (owedL c l)) (waitEx s b)
      iprop(ptQ c b (sentO I c s) ∗ ptML c b (sentML I c s) ∗ ptOr c s b (gOr I c) ∗ ptMlr c s b (gMlr I c) ∗ zeros c s b ∗ owing c (owedL c l)) := by
  intro Kt
  unfold waitEx recvCreds sendCreds starts zeros
  simp only [Prog.lift, Prog.bind_op, Prog.bind_ret]
  iintro ⟨⟨#Hrec, ⟨HcR0, HcR1⟩, ⟨HcS0, HcS1⟩, ⟨⟨HS0, HR0⟩, ⟨HS1, HR1⟩⟩, HO⟩, HK⟩
  iapply (wait_recv I c K s b 0 l hl (No_eq s b)) $$ [HcR0 HR0 HO]
  · isplitr; · iexact Hrec
    isplitl [HcR0]; · iexact HcR0
    isplitl [HR0]; · iexact HR0
    iexact HO
  rw [recvPay_o]
  iintro ⟨Hor, HzR0, HO⟩
  iapply (wait_recv I c K s b 1 l hl (Nml_eq s b)) $$ [HcR1 HR1 HO]
  · isplitr; · iexact Hrec
    isplitl [HcR1]; · iexact HcR1
    isplitl [HR1]; · iexact HR1
    iexact HO
  rw [recvPay_ml]
  iintro ⟨Hmlr, HzR1, HO⟩
  iapply (wait_send I c K s b 0 l (No_eq' b)) $$ [HcS0 HS0 HO]
  · isplitr; · iexact Hrec
    isplitl [HcS0]; · iexact HcS0
    isplitl [HS0]; · iexact HS0
    iexact HO
  rw [sendPay_o]
  iintro ⟨Hq, HzS0, HO⟩
  iapply (wait_send I c K s b 1 l (Nml_eq' b)) $$ [HcS1 HS1 HO]
  · isplitr; · iexact Hrec
    isplitl [HcS1]; · iexact HcS1
    isplitl [HS1]; · iexact HS1
    iexact HO
  rw [sendPay_ml]
  iintro ⟨Hml, HzS1, HO⟩
  iapply wp_done
  iapply HK
  isplitl [Hq]; · iexact Hq
  isplitl [Hml]; · iexact Hml
  isplitl [Hor]; · iexact Hor
  isplitl [Hmlr]; · iexact Hmlr
  isplitr [HO]
  · isplitl [HzS0 HzR0]
    · isplitl [HzS0] <;> iassumption
    · isplitl [HzS1] <;> iassumption
  iexact HO

/-! ## The barrier -/

/-- Announcing to both partners, and waiting for both: the device hands over its own landing rows and obtains its partners'. -/
theorem barrier_both (d d' : Dev nD) (hd : d = par 0 c) (hd' : d' = par 1 c) :
    Tri c iprop(records I K ∗ (dutyTok ER (barCell (par 0 c)) 0 0 ∗ dutyTok ER (barCell (par 1 c)) 0 1) ∗ (barPay c 0 ∗ barPay c 1)
        ∗ cred (tallyAt (barCell c) () 2) ∗ atPos ER (barCell c) 0 ∅ 0 ∗ owing c (O₀ c)) (barrier d d')
      iprop((barPay (par 0 c) 0 ∗ barPay (par 1 c) 1) ∗ semVal (barCell c) 0 ∗ owing c (owedL c order)) := by
  subst hd hd'
  intro Kt
  unfold barrier owing
  simp only [semSignalWord, semWaitWord, Prog.lift, Prog.bind_op, Prog.bind_ret, Prog.pure_eq_ret]
  iintro ⟨⟨#Hrec, ⟨Ht0, Ht1⟩, ⟨Hp0, Hp1⟩, Hc, Hat, ⟨%W, HO⟩⟩, HK⟩
  iapply (Rounds.wp_signal 𝒱₀ ER (rd I) (c : Thread nD τ) none (dst := (par 0 c : Thread nD τ)) (sem := barS) (κ := K (nB (par 0 c)))
      (d := 0) (by rw [duties_bar]; exact Finset.mem_univ _) ((amount_bar I (par 0 c) 0).trans (by decide)) () (owedL c order + tallyAt (barCell (par 1 c)) () 1) rfl)
    $$ [HO Ht0 Hp0]
  · isplitr; · iapply (rec_inv I K (nB (par 0 c))) $$ Hrec
    isplitl [HO]; · iexact HO
    isplitl [Ht0]; · iexact Ht0
    isplitl [Hp0]; · rw [payload_bar, par_par]; iexact Hp0
    iapply (rec_reached I K (nB (par 0 c))) $$ Hrec
  iintro HO
  iapply (Rounds.wp_signal 𝒱₀ ER (rd I) (c : Thread nD τ) none (dst := (par 1 c : Thread nD τ)) (sem := barS) (κ := K (nB (par 1 c)))
      (d := 1) (by rw [duties_bar]; exact Finset.mem_univ _) ((amount_bar I (par 1 c) 1).trans (by decide)) () (owedL c order) rfl)
    $$ [HO Ht1 Hp1]
  · isplitr; · iapply (rec_inv I K (nB (par 1 c))) $$ Hrec
    isplitl [HO]; · iexact HO
    isplitl [Ht1]; · iexact Ht1
    isplitl [Hp1]; · rw [payload_bar, par_par]; iexact Hp1
    iapply (rec_reached I K (nB (par 1 c))) $$ Hrec
  iintro HO
  iapply (Rounds.wp_wait_rest_token 𝒱₀ ER (rd I) (c : Thread nD τ) none (sm := .reg barS) (κ := K (nB c))
      (wpE_semWait_eq 𝒱₀ (c : Thread nD τ) none Set.univ) (Set.mem_univ _) () (O := owedL c order) (W := W) (R := 0) (m := 0) (T := ∅)
      (by rw [expect_bar]; decide)) $$ [Hc HO Hat]
  · isplitr; · iapply (rec_inv I K (nB c)) $$ Hrec
    isplitl [Hc]; · iexact Hc
    isplitl [HO]; · iexact HO
    isplitr
    · iapply (mayWait c (.reg barS) order (fun x hx => by show 1 < _; omega))
      iapply (rec_lev I K) $$ Hrec
    iexact Hat
  iintro ⟨HO, Hat, -, Hpay⟩
  ihave Hp := (Entails.of_eq (rest_bar I c)) $$ Hpay
  imod (Rounds.cell_close ER (rd I) (Set.mem_univ (K (nB c))) (fun h => h) (R := 0 + 1) (duties_later I (barCell c))) $$ [Hat] with Hz
  · isplitr; · iapply (rec_inv I K (nB c)) $$ Hrec
    iexact Hat
  iapply wp_done
  iapply HK
  isplitl [Hp]; · iexact Hp
  isplitl [Hz]; · iexact Hz
  iexists _; iexact HO

end Cert.KernelIdeal.Body

end
-- ==== Proof.Slots.lean ====
/- The key and value rings: a slot that lies idle, a slot whose copies are under way, and the copies' start and wait. -/
module

public import proofs.«01_k».proof.Proof.Exchange

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen Idealize.ShloMosaic.ValueIdx

variable {F : FTy → Type} [FloatOps F]

local notation "𝕄" => MT nD τ sig Unit (Elt F) ℕ UU ℕ

variable (I : Dev nD → In F) (c : Dev nD) (K : Dev nD × CK → ℕ)

/-! ## What a copy leaves in its slot -/

/-- A copy's source seen from its destination: entry `(x, y)` is entry `(0, x, 0, y)` of the window. -/
theorem squeeze_window (x : Fin 1024) (y : Fin 128) :
    Shape.reshapeEquiv squeezes_S1x1024x1x128_S1024x128.numel_eq (ix2 x y) = (ix4 (⟨0, Nat.one_pos⟩ : Fin 1) x (⟨0, Nat.one_pos⟩ : Fin 1) y : S1x1024x1x128.Idx) :=
  Shape.reshapeEquiv_eq_of_rowMajor squeezes_S1x1024x1x128_S1024x128.numel_eq (by
    rw [Shape.rowMajor_val_four, Shape.rowMajor_val_two]
    show (((0 * 1024 + x.val) * 1 + 0) * 128 + y.val) = x.val * 128 + y.val
    simp only [Nat.zero_mul, Nat.zero_add, Nat.mul_one, Nat.add_zero])

theorem k_set (s : Fin 4) : (kSlot s).view.set = (slotR s).set := (View.set_reshape _ _).trans (View.set_slice_whole cc0_scratch6 (slotR s))
theorem v_set (s : Fin 4) : (vSlot s).view.set = (slotR s).set := (View.set_reshape _ _).trans (View.set_slice_whole cc0_scratch7 (slotR s))

/-- The offsets of one batch row and head. -/
abbrev offOf (b : Fin 4) (h : Fin 8) : Fin 4 → ℕ := ![b.val, 0, h.val, 0]

theorem k_land (s : Fin 4) (b : Fin 4) (h : Fin 8) (hin : ∀ a, offOf b h a + S1x1024x1x128.size a ≤ S4x1024x8x128.size a) (fd : S4x1024x128.Idx → Elt F .f32) :
    ∀ i ∈ (kSlot s).view.set, (kSlot s).view.write (Elt F) fd ((kSrc (offOf b h) hin).view.read (Elt F) (I c).K) Finset.univ i = kAt I c b h i := by
  refine write_view (F := F) (kSlot s).view (fun x => ?_)
  show kAt I c b h ((slotR s).emb (Shape.reshapeEquiv squeezes_S1x1024x128_S1024x128.numel_eq x))
    = (I c).K ((Rect.unit (s := S4x1024x8x128) (offOf b h) S1x1024x1x128.size hin).emb (Shape.reshapeEquiv squeezes_S1x1024x1x128_S1024x128.numel_eq x))
  have h1 := (congrArg (Shape.reshapeEquiv squeezes_S1x1024x128_S1024x128.numel_eq) (eq_ix2 x)).trans (reshapeEquiv_ix2_1ab squeezes_S1x1024x128_S1024x128.numel_eq (x 0) (x 1))
  have h2 := (congrArg (Shape.reshapeEquiv squeezes_S1x1024x1x128_S1024x128.numel_eq) (eq_ix2 x)).trans (squeeze_window (x 0) (x 1))
  rw [h1, h2]
  unfold kAt
  congr 1
  funext a
  apply Fin.ext
  revert a
  simp [Fin.forall_fin_succ, Rect.emb, Rect.unit, ix3, ix4]
theorem v_land (s : Fin 4) (b : Fin 4) (h : Fin 8) (hin : ∀ a, offOf b h a + S1x1024x1x128.size a ≤ S4x1024x8x128.size a) (fd : S4x1024x128.Idx → Elt F .f32) :
    ∀ i ∈ (vSlot s).view.set, (vSlot s).view.write (Elt F) fd ((vSrc (offOf b h) hin).view.read (Elt F) (I c).V) Finset.univ i = vAt I c b h i := by
  refine write_view (F := F) (vSlot s).view (fun x => ?_)
  show vAt I c b h ((slotR s).emb (Shape.reshapeEquiv squeezes_S1x1024x128_S1024x128.numel_eq x))
    = (I c).V ((Rect.unit (s := S4x1024x8x128) (offOf b h) S1x1024x1x128.size hin).emb (Shape.reshapeEquiv squeezes_S1x1024x1x128_S1024x128.numel_eq x))
  have h1 := (congrArg (Shape.reshapeEquiv squeezes_S1x1024x128_S1024x128.numel_eq) (eq_ix2 x)).trans (reshapeEquiv_ix2_1ab squeezes_S1x1024x128_S1024x128.numel_eq (x 0) (x 1))
  have h2 := (congrArg (Shape.reshapeEquiv squeezes_S1x1024x1x128_S1024x128.numel_eq) (eq_ix2 x)).trans (squeeze_window (x 0) (x 1))
  rw [h1, h2]
  unfold vAt
  congr 1
  funext a
  apply Fin.ext
  revert a
  simp [Fin.forall_fin_succ, Rect.emb, Rect.unit, ix3, ix4]

attribute [local irreducible] kAt vAt

/-! ## Slots -/

/-- Slot `s`'s share of the device's keys. -/
def arrK (s : Fin 4) : sProp 𝕄 := (c : Thread nD τ).loc main_arg3 ↦{Transfers.shareTok fullShare 4 s} (I c).K
/-- Slot `s`'s share of the device's values. -/
def arrV (s : Fin 4) : sProp 𝕄 := (c : Thread nD τ).loc main_arg4 ↦{Transfers.shareTok fullShare 4 s} (I c).V
/-- Slot `s` of the key ring lies idle. -/
def idleK (s : Fin 4) : sProp 𝕄 := iprop(arrK I c s ∗ (∃ f, ptK c s f) ∗ semVal ((c : Thread nD τ), .dma (kvSem s 0)) 0)
/-- Slot `s` of the value ring lies idle. -/
def idleV (s : Fin 4) : sProp 𝕄 := iprop(arrV I c s ∗ (∃ f, ptV c s f) ∗ semVal ((c : Thread nD τ), .dma (kvSem s 1)) 0)
/-- The size of one copy. -/
def Nkv : ℕ := (kSlot (0 : Fin 4)).view.dmaCredit
theorem credit_k (s : Fin 4) : (kSlot s).view.dmaCredit = Nkv := rfl
theorem credit_v (s : Fin 4) : (vSlot s).view.dmaCredit = Nkv := rfl
theorem Nkv_pos : 0 < Nkv := by decide
attribute [local irreducible] Nkv
/-- A copy of the keys of batch row `b` and head `h` into slot `s` is under way. -/
def flyK (s : Fin 4) (b : Fin 4) (h : Fin 8) : sProp 𝕄 :=
  Transfers.Flight EC (c : Thread nD τ) (.dma (kvSem s 0)) () Nkv iprop(ptK c s (kAt I c b h) ∗ arrK I c s)
/-- A copy of the values of batch row `b` and head `h` into slot `s` is under way. -/
def flyV (s : Fin 4) (b : Fin 4) (h : Fin 8) : sProp 𝕄 :=
  Transfers.Flight EC (c : Thread nD τ) (.dma (kvSem s 1)) () Nkv iprop(ptV c s (vAt I c b h) ∗ arrV I c s)
/-- Slot `s` holds the keys and the values of batch row `b` and head `h`. -/
def fullKV (s : Fin 4) (b : Fin 4) (h : Fin 8) : sProp 𝕄 :=
  iprop((arrK I c s ∗ semVal ((c : Thread nD τ), .dma (kvSem s 0)) 0) ∗ (arrV I c s ∗ semVal ((c : Thread nD τ), .dma (kvSem s 1)) 0)
    ∗ ptK c s (kAt I c b h) ∗ ptV c s (vAt I c b h))

/-- A flight carries along what is not its own. -/
theorem flight_frame {sm : SemLoc sig} {N : ℕ} {D X : sProp 𝕄} :
    iprop(Transfers.Flight EC (c : Thread nD τ) sm () N D ∗ X) ⊢ Transfers.Flight EC (c : Thread nD τ) sm () N iprop(D ∗ X) := by
  unfold Transfers.Flight
  iintro ⟨⟨⟨%R, HR, %hcap, %hpeek⟩, Hcred⟩, HX⟩
  isplitr [Hcred]
  · iexists iprop(R ∗ X)
    isplitl [HR HX]; · isplitl [HR] <;> iassumption
    isplit <;> ipureintro
    · intro Kt
      refine BIBase.Entails.trans ?_ (hcap Kt)
      iintro ⟨⟨HR, HX⟩, HK⟩
      isplitl [HR]; · iexact HR
      iintro ⟨Hv, HD⟩
      iapply HK
      isplitl [Hv]; · iexact Hv
      isplitl [HD] <;> iassumption
    · intro Kt
      refine BIBase.Entails.trans ?_ (hpeek Kt)
      iintro ⟨⟨HR, HX⟩, HK⟩
      isplitl [HR]; · iexact HR
      iintro HR
      iapply HK
      isplitl [HR] <;> iassumption
  · iexact Hcred

/-- A share of a buffer outside `S`. -/
def restAt (ℓ : Loc nD τ sig) (S : Finset (Idx ℓ)) (q : PosShare TreeShare) (f : Buf (Elt F) ℓ) : sProp 𝕄 := ℓ ↦[Finset.univ \ S]{q} f
/-- A share of a buffer, as a part of it and the rest. -/
theorem split_at (ℓ : Loc nD τ sig) (S : Finset (Idx ℓ)) (q : PosShare TreeShare) (f : Buf (Elt F) ℓ) :
    (ℓ ↦{q} f : sProp 𝕄) ⊣⊢ iprop((ℓ ↦[S]{q} f) ∗ restAt ℓ S q f) :=
  pointsTo_split_subset (Finset.subset_univ S)

/-- A slot's share of the array, as a part of it and the rest. -/
theorem split_k (s : Fin 4) (S : Finset (Idx ((c : Thread nD τ).loc main_arg3))) :
    (arrK I c s : sProp 𝕄) ⊣⊢ iprop(((c : Thread nD τ).loc main_arg3 ↦[S]{Transfers.shareTok fullShare 4 s} (I c).K)
      ∗ restAt ((c : Thread nD τ).loc main_arg3) S (Transfers.shareTok fullShare 4 s) (I c).K) :=
  split_at _ S _ _

theorem fly_k (s : Fin 4) (b : Fin 4) (h : Fin 8) (hin : ∀ a, offOf b h a + S1x1024x1x128.size a ≤ S4x1024x8x128.size a) (f : S4x1024x128.Idx → Elt F .f32) :
    iprop((((c : Thread nD τ).loc cc0_scratch6 ↦[(slotR s).set]{fullShare} ((kSlot s).view.write (Elt F) f ((kSrc (offOf b h) hin).view.read (Elt F) (I c).K) Finset.univ))
        ∗ ((c : Thread nD τ).loc main_arg3 ↦[(kSrc (offOf b h) hin).view.set]{Transfers.shareTok fullShare 4 s} (I c).K))
        ∗ restAt ((c : Thread nD τ).loc main_arg3) (kSrc (offOf b h) hin).view.set (Transfers.shareTok fullShare 4 s) (I c).K)
      ⊢ iprop(ptK c s (kAt I c b h) ∗ arrK I c s : sProp 𝕄) := by
  unfold ptK
  iintro ⟨⟨Hk, Ha⟩, Hrest⟩
  isplitl [Hk]
  · iapply (Entails.of_eq (pointsTo_congr (fun i hi => k_land I c s b h hin f i (by rw [k_set]; exact hi)))) $$ Hk
  · iapply (split_k I c s (kSrc (offOf b h) hin).view.set).2
    isplitl [Ha] <;> iassumption

/-- Starting a copy of keys. -/
theorem start_k (s : Fin 4) (b : Fin 4) (h : Fin 8) (hin : ∀ a, offOf b h a + S1x1024x1x128.size a ≤ S4x1024x8x128.size a)
    {hsrc : (kSrc (offOf b h) hin).view.WordExact} {hdst : (kSlot s).view.WordExact}
    {hsem : DmaTarget.Typed (nD := nD) .hbm (.dma (kvSem s 0)) (.here (p := (c : Thread nD τ).2) (kSlot s))}
    {k : PUnit → PP F PUnit} {Kt : PUnit → sProp 𝕄} :
    idleK I c s ⊢ iprop((flyK I c s b h -∗ WP c (k ⟨⟩) Kt)
      -∗ WP c (.op (.enqueueDma (kSrc (offOf b h) hin) (.here (kSlot s)) (.dma (kvSem s 0)) hsrc hdst hsem) k) Kt) := by
  unfold idleK ptK
  iintro ⟨Ha, ⟨%f, Hk⟩, Hz⟩ HK
  ihave Ha' := (split_k I c s (kSrc (offOf b h) hin).view.set).1 $$ Ha
  icases Ha' with ⟨Ha, Hrest⟩
  iapply (Transfers.wp_dmaLocal EC 𝒱₀ (c : Thread nD τ) none (src := kSrc (offOf b h) hin) (dst := kSlot s) (sm := .dma (kvSem s 0))
    (fs := (I c).K) (fd := f) (Sd := (slotR s).set) () Nkv (credit_k s) Nkv_pos (Finset.subset_of_eq (k_set s))) $$ [Ha Hk Hz]
  · isplitl [Ha]; · iexact Ha
    isplitl [Hk]; · iexact Hk
    iexact Hz
  iintro Hf
  iapply HK
  unfold flyK
  iapply (Transfers.Flight_mono EC (c : Thread nD τ) (fly_k I c s b h hin f))
  iapply (flight_frame (c := c)) $$ [Hf Hrest]
  isplitl [Hf]; · iexact Hf
  iexact Hrest

/-- Waiting for a copy of keys. -/
theorem wait_k (s : Fin 4) (b : Fin 4) (h : Fin 8) (l : List (Fin 2 × Fin 4)) {sp : Space} {s₁ : Shape} {e₁ : EltTy} {srcw : Memref sig .tc sp s₁ e₁}
    {hsrc : srcw.view.WordExact} {hdst : (kSlot s).view.WordExact} {k : PUnit → PP F PUnit} {Kt : PUnit → sProp 𝕄} :
    iprop(records I K ∗ flyK I c s b h ∗ owing c (owedL c l))
      ⊢ iprop(((ptK c s (kAt I c b h) ∗ (arrK I c s ∗ semVal ((c : Thread nD τ), .dma (kvSem s 0)) 0) ∗ owing c (owedL c l)) -∗ WP c (k ⟨⟩) Kt)
          -∗ WP c (.op (.waitDma2 (kvSem s 0) srcw (kSlot s) hsrc hdst) k) Kt) := by
  unfold owing flyK
  iintro ⟨#Hrec, Hf, ⟨%W, HO⟩⟩ HK
  iapply (Transfers.wp_waitLocalO EC 𝒱₀ (c : Thread nD τ) none (srcw := srcw) (dstw := kSlot s) (hsrc := hsrc) (hdst := hdst) () (N := Nkv) (credit_k s) (O := owedL c l) (W := W)) $$ [Hf HO]
  · isplitl [Hf]; · iexact Hf
    isplitl [HO]; · iexact HO
    iapply (mayWait c (.dma (kvSem s 0)) l (fun x hx => by rw [lvs_kv]; omega))
    iapply (rec_lev I K) $$ Hrec
  iintro ⟨⟨Hk, Ha⟩, Hz, HO⟩
  iapply HK
  isplitl [Hk]; · iexact Hk
  isplitl [Ha Hz]; · isplitl [Ha] <;> iassumption
  iexists _; iexact HO

/-- A slot's share of the array, as a part of it and the rest. -/
theorem split_v (s : Fin 4) (S : Finset (Idx ((c : Thread nD τ).loc main_arg4))) :
    (arrV I c s : sProp 𝕄) ⊣⊢ iprop(((c : Thread nD τ).loc main_arg4 ↦[S]{Transfers.shareTok fullShare 4 s} (I c).V)
      ∗ restAt ((c : Thread nD τ).loc main_arg4) S (Transfers.shareTok fullShare 4 s) (I c).V) :=
  split_at _ S _ _

theorem fly_v (s : Fin 4) (b : Fin 4) (h : Fin 8) (hin : ∀ a, offOf b h a + S1x1024x1x128.size a ≤ S4x1024x8x128.size a) (f : S4x1024x128.Idx → Elt F .f32) :
    iprop((((c : Thread nD τ).loc cc0_scratch7 ↦[(slotR s).set]{fullShare} ((vSlot s).view.write (Elt F) f ((vSrc (offOf b h) hin).view.read (Elt F) (I c).V) Finset.univ))
        ∗ ((c : Thread nD τ).loc main_arg4 ↦[(vSrc (offOf b h) hin).view.set]{Transfers.shareTok fullShare 4 s} (I c).V))
        ∗ restAt ((c : Thread nD τ).loc main_arg4) (vSrc (offOf b h) hin).view.set (Transfers.shareTok fullShare 4 s) (I c).V)
      ⊢ iprop(ptV c s (vAt I c b h) ∗ arrV I c s : sProp 𝕄) := by
  unfold ptV
  iintro ⟨⟨Hk, Ha⟩, Hrest⟩
  isplitl [Hk]
  · iapply (Entails.of_eq (pointsTo_congr (fun i hi => v_land I c s b h hin f i (by rw [v_set]; exact hi)))) $$ Hk
  · iapply (split_v I c s (vSrc (offOf b h) hin).view.set).2
    isplitl [Ha] <;> iassumption

/-- Starting a copy of values. -/
theorem start_v (s : Fin 4) (b : Fin 4) (h : Fin 8) (hin : ∀ a, offOf b h a + S1x1024x1x128.size a ≤ S4x1024x8x128.size a)
    {hsrc : (vSrc (offOf b h) hin).view.WordExact} {hdst : (vSlot s).view.WordExact}
    {hsem : DmaTarget.Typed (nD := nD) .hbm (.dma (kvSem s 1)) (.here (p := (c : Thread nD τ).2) (vSlot s))}
    {k : PUnit → PP F PUnit} {Kt : PUnit → sProp 𝕄} :
    idleV I c s ⊢ iprop((flyV I c s b h -∗ WP c (k ⟨⟩) Kt)
      -∗ WP c (.op (.enqueueDma (vSrc (offOf b h) hin) (.here (vSlot s)) (.dma (kvSem s 1)) hsrc hdst hsem) k) Kt) := by
  unfold idleV ptV
  iintro ⟨Ha, ⟨%f, Hk⟩, Hz⟩ HK
  ihave Ha' := (split_v I c s (vSrc (offOf b h) hin).view.set).1 $$ Ha
  icases Ha' with ⟨Ha, Hrest⟩
  iapply (Transfers.wp_dmaLocal EC 𝒱₀ (c : Thread nD τ) none (src := vSrc (offOf b h) hin) (dst := vSlot s) (sm := .dma (kvSem s 1))
    (fs := (I c).V) (fd := f) (Sd := (slotR s).set) () Nkv (credit_v s) Nkv_pos (Finset.subset_of_eq (v_set s))) $$ [Ha Hk Hz]
  · isplitl [Ha]; · iexact Ha
    isplitl [Hk]; · iexact Hk
    iexact Hz
  iintro Hf
  iapply HK
  unfold flyV
  iapply (Transfers.Flight_mono EC (c : Thread nD τ) (fly_v I c s b h hin f))
  iapply (flight_frame (c := c)) $$ [Hf Hrest]
  isplitl [Hf]; · iexact Hf
  iexact Hrest

/-- Waiting for a copy of values. -/
theorem wait_v (s : Fin 4) (b : Fin 4) (h : Fin 8) (l : List (Fin 2 × Fin 4)) {sp : Space} {s₁ : Shape} {e₁ : EltTy} {srcw : Memref sig .tc sp s₁ e₁}
    {hsrc : srcw.view.WordExact} {hdst : (vSlot s).view.WordExact} {k : PUnit → PP F PUnit} {Kt : PUnit → sProp 𝕄} :
    iprop(records I K ∗ flyV I c s b h ∗ owing c (owedL c l))
      ⊢ iprop(((ptV c s (vAt I c b h) ∗ (arrV I c s ∗ semVal ((c : Thread nD τ), .dma (kvSem s 1)) 0) ∗ owing c (owedL c l)) -∗ WP c (k ⟨⟩) Kt)
          -∗ WP c (.op (.waitDma2 (kvSem s 1) srcw (vSlot s) hsrc hdst) k) Kt) := by
  unfold owing flyV
  iintro ⟨#Hrec, Hf, ⟨%W, HO⟩⟩ HK
  iapply (Transfers.wp_waitLocalO EC 𝒱₀ (c : Thread nD τ) none (srcw := srcw) (dstw := vSlot s) (hsrc := hsrc) (hdst := hdst) () (N := Nkv) (credit_v s) (O := owedL c l) (W := W)) $$ [Hf HO]
  · isplitl [Hf]; · iexact Hf
    isplitl [HO]; · iexact HO
    iapply (mayWait c (.dma (kvSem s 1)) l (fun x hx => by rw [lvs_kv]; omega))
    iapply (rec_lev I K) $$ Hrec
  iintro ⟨⟨Hk, Ha⟩, Hz, HO⟩
  iapply HK
  isplitl [Hk]; · iexact Hk
  isplitl [Ha Hz]; · isplitl [Ha] <;> iassumption
  iexists _; iexact HO

/-! ## The ring -/

/-- Slot `s` of both rings lies idle. -/
def idle (s : Fin 4) : sProp 𝕄 := iprop(idleK I c s ∗ idleV I c s)
/-- The copies of batch row `b` and head `h` into slot `s` are under way. -/
def fly (s : Fin 4) (b : Fin 4) (h : Fin 8) : sProp 𝕄 := iprop(flyK I c s b h ∗ flyV I c s b h)

theorem startKV_slot (s : Fin 4) (b : Fin 4) (h : Fin 8) (off : Fin 4 → ℕ) (hoff : off = offOf b h) (hin : ∀ a, off a + S1x1024x1x128.size a ≤ S4x1024x8x128.size a) :
    Tri c (idle I c s) (startKV s off hin) (fly I c s b h) := by
  subst hoff
  intro Kt
  unfold startKV idle fly
  simp only [Prog.lift, Prog.bind_op, Prog.bind_ret]
  iintro ⟨⟨Hk, Hv⟩, HK⟩
  iapply (start_k I c s b h hin) $$ Hk; iintro Hk
  iapply (start_v I c s b h hin) $$ Hv; iintro Hv
  iapply wp_done
  iapply HK
  isplitl [Hk] <;> iassumption

theorem waitKV_slot (s : Fin 4) (b : Fin 4) (h : Fin 8) (l : List (Fin 2 × Fin 4)) (off : Fin 4 → ℕ) (hin : ∀ a, off a + S1x1024x1x128.size a ≤ S4x1024x8x128.size a) :
    Tri c iprop(records I K ∗ fly I c s b h ∗ owing c (owedL c l)) (waitKV s off hin) iprop(fullKV I c s b h ∗ owing c (owedL c l)) := by
  intro Kt
  unfold waitKV fullKV fly
  simp only [Prog.lift, Prog.bind_op, Prog.bind_ret]
  iintro ⟨⟨#Hrec, ⟨Hk, Hv⟩, HO⟩, HK⟩
  iapply (wait_k I c K s b h l) $$ [Hk HO]
  · isplitr; · iexact Hrec
    isplitl [Hk] <;> iassumption
  iintro ⟨Hk, Ha, HO⟩
  iapply (wait_v I c K s b h l) $$ [Hv HO]
  · isplitr; · iexact Hrec
    isplitl [Hv] <;> iassumption
  iintro ⟨Hv, Ha', HO⟩
  iapply wp_done
  iapply HK
  isplitr [HO]
  · isplitl [Ha]; · iexact Ha
    isplitl [Ha']; · iexact Ha'
    isplitl [Hk] <;> iassumption
  iexact HO

/-- A slot whose contents have been read lies idle again. -/
theorem full_idle (s : Fin 4) (b : Fin 4) (h : Fin 8) : (fullKV I c s b h : sProp 𝕄) ⊢ idle I c s := by
  unfold fullKV idle idleK idleV
  iintro ⟨⟨Ha, Hz⟩, ⟨Ha', Hz'⟩, Hk, Hv⟩
  isplitl [Ha Hz Hk]
  · isplitl [Ha]; · iexact Ha
    isplitl [Hk]; · iexists _; iexact Hk
    iexact Hz
  · isplitl [Ha']; · iexact Ha'
    isplitl [Hv]; · iexists _; iexact Hv
    iexact Hz'

/-- The slot of step `u`. -/
abbrev sl (u : ℕ) : Fin 4 := ⟨u % 4, Nat.mod_lt _ (by decide)⟩
/-- The copies of step `u` are under way; past the last step its slot lies idle. -/
def pend (u : ℕ) : sProp 𝕄 := if hu : u < 32 then fly I c (sl u) ⟨u / 8, by omega⟩ ⟨u % 8, Nat.mod_lt _ (by decide)⟩ else idle I c (sl u)
/-- The rings when step `t` begins: three steps under way and one slot idle. -/
def ring (t : ℕ) : sProp 𝕄 := iprop(pend I c t ∗ pend I c (t + 1) ∗ pend I c (t + 2) ∗ idle I c (sl (t + 3)))

theorem preCond_iff : ∀ i : Fin 32, preCond i = 1#1 ↔ i.val + 3 < 32 := by decide +kernel
theorem preOff_eq : ∀ i : Fin 32, (hi : i.val + 3 < 32) → preOff i = offOf ⟨(i.val + 3) / 8, by omega⟩ ⟨(i.val + 3) % 8, Nat.mod_lt _ (by decide)⟩ := by decide +kernel
theorem off2_eq : ∀ (b : Fin 4) (h : Fin 8), k0_off2 (BitVec.ofNat 32 b.val) (BitVec.ofNat 32 h.val) = offOf b h := by decide +kernel

theorem prefetch_slot (b : Fin 4) (h : Fin 8) :
    Tri c (idle I c (sl (8 * b.val + h.val + 3))) (prefetch (stepOf b h) (preSlot h)) (pend I c (8 * b.val + h.val + 3)) := by
  have hs : preSlot h = sl (8 * b.val + h.val + 3) := Fin.ext (by show (h.val + 3) % 4 = (8 * b.val + h.val + 3) % 4; omega)
  rw [hs]
  unfold prefetch pend
  by_cases hu : 8 * b.val + h.val + 3 < 32
  · rw [dif_pos ((preCond_iff (stepOf b h)).2 hu), dif_pos hu]
    exact startKV_slot I c _ _ _ _ (preOff_eq (stepOf b h) hu) _
  · rw [dif_neg (fun hc => hu ((preCond_iff (stepOf b h)).1 hc)), dif_neg hu]
    exact Tri.skip

/-- One head of one batch row: the next copies start, this head's are waited for, and its tile is computed. -/
theorem head_step (b : Fin 4) (h : Fin 8) (l : List (Fin 2 × Fin 4)) (fo : S4x256x1024.Idx → Elt F .f32) (fm : S4x256x16.Idx → Elt F .f32) :
    Tri c iprop((ptQ c b (upto h.val (O0b I c) (Q0 I c)) ∗ ptO c b (upto h.val (O0f I c) fo) ∗ ptML c b (uptoCols h.val h.val (ML0 I c) fm))
        ∗ ring I c (8 * b.val + h.val) ∗ records I K ∗ owing c (owedL c l)) (head b h)
      iprop((ptQ c b (upto (h.val + 1) (O0b I c) (Q0 I c)) ∗ ptO c b (upto (h.val + 1) (O0f I c) fo) ∗ ptML c b (uptoCols (h.val + 1) (h.val + 1) (ML0 I c) fm))
        ∗ ring I c (8 * b.val + (h.val + 1)) ∗ records I K ∗ owing c (owedL c l)) := by
  intro Kt
  unfold head ring
  have hs : slotOf h = sl (8 * b.val + h.val) := Fin.ext (by show h.val % 4 = (8 * b.val + h.val) % 4; omega)
  have hs' : sl (8 * b.val + (h.val + 1) + 3) = sl (8 * b.val + h.val) := Fin.ext (by show (8 * b.val + (h.val + 1) + 3) % 4 = (8 * b.val + h.val) % 4; omega)
  have hp : pend I c (8 * b.val + h.val) = fly I c (sl (8 * b.val + h.val)) b h := by
    unfold pend
    rw [dif_pos (by omega)]
    congr 1
    · exact Fin.ext (by show (8 * b.val + h.val) / 8 = _; omega)
    · exact Fin.ext (by show (8 * b.val + h.val) % 8 = _; omega)
  rw [hs, hs', hp]
  iintro ⟨⟨⟨Hq, Ho, Hm⟩, ⟨Hp0, Hp1, Hp2, Hi⟩, #Hrec, HO⟩, HK⟩
  iapply (Tri.step (prefetch_slot I c b h)) $$ Hi
  iintro Hp3
  iapply (Tri.step (waitKV_slot I c K (sl (8 * b.val + h.val)) b h l _ _)) $$ [Hp0 HO]
  · isplitr; · iexact Hrec
    isplitl [Hp0] <;> iassumption
  unfold fullKV
  iintro ⟨⟨Ha, Ha', Hk, Hv⟩, HO⟩
  iapply (Tri.last (attend_head I c b h (sl (8 * b.val + h.val)) fo fm)) $$ [Hq Ho Hm Hk Hv]
  · isplitl [Hq]; · iexact Hq
    isplitl [Ho]; · iexact Ho
    isplitl [Hm]; · iexact Hm
    isplitl [Hk] <;> iassumption
  iintro ⟨Hq, Ho, Hm, Hk, Hv⟩
  iapply HK
  isplitl [Hq Ho Hm]
  · isplitl [Hq]; · iexact Hq
    isplitl [Ho] <;> iassumption
  isplitr [HO]
  · isplitl [Hp1]; · iexact Hp1
    isplitl [Hp2]; · iexact Hp2
    isplitl [Hp3]; · iexact Hp3
    iapply (full_idle I c _ b h)
    unfold fullKV
    isplitl [Ha]; · iexact Ha
    isplitl [Ha']; · iexact Ha'
    isplitl [Hk] <;> iassumption
  isplitr; · iexact Hrec
  iexact HO

/-- One batch row: its queries, and the partial outputs, maxima and sums of its eight heads. -/
theorem batch_row (b : Fin 4) (l : List (Fin 2 × Fin 4)) (fq : S4x256x1024.Idx → Elt F .bf16) (fo : S4x256x1024.Idx → Elt F .f32) (fm : S4x256x16.Idx → Elt F .f32) :
    Tri c iprop((ptX I c ∗ ptW c (wqB I c)) ∗ (ptQ c b fq ∗ ptO c b fo ∗ ptML c b fm) ∗ ring I c (8 * b.val) ∗ records I K ∗ owing c (owedL c l)) (batch b)
      iprop((ptX I c ∗ ptW c (wqB I c)) ∗ (ptQ c b (O0b I c) ∗ ptO c b (O0f I c) ∗ ptML c b (ML0 I c)) ∗ ring I c (8 * b.val + 8) ∗ records I K ∗ owing c (owedL c l)) := by
  intro Kt
  unfold batch
  iintro ⟨⟨⟨Hx, Hw⟩, ⟨Hq, Ho, Hm⟩, Hr, #Hrec, HO⟩, HK⟩
  iapply (Tri.step (qproj_row I c b fq)) $$ [Hx Hw Hq]
  · isplitl [Hx]; · iexact Hx
    isplitl [Hw] <;> iassumption
  iintro ⟨Hx, Hw, Hq⟩
  have hh := Tri.heads (c := c) (fun h : ℕ => iprop((ptQ c b (upto h (O0b I c) (Q0 I c)) ∗ ptO c b (upto h (O0f I c) fo) ∗ ptML c b (uptoCols h h (ML0 I c) fm))
    ∗ ring I c (8 * b.val + h) ∗ records I K ∗ owing c (owedL c l))) (head b) (fun h => head_step I c K b h l fo fm)
  simp only [upto_zero, upto_eight, uptoCols_zero, uptoCols_eight] at hh
  iapply (Tri.last hh) $$ [Hq Ho Hm Hr HO]
  · isplitl [Hq Ho Hm]
    · isplitl [Hq]; · iexact Hq
      isplitl [Ho] <;> iassumption
    isplitl [Hr]; · iexact Hr
    isplitr; · iexact Hrec
    iexact HO
  iintro ⟨Hqom, Hr, -, HO⟩
  iapply HK
  isplitl [Hx Hw]; · isplitl [Hx] <;> iassumption
  isplitl [Hqom]; · iexact Hqom
  isplitl [Hr]; · iexact Hr
  isplitr; · iexact Hrec
  iexact HO

end Cert.KernelIdeal.Body

end
-- ==== Proof.Body.lean ====
/- The whole body: the three stages of a batch row, put in the order the kernel runs them. -/
module

public import proofs.«01_k».proof.Proof.Slots

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Idealize.ShloMosaic.ValueIdx

variable {F : FTy → Type} [FloatOps F]

local notation "𝕄" => MT nD τ sig Unit (Elt F) ℕ UU ℕ

variable (I : Dev nD → In F) (c : Dev nD) (K : Dev nD × CK → ℕ)

/-! ## What a batch row holds between its stages -/

/-- A row's buffers, whatever they hold. -/
def rawRow (b : Fin 4) : sProp 𝕄 := iprop((∃ f, ptQ c b f) ∗ (∃ f, ptO c b f) ∗ (∃ f, ptML c b f) ∗ (∃ f, ptA c b f))
/-- A row's landing buffers of stage `s` on device `d`, whatever they hold. -/
def lands (d : Dev nD) (s : Fin 2) (b : Fin 4) : sProp 𝕄 := iprop((∃ f, ptOr (F := F) d s b f) ∗ (∃ f, ptMlr (F := F) d s b f))
/-- The right to pay both transfers of an exchange. -/
def exToks (s : Fin 2) (b : Fin 4) : sProp 𝕄 := iprop(toks c s b 0 ∗ toks c s b 1)
/-- The right to wait for them. -/
def exWait (s : Fin 2) (b : Fin 4) : sProp 𝕄 := iprop(recvCreds c s b ∗ starts c s b)
/-- A row whose first exchange is under way. -/
def sent0 (b : Fin 4) : sProp 𝕄 := iprop(ptO c b (O0f I c) ∗ (∃ f, ptA c b f) ∗ sendCreds c 0 b)
/-- A row whose second exchange is under way. -/
def sent1 (b : Fin 4) : sProp 𝕄 := iprop(ptO c b (O1f I c) ∗ ptA c b (A0 I c) ∗ sendCreds c 1 b ∗ lands c 0 b ∗ zeros c 0 b)
/-- A row that is finished. -/
def doneRow (b : Fin 4) : sProp 𝕄 := iprop(rawRow c b ∗ (lands c 0 b ∗ lands c 1 b) ∗ (zeros c 0 b ∗ zeros c 1 b) ∗ ptOut c b (OUT I c))

theorem sentO_zero : sentO I c 0 = O0b I c := if_pos rfl
theorem sentML_zero : sentML I c 0 = ML0 I c := if_pos rfl
theorem sentO_one : sentO I c 1 = O1b I c := if_neg (by decide)
theorem sentML_one : sentML I c 1 = ML1 I c := if_neg (by decide)

/-! ## The stages -/

/-- A batch row's heads, and the start of its first exchange. -/
theorem row_first (b : Fin 4) (l : List (Fin 2 × Fin 4)) (d d' : Dev nD) (hd : d = par 0 c) (hd' : d' = par 0 c) {f : PUnit → PP F PUnit} {Kt : PUnit → sProp 𝕄} :
    iprop(records I K ∗ (rawRow c b ∗ lands (par 0 c) 0 b ∗ exToks c 0 b) ∗ (ptX I c ∗ ptW c (wqB I c)) ∗ ring I c (8 * b.val) ∗ owing c (owedL c ((0, b) :: l)))
      ⊢ iprop((((sent0 I c b) ∗ (ptX I c ∗ ptW c (wqB I c)) ∗ ring I c (8 * b.val + 8) ∗ owing c (owedL c l)) -∗ WP c (f ⟨⟩) Kt)
          -∗ WP c (batch b >>= fun _ => startEx 0 b d d' >>= f) Kt) := by
  unfold rawRow
  iintro ⟨#Hrec, ⟨⟨⟨%fq, Hq⟩, ⟨%fo, Ho⟩, ⟨%fm, Hm⟩, Ha⟩, Hl, Ht⟩, Hxw, Hr, HO⟩ HK
  iapply (Tri.step (batch_row I c K b ((0, b) :: l) fq fo fm)) $$ [Hq Ho Hm Hxw Hr HO]
  · isplitl [Hxw]; · iexact Hxw
    isplitl [Hq Ho Hm]
    · isplitl [Hq]; · iexact Hq
      isplitl [Ho] <;> iassumption
    isplitl [Hr]; · iexact Hr
    isplitr; · iexact Hrec
    iexact HO
  iintro ⟨Hxw, ⟨Hq, Ho, Hm⟩, Hr, -, HO⟩
  have hx := startEx_row I c K 0 b l d d' hd hd'
  rw [sentO_zero, sentML_zero] at hx
  iapply (Tri.step hx) $$ [Hq Hm Hl Ht HO]
  · isplitr; · iexact Hrec
    isplitl [Hq]; · iexact Hq
    isplitl [Hm]; · iexact Hm
    isplitl [Hl]; · unfold lands; iexact Hl
    isplitl [Ht]; · unfold exToks; iexact Ht
    iexact HO
  iintro ⟨Hc, HO⟩
  iapply HK
  isplitl [Ho Ha Hc]
  · unfold sent0
    isplitl [Ho]; · iexact Ho
    isplitl [Ha] <;> iassumption
  isplitl [Hxw]; · iexact Hxw
  isplitl [Hr] <;> iassumption

/-- The first merge of a batch row, and the start of its second exchange. -/
theorem merge0_row (b : Fin 4) (l : List (Fin 2 × Fin 4)) (hl : ∀ x ∈ (1, b) :: l, 4 * (0 : Fin 2).val + b.val < 4 * x.1.val + x.2.val)
    (d d' : Dev nD) (hd : d = par 1 c) (hd' : d' = par 1 c) :
    Tri c iprop(records I K ∗ (sent0 I c b ∗ exWait c 0 b ∗ lands (par 1 c) 1 b ∗ exToks c 1 b) ∗ owing c (owedL c ((1, b) :: l))) (merge0 b d d')
      iprop(sent1 I c b ∗ owing c (owedL c l)) := by
  intro Kt
  unfold merge0 sent0 exWait
  iintro ⟨⟨#Hrec, ⟨⟨Ho, ⟨%fa, Ha⟩, Hs⟩, ⟨Hrc, Hst⟩, Hl, Ht⟩, HO⟩, HK⟩
  iapply (Tri.step (waitEx_row I c K 0 b ((1, b) :: l) hl)) $$ [Hs Hrc Hst HO]
  · isplitr; · iexact Hrec
    isplitl [Hrc]; · iexact Hrc
    isplitl [Hs]; · iexact Hs
    isplitl [Hst] <;> iassumption
  iintro ⟨Hq, Hm, Hor, Hmr, Hz, HO⟩
  rw [sentML_zero]
  iapply (Tri.step (weights0_row I c b fa)) $$ [Hm Ha Hmr]
  · isplitl [Hm]; · iexact Hm
    isplitl [Ha] <;> iassumption
  iintro ⟨Hm, Ha, Hmr⟩
  have hh := Tri.heads (c := c) (fun h : ℕ => iprop(ptQ c b (upto h (O1b I c) (sentO I c 0)) ∗ ptO c b (upto h (O1f I c) (O0f I c)) ∗ ptA c b (A0 I c) ∗ ptOr c 0 b (gOr I c)))
    (mixHead0 b) (fun h => mixHead0_head I c b h)
  simp only [upto_zero, upto_eight] at hh
  iapply (Tri.step hh) $$ [Hq Ho Ha Hor]
  · isplitl [Hq]; · iexact Hq
    isplitl [Ho]; · iexact Ho
    isplitl [Ha] <;> iassumption
  iintro ⟨Hq, Ho, Ha, Hor⟩
  have hx := startEx_row I c K 1 b l d d' hd hd'
  rw [sentO_one, sentML_one] at hx
  iapply (Tri.last hx) $$ [Hq Hm Hl Ht HO]
  · isplitr; · iexact Hrec
    isplitl [Hq]; · iexact Hq
    isplitl [Hm]; · iexact Hm
    isplitl [Hl]; · unfold lands; iexact Hl
    isplitl [Ht]; · unfold exToks; iexact Ht
    iexact HO
  iintro ⟨Hc, HO⟩
  iapply HK
  isplitr [HO]
  · unfold sent1 lands
    isplitl [Ho]; · iexact Ho
    isplitl [Ha]; · iexact Ha
    isplitl [Hc]; · iexact Hc
    isplitl [Hor Hmr]
    · isplitl [Hor]; · iexists _; iexact Hor
      iexists _; iexact Hmr
    iexact Hz
  iexact HO

/-- The second merge of a batch row, and its output projection. -/
theorem merge1_row (b : Fin 4) :
    Tri c iprop(records I K ∗ (sent1 I c b ∗ exWait c 1 b ∗ (∃ f, ptOut c b f)) ∗ ptW c (woB I c) ∗ owing c (owedL c [])) (merge1 b)
      iprop(doneRow I c b ∗ ptW c (woB I c) ∗ owing c (owedL c [])) := by
  intro Kt
  unfold merge1 sent1 exWait
  iintro ⟨⟨#Hrec, ⟨⟨Ho, Ha, Hs, Hl0, Hz0⟩, ⟨Hrc, Hst⟩, ⟨%f, Hout⟩⟩, Hw, HO⟩, HK⟩
  iapply (Tri.step (waitEx_row I c K 1 b [] (fun x hx => by cases hx))) $$ [Hs Hrc Hst HO]
  · isplitr; · iexact Hrec
    isplitl [Hrc]; · iexact Hrc
    isplitl [Hs]; · iexact Hs
    isplitl [Hst] <;> iassumption
  iintro ⟨Hq, Hm, Hor, Hmr, Hz, HO⟩
  rw [sentML_one]
  iapply (Tri.step (weights1_row I c b (A0 I c))) $$ [Hm Ha Hmr]
  · isplitl [Hm]; · iexact Hm
    isplitl [Ha] <;> iassumption
  iintro ⟨Hm, Ha, Hmr⟩
  have hh := Tri.heads (c := c) (fun h : ℕ => iprop(ptQ c b (upto h (O2b I c) (sentO I c 1)) ∗ ptO c b (O1f I c) ∗ ptA c b (A1 I c) ∗ ptOr c 1 b (gOr I c)))
    (mixHead1 b) (fun h => mixHead1_head I c b h)
  simp only [upto_zero, upto_eight] at hh
  iapply (Tri.step hh) $$ [Hq Ho Ha Hor]
  · isplitl [Hq]; · iexact Hq
    isplitl [Ho]; · iexact Ho
    isplitl [Ha] <;> iassumption
  iintro ⟨Hq, Ho, Ha, Hor⟩
  iapply (Tri.last (outproj_row I c b f)) $$ [Hq Hw Hout]
  · isplitl [Hq]; · iexact Hq
    isplitl [Hw] <;> iassumption
  iintro ⟨Hq, Hw, Hout⟩
  iapply HK
  isplitr [Hw HO]
  · unfold doneRow rawRow
    isplitl [Hq Ho Hm Ha]
    · isplitl [Hq]; · iexists _; iexact Hq
      isplitl [Ho]; · iexists _; iexact Ho
      isplitl [Hm]; · iexists _; iexact Hm
      iexists _; iexact Ha
    isplitl [Hl0 Hor Hmr]
    · isplitl [Hl0]; · iexact Hl0
      unfold lands
      isplitl [Hor]; · iexists _; iexact Hor
      iexists _; iexact Hmr
    isplitl [Hz0 Hz]; · isplitl [Hz0] <;> iassumption
    iexact Hout
  isplitl [Hw] <;> iassumption

/-! ## The body -/

theorem bigSep_four (Φ : Fin 4 → sProp 𝕄) : bigSep Finset.univ Φ = iprop(Φ 0 ∗ Φ 1 ∗ Φ 2 ∗ Φ 3) := by
  rw [bigSep_univ_eq_bigSepL [0, 1, 2, 3] (by decide) (by decide), bigSepL_cons_cons, bigSepL_cons_cons, bigSepL_cons_cons, bigSepL_singleton]; rfl

theorem barPay_four (d : Dev nD) (s : Fin 2) : (barPay d s : sProp 𝕄) = iprop(lands d s 0 ∗ lands d s 1 ∗ lands d s 2 ∗ lands d s 3) := by
  unfold barPay lands; rw [bigSep_four]

/-- What the body starts from. -/
def progPre : sProp 𝕄 :=
  iprop(records I K ∗ (((dutyTok ER (barCell (par 0 c)) 0 0 ∗ dutyTok ER (barCell (par 1 c)) 0 1) ∗ cred (tallyAt (barCell c) () 2) ∗ atPos ER (barCell c) 0 ∅ 0)
      ∗ (barPay c 0 ∗ barPay c 1) ∗ owing c (O₀ c))
    ∗ (bigSep Finset.univ fun b : Fin 4 => rawRow c b) ∗ ((bigSep Finset.univ fun b : Fin 4 => exToks c 0 b) ∗ (bigSep Finset.univ fun b : Fin 4 => exToks c 1 b)
      ∗ (bigSep Finset.univ fun b : Fin 4 => exWait c 0 b) ∗ (bigSep Finset.univ fun b : Fin 4 => exWait c 1 b))
    ∗ (bigSep Finset.univ fun s : Fin 4 => idle I c s) ∗ (ptX I c ∗ ptWq I c ∗ ptWo I c ∗ (∃ f, ptW c f)) ∗ (bigSep Finset.univ fun b : Fin 4 => iprop(∃ f, ptOut c b f)))
/-- What the body leaves. -/
def progPost : sProp 𝕄 :=
  iprop((semVal (barCell c) 0 ∗ owing c (owedL c [])) ∗ (bigSep Finset.univ fun b : Fin 4 => doneRow I c b)
    ∗ (bigSep Finset.univ fun s : Fin 4 => idle I c s) ∗ (ptX I c ∗ ptWq I c ∗ ptWo I c ∗ (∃ f, ptW c f)))

theorem dev_lo (d : Dev nD) : (⟨k0_dev1 d, k0_dev1_lt d⟩ : Dev nD) = par 0 d ∧ (⟨k0_dev3 d, k0_dev3_lt d⟩ : Dev nD) = par 0 d ∧ (⟨k0_dev4 d, k0_dev4_lt d⟩ : Dev nD) = par 0 d
    ∧ (⟨k0_dev5 d, k0_dev5_lt d⟩ : Dev nD) = par 0 d ∧ (⟨k0_dev6 d, k0_dev6_lt d⟩ : Dev nD) = par 0 d ∧ (⟨k0_dev9 d, k0_dev9_lt d⟩ : Dev nD) = par 0 d
    ∧ (⟨k0_dev10 d, k0_dev10_lt d⟩ : Dev nD) = par 0 d ∧ (⟨k0_dev13 d, k0_dev13_lt d⟩ : Dev nD) = par 0 d ∧ (⟨k0_dev14 d, k0_dev14_lt d⟩ : Dev nD) = par 0 d := by
  revert d; decide
theorem dev_hi (d : Dev nD) : (⟨k0_dev2 d, k0_dev2_lt d⟩ : Dev nD) = par 1 d ∧ (⟨k0_dev7 d, k0_dev7_lt d⟩ : Dev nD) = par 1 d ∧ (⟨k0_dev8 d, k0_dev8_lt d⟩ : Dev nD) = par 1 d
    ∧ (⟨k0_dev11 d, k0_dev11_lt d⟩ : Dev nD) = par 1 d ∧ (⟨k0_dev12 d, k0_dev12_lt d⟩ : Dev nD) = par 1 d ∧ (⟨k0_dev15 d, k0_dev15_lt d⟩ : Dev nD) = par 1 d
    ∧ (⟨k0_dev16 d, k0_dev16_lt d⟩ : Dev nD) = par 1 d ∧ (⟨k0_dev17 d, k0_dev17_lt d⟩ : Dev nD) = par 1 d ∧ (⟨k0_dev18 d, k0_dev18_lt d⟩ : Dev nD) = par 1 d := by
  revert d; decide

theorem fly_pend (u : ℕ) (hu : u < 32) : fly I c (sl u) ⟨u / 8, by omega⟩ ⟨u % 8, Nat.mod_lt _ (by decide)⟩ = pend I c u := by
  unfold pend; rw [dif_pos hu]
theorem pend_end (u : ℕ) (hu : ¬ u < 32) : pend I c u = idle I c (sl u) := by
  unfold pend; rw [dif_neg hu]

/-- The body runs, on any device, from `progPre` to `progPost`. -/
theorem prog_run : Tri c (progPre I c K) prog (progPost I c) := by
  intro Kt
  obtain ⟨h1, h3, h4, h5, h6, h9, h10, h13, h14⟩ := dev_lo c
  obtain ⟨h2, h7, h8, h11, h12, h15, h16, h17, h18⟩ := dev_hi c
  unfold progPre progPost
  simp only [bigSep_four]
  unfold prog
  simp only [Prog.lift, Prog.bind_op, Prog.bind_ret]
  show _ ⊢ wp _ _ _ _ _
  rw [wp_deviceId]
  iintro ⟨⟨#Hrec, ⟨⟨Htb, Hcb, Hab⟩, Hpb, HO⟩, ⟨Hr0, Hr1, Hr2, Hr3⟩, ⟨⟨Ht00, Ht01, Ht02, Ht03⟩, ⟨Ht10, Ht11, Ht12, Ht13⟩, ⟨He00, He01, He02, He03⟩, ⟨He10, He11, He12, He13⟩⟩,
    ⟨Hi0, Hi1, Hi2, Hi3⟩, ⟨Hx, Hwq, Hwo, ⟨%fw, Hw⟩⟩, ⟨Hu0, Hu1, Hu2, Hu3⟩⟩, HK⟩
  iapply (Tri.step (barrier_both I c K _ _ h1 h2)) $$ [Htb Hcb Hab Hpb HO]
  · isplitr; · iexact Hrec
    isplitl [Htb]; · iexact Htb
    isplitl [Hpb]; · iexact Hpb
    isplitl [Hcb]; · iexact Hcb
    isplitl [Hab] <;> iassumption
  rw [barPay_four, barPay_four]
  iintro ⟨⟨⟨Hl00, Hl01, Hl02, Hl03⟩, ⟨Hl10, Hl11, Hl12, Hl13⟩⟩, Hzb, HO⟩
  iapply (Tri.step (startKV_slot I c 0 0 0 _ rfl _)) $$ Hi0; iintro Hp0
  iapply (Tri.step (startKV_slot I c 1 0 1 _ rfl _)) $$ Hi1; iintro Hp1
  iapply (Tri.step (startKV_slot I c 2 0 2 _ rfl _)) $$ Hi2; iintro Hp2
  iapply (Tri.step (loadW_q I c fw)) $$ [Hwq Hw]
  · isplitl [Hwq] <;> iassumption
  iintro ⟨Hwq, Hw⟩
  ihave Hring := (show iprop(fly I c 0 0 0 ∗ fly I c 1 0 1 ∗ fly I c 2 0 2 ∗ idle I c 3) ⊢ ring I c (8 * (0 : Fin 4).val) from by
    unfold ring
    rw [← fly_pend I c _ (by decide), ← fly_pend I c _ (by decide), ← fly_pend I c _ (by decide)]
    exact Entails.refl _) $$ [Hp0 Hp1 Hp2 Hi3]
  · isplitl [Hp0]; · iexact Hp0
    isplitl [Hp1]; · iexact Hp1
    isplitl [Hp2] <;> iassumption
  iapply (row_first I c K 0 _ _ _ h3 h4) $$ [Hr0 Hl00 Ht00 Hx Hw Hring HO]
  · isplitr; · iexact Hrec
    isplitl [Hr0 Hl00 Ht00]
    · isplitl [Hr0]; · iexact Hr0
      isplitl [Hl00] <;> iassumption
    isplitl [Hx Hw]; · isplitl [Hx] <;> iassumption
    isplitl [Hring] <;> iassumption
  iintro ⟨Hs0, ⟨Hx, Hw⟩, Hring, HO⟩
  iapply (row_first I c K 1 _ _ _ h5 h6) $$ [Hr1 Hl01 Ht01 Hx Hw Hring HO]
  · isplitr; · iexact Hrec
    isplitl [Hr1 Hl01 Ht01]
    · isplitl [Hr1]; · iexact Hr1
      isplitl [Hl01] <;> iassumption
    isplitl [Hx Hw]; · isplitl [Hx] <;> iassumption
    isplitl [Hring] <;> iassumption
  iintro ⟨Hs1, ⟨Hx, Hw⟩, Hring, HO⟩
  iapply (Tri.step (merge0_row I c K 0 [(0, 2), (1, 1), (0, 3), (1, 2), (1, 3)] (by decide) _ _ h7 h8)) $$ [Hs0 He00 Hl10 Ht10 HO]
  · isplitr; · iexact Hrec
    isplitr [HO]
    · isplitl [Hs0]; · iexact Hs0
      isplitl [He00]; · iexact He00
      isplitl [Hl10] <;> iassumption
    iexact HO
  iintro ⟨Hs0, HO⟩
  iapply (row_first I c K 2 _ _ _ h9 h10) $$ [Hr2 Hl02 Ht02 Hx Hw Hring HO]
  · isplitr; · iexact Hrec
    isplitl [Hr2 Hl02 Ht02]
    · isplitl [Hr2]; · iexact Hr2
      isplitl [Hl02] <;> iassumption
    isplitl [Hx Hw]; · isplitl [Hx] <;> iassumption
    isplitl [Hring] <;> iassumption
  iintro ⟨Hs2, ⟨Hx, Hw⟩, Hring, HO⟩
  iapply (Tri.step (merge0_row I c K 1 [(0, 3), (1, 2), (1, 3)] (by decide) _ _ h11 h12)) $$ [Hs1 He01 Hl11 Ht11 HO]
  · isplitr; · iexact Hrec
    isplitr [HO]
    · isplitl [Hs1]; · iexact Hs1
      isplitl [He01]; · iexact He01
      isplitl [Hl11] <;> iassumption
    iexact HO
  iintro ⟨Hs1, HO⟩
  iapply (row_first I c K 3 _ _ _ h13 h14) $$ [Hr3 Hl03 Ht03 Hx Hw Hring HO]
  · isplitr; · iexact Hrec
    isplitl [Hr3 Hl03 Ht03]
    · isplitl [Hr3]; · iexact Hr3
      isplitl [Hl03] <;> iassumption
    isplitl [Hx Hw]; · isplitl [Hx] <;> iassumption
    isplitl [Hring] <;> iassumption
  iintro ⟨Hs3, ⟨Hx, Hw⟩, Hring, HO⟩
  iapply (Tri.step (merge0_row I c K 2 [(1, 3)] (by decide) _ _ h15 h16)) $$ [Hs2 He02 Hl12 Ht12 HO]
  · isplitr; · iexact Hrec
    isplitr [HO]
    · isplitl [Hs2]; · iexact Hs2
      isplitl [He02]; · iexact He02
      isplitl [Hl12] <;> iassumption
    iexact HO
  iintro ⟨Hs2, HO⟩
  iapply (Tri.step (merge0_row I c K 3 [] (by decide) _ _ h17 h18)) $$ [Hs3 He03 Hl13 Ht13 HO]
  · isplitr; · iexact Hrec
    isplitr [HO]
    · isplitl [Hs3]; · iexact Hs3
      isplitl [He03]; · iexact He03
      isplitl [Hl13] <;> iassumption
    iexact HO
  iintro ⟨Hs3, HO⟩
  iapply (Tri.step (loadW_o I c _)) $$ [Hwo Hw]
  · isplitl [Hwo] <;> iassumption
  iintro ⟨Hwo, Hw⟩
  iapply (Tri.step (merge1_row I c K 0)) $$ [Hs0 He10 Hu0 Hw HO]
  · isplitr; · iexact Hrec
    isplitl [Hs0 He10 Hu0]
    · isplitl [Hs0]; · iexact Hs0
      isplitl [He10] <;> iassumption
    isplitl [Hw] <;> iassumption
  iintro ⟨Hr0, Hw, HO⟩
  iapply (Tri.step (merge1_row I c K 1)) $$ [Hs1 He11 Hu1 Hw HO]
  · isplitr; · iexact Hrec
    isplitl [Hs1 He11 Hu1]
    · isplitl [Hs1]; · iexact Hs1
      isplitl [He11] <;> iassumption
    isplitl [Hw] <;> iassumption
  iintro ⟨Hr1, Hw, HO⟩
  iapply (Tri.step (merge1_row I c K 2)) $$ [Hs2 He12 Hu2 Hw HO]
  · isplitr; · iexact Hrec
    isplitl [Hs2 He12 Hu2]
    · isplitl [Hs2]; · iexact Hs2
      isplitl [He12] <;> iassumption
    isplitl [Hw] <;> iassumption
  iintro ⟨Hr2, Hw, HO⟩
  iapply (Tri.last (merge1_row I c K 3)) $$ [Hs3 He13 Hu3 Hw HO]
  · isplitr; · iexact Hrec
    isplitl [Hs3 He13 Hu3]
    · isplitl [Hs3]; · iexact Hs3
      isplitl [He13] <;> iassumption
    isplitl [Hw] <;> iassumption
  iintro ⟨Hr3, Hw, HO⟩
  ihave Hi := (show ring I c (8 * (3 : Fin 4).val + 8) ⊢ iprop(idle I c 0 ∗ idle I c 1 ∗ idle I c 2 ∗ idle I c 3) from by
    unfold ring
    rw [pend_end I c _ (by decide), pend_end I c _ (by decide), pend_end I c _ (by decide)]
    exact Entails.refl _) $$ Hring
  iapply HK
  isplitl [Hzb HO]; · isplitl [Hzb] <;> iassumption
  isplitl [Hr0 Hr1 Hr2 Hr3]
  · isplitl [Hr0]; · iexact Hr0
    isplitl [Hr1]; · iexact Hr1
    isplitl [Hr2] <;> iassumption
  isplitl [Hi]; · iexact Hi
  isplitl [Hx]; · iexact Hx
  isplitl [Hwq]; · iexact Hwq
  isplitl [Hwo]; · iexact Hwo
  iexists _; iexact Hw

end Cert.KernelIdeal.Body

end
-- ==== Proof.Rows.lean ====
/- A buffer held whole is the same buffer held row by row: splitting and joining each buffer the kernel works on in rows. -/
module

public import proofs.«01_k».proof.Proof.Body

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Idealize.ShloMosaic.ValueIdx

variable {F : FTy → Type} [FloatOps F]

local notation "𝕄" => MT nD τ sig Unit (Elt F) ℕ UU ℕ

/-! ## Any buffer, any partition -/

section Parts
variable {ℓ : Loc nD τ sig} {T : Type} [Fintype T] (R : T → Finset (Idx ℓ))
  (hd : ∀ t ∈ (Finset.univ : Finset T), ∀ t' ∈ (Finset.univ : Finset T), t ≠ t' → Disjoint (R t) (R t')) (hc : ∀ i, ∃ t, i ∈ R t)
include hd hc

theorem cover_univ : (Finset.univ : Finset T).biUnion R = Finset.univ :=
  Finset.eq_univ_iff_forall.mpr fun i => Finset.mem_biUnion.mpr ((hc i).imp fun _ h => ⟨Finset.mem_univ _, h⟩)

/-- A whole buffer at given contents is its parts at those contents. -/
theorem parts_eq (f : Buf (Elt F) ℓ) : (ℓ ↦{fullShare} f : sProp 𝕄) = bigSep Finset.univ fun t => ℓ ↦[R t]{fullShare} f := by
  rw [← pointsTo_biUnion Finset.univ R hd, cover_univ R hd hc]
/-- A whole buffer splits in its parts. -/
theorem parts_split : (iprop(∃ f, ℓ ↦{fullShare} f) : sProp 𝕄) ⊢ bigSep Finset.univ fun t => iprop(∃ f, ℓ ↦[R t]{fullShare} f) := by
  iintro ⟨%f, H⟩
  ihave H' := (Entails.of_eq (parts_eq R hd hc f)) $$ H
  have one (t : T) : (ℓ ↦[R t]{fullShare} f : sProp 𝕄) ⊢ iprop(∃ f, ℓ ↦[R t]{fullShare} f) := by
    iintro H; iexists f; iexact H
  iapply (show bigSep Finset.univ (fun t => (ℓ ↦[R t]{fullShare} f : sProp 𝕄)) ⊢ bigSep Finset.univ fun t => (iprop(∃ f, ℓ ↦[R t]{fullShare} f) : sProp 𝕄) from
    bigSep_mono fun t _ => one t) $$ H'
/-- The parts, whatever each holds, make the whole buffer. -/
theorem parts_join [DecidableEq T] (f₀ : Buf (Elt F) ℓ) : (bigSep Finset.univ fun t => iprop(∃ f, ℓ ↦[R t]{fullShare} f)) ⊢ (iprop(∃ f, ℓ ↦{fullShare} f) : sProp 𝕄) := by
  haveI : Nonempty (Buf (Elt F) ℓ) := ⟨f₀⟩
  iintro H
  ihave H' := (BI.bigSep_exists_pi Finset.univ (fun (t : T) (f : Buf (Elt F) ℓ) => (ℓ ↦[R t]{fullShare} f : sProp 𝕄))) $$ H
  icases H' with ⟨%fs, H⟩
  ihave H' := (pointsTo_biUnion_join Finset.univ R fs f₀ hd) $$ H
  icases H' with ⟨%g, -, H⟩
  iexists g
  ihave H' := (Entails.of_eq (congrArg (fun S => (ℓ ↦[S]{fullShare} g : sProp 𝕄)) (cover_univ R hd hc))) $$ H
  iexact H'
end Parts

/-! ## The rows of each shape -/

theorem row_disj : ∀ b ∈ (Finset.univ : Finset (Fin 4)), ∀ b' ∈ (Finset.univ : Finset (Fin 4)), b ≠ b' → Disjoint (rowR b).set (rowR b').set :=
  fun b _ b' _ h => Rect.unit_disjoint (0 : Fin 3) (by have := fun e => h (Fin.ext e); show b.val + 1 ≤ b'.val ∨ b'.val + 1 ≤ b.val; omega)
theorem row_cover (i : S4x256x1024.Idx) : ∃ b, i ∈ (rowR b).set :=
  ⟨i 0, Rect.mem_set_unit.mpr fun a => by
    fin_cases a
    · exact ⟨le_refl _, Nat.lt_succ_self _⟩
    · exact ⟨Nat.zero_le _, (Nat.zero_add 256).symm ▸ (i 1).isLt⟩
    · exact ⟨Nat.zero_le _, (Nat.zero_add 1024).symm ▸ (i 2).isLt⟩⟩
theorem mlrow_disj : ∀ b ∈ (Finset.univ : Finset (Fin 4)), ∀ b' ∈ (Finset.univ : Finset (Fin 4)), b ≠ b' → Disjoint (mlrowR b).set (mlrowR b').set :=
  fun b _ b' _ h => Rect.unit_disjoint (0 : Fin 3) (by have := fun e => h (Fin.ext e); show b.val + 1 ≤ b'.val ∨ b'.val + 1 ≤ b.val; omega)
theorem mlrow_cover (i : S4x256x16.Idx) : ∃ b, i ∈ (mlrowR b).set :=
  ⟨i 0, Rect.mem_set_unit.mpr fun a => by
    fin_cases a
    · exact ⟨le_refl _, Nat.lt_succ_self _⟩
    · exact ⟨Nat.zero_le _, (Nat.zero_add 256).symm ▸ (i 1).isLt⟩
    · exact ⟨Nat.zero_le _, (Nat.zero_add 16).symm ▸ (i 2).isLt⟩⟩
theorem slot_disj : ∀ b ∈ (Finset.univ : Finset (Fin 4)), ∀ b' ∈ (Finset.univ : Finset (Fin 4)), b ≠ b' → Disjoint (slotR b).set (slotR b').set :=
  fun b _ b' _ h => Rect.unit_disjoint (0 : Fin 3) (by have := fun e => h (Fin.ext e); show b.val + 1 ≤ b'.val ∨ b'.val + 1 ≤ b.val; omega)
theorem slot_cover (i : S4x1024x128.Idx) : ∃ b, i ∈ (slotR b).set :=
  ⟨i 0, Rect.mem_set_unit.mpr fun a => by
    fin_cases a
    · exact ⟨le_refl _, Nat.lt_succ_self _⟩
    · exact ⟨Nat.zero_le _, (Nat.zero_add 1024).symm ▸ (i 1).isLt⟩
    · exact ⟨Nat.zero_le _, (Nat.zero_add 128).symm ▸ (i 2).isLt⟩⟩

theorem rrow_disj : ∀ p ∈ (Finset.univ : Finset (Fin 2 × Fin 4)), ∀ p' ∈ (Finset.univ : Finset (Fin 2 × Fin 4)), p ≠ p' → Disjoint (rrowR p.1 p.2).set (rrowR p'.1 p'.2).set := by
  rintro ⟨s, b⟩ - ⟨s', b'⟩ - h
  by_cases hs : s = s'
  · have hb : b.val ≠ b'.val := fun e => h (by rw [hs, Fin.ext e])
    exact Rect.unit_disjoint (1 : Fin 4) (by show b.val + 1 ≤ b'.val ∨ b'.val + 1 ≤ b.val; omega)
  · have hs : s.val ≠ s'.val := fun e => hs (Fin.ext e)
    exact Rect.unit_disjoint (0 : Fin 4) (by show s.val + 1 ≤ s'.val ∨ s'.val + 1 ≤ s.val; omega)
theorem rrow_cover (i : S2x4x256x1024.Idx) : ∃ p : Fin 2 × Fin 4, i ∈ (rrowR p.1 p.2).set :=
  ⟨(i 0, i 1), Rect.mem_set_unit.mpr fun a => by
    fin_cases a
    · exact ⟨le_refl _, Nat.lt_succ_self _⟩
    · exact ⟨le_refl _, Nat.lt_succ_self _⟩
    · exact ⟨Nat.zero_le _, (Nat.zero_add 256).symm ▸ (i 2).isLt⟩
    · exact ⟨Nat.zero_le _, (Nat.zero_add 1024).symm ▸ (i 3).isLt⟩⟩
theorem rml_disj : ∀ p ∈ (Finset.univ : Finset (Fin 2 × Fin 4)), ∀ p' ∈ (Finset.univ : Finset (Fin 2 × Fin 4)), p ≠ p' → Disjoint (rmlR p.1 p.2).set (rmlR p'.1 p'.2).set := by
  rintro ⟨s, b⟩ - ⟨s', b'⟩ - h
  by_cases hs : s = s'
  · have hb : b.val ≠ b'.val := fun e => h (by rw [hs, Fin.ext e])
    exact Rect.unit_disjoint (1 : Fin 4) (by show b.val + 1 ≤ b'.val ∨ b'.val + 1 ≤ b.val; omega)
  · have hs : s.val ≠ s'.val := fun e => hs (Fin.ext e)
    exact Rect.unit_disjoint (0 : Fin 4) (by show s.val + 1 ≤ s'.val ∨ s'.val + 1 ≤ s.val; omega)
theorem rml_cover (i : S2x4x256x16.Idx) : ∃ p : Fin 2 × Fin 4, i ∈ (rmlR p.1 p.2).set :=
  ⟨(i 0, i 1), Rect.mem_set_unit.mpr fun a => by
    fin_cases a
    · exact ⟨le_refl _, Nat.lt_succ_self _⟩
    · exact ⟨le_refl _, Nat.lt_succ_self _⟩
    · exact ⟨Nat.zero_le _, (Nat.zero_add 256).symm ▸ (i 2).isLt⟩
    · exact ⟨Nat.zero_le _, (Nat.zero_add 16).symm ▸ (i 3).isLt⟩⟩

/-! ## Each buffer -/

section Bufs
variable (c : Dev nD)

/-- A whole buffer at some contents. -/
def anyBuf (b : Ref sig .tc) : sProp 𝕄 := iprop(∃ f : Buf (Elt F) ((c : Thread nD τ).loc b), (c : Thread nD τ).loc b ↦{fullShare} f)

theorem q_split : anyBuf (F := F) c cc0_scratch0 ⊢ bigSep Finset.univ fun b : Fin 4 => iprop(∃ f, ptQ c b f) :=
  parts_split (ℓ := (c : Thread nD τ).loc cc0_scratch0) (fun b => (rowR b).set) row_disj row_cover
theorem o_split : anyBuf (F := F) c cc0_scratch1 ⊢ bigSep Finset.univ fun b : Fin 4 => iprop(∃ f, ptO c b f) :=
  parts_split (ℓ := (c : Thread nD τ).loc cc0_scratch1) (fun b => (rowR b).set) row_disj row_cover
theorem ml_split : anyBuf (F := F) c cc0_scratch2 ⊢ bigSep Finset.univ fun b : Fin 4 => iprop(∃ f, ptML c b f) :=
  parts_split (ℓ := (c : Thread nD τ).loc cc0_scratch2) (fun b => (mlrowR b).set) mlrow_disj mlrow_cover
theorem a_split : anyBuf (F := F) c cc0_scratch3 ⊢ bigSep Finset.univ fun b : Fin 4 => iprop(∃ f, ptA c b f) :=
  parts_split (ℓ := (c : Thread nD τ).loc cc0_scratch3) (fun b => (mlrowR b).set) mlrow_disj mlrow_cover
theorem or_split : anyBuf (F := F) c cc0_scratch4 ⊢ bigSep Finset.univ fun p : Fin 2 × Fin 4 => iprop(∃ f, ptOr c p.1 p.2 f) :=
  parts_split (ℓ := (c : Thread nD τ).loc cc0_scratch4) (fun p : Fin 2 × Fin 4 => (rrowR p.1 p.2).set) rrow_disj rrow_cover
theorem mlr_split : anyBuf (F := F) c cc0_scratch5 ⊢ bigSep Finset.univ fun p : Fin 2 × Fin 4 => iprop(∃ f, ptMlr c p.1 p.2 f) :=
  parts_split (ℓ := (c : Thread nD τ).loc cc0_scratch5) (fun p : Fin 2 × Fin 4 => (rmlR p.1 p.2).set) rml_disj rml_cover
theorem kb_split : anyBuf (F := F) c cc0_scratch6 ⊢ bigSep Finset.univ fun s : Fin 4 => iprop(∃ f, ptK c s f) :=
  parts_split (ℓ := (c : Thread nD τ).loc cc0_scratch6) (fun b => (slotR b).set) slot_disj slot_cover
theorem vb_split : anyBuf (F := F) c cc0_scratch7 ⊢ bigSep Finset.univ fun s : Fin 4 => iprop(∃ f, ptV c s f) :=
  parts_split (ℓ := (c : Thread nD τ).loc cc0_scratch7) (fun b => (slotR b).set) slot_disj slot_cover
theorem out_split : anyBuf (F := F) c cc0_stg3_0 ⊢ bigSep Finset.univ fun b : Fin 4 => iprop(∃ f, ptOut c b f) :=
  parts_split (ℓ := (c : Thread nD τ).loc cc0_stg3_0) (fun b => (rowR b).set) row_disj row_cover

instance : Nonempty (Elt F .f32) := ⟨FloatOps.ofBits .f32 0⟩
instance : Nonempty (Elt F .bf16) := ⟨FloatOps.ofBits .bf16 0⟩

theorem q_join : (bigSep Finset.univ fun b : Fin 4 => iprop(∃ f, ptQ c b f)) ⊢ anyBuf (F := F) c cc0_scratch0 :=
  parts_join (ℓ := (c : Thread nD τ).loc cc0_scratch0) (fun b => (rowR b).set) row_disj row_cover (fun _ => Classical.choice (inferInstanceAs (Nonempty (Elt F .bf16))))
theorem o_join : (bigSep Finset.univ fun b : Fin 4 => iprop(∃ f, ptO c b f)) ⊢ anyBuf (F := F) c cc0_scratch1 :=
  parts_join (ℓ := (c : Thread nD τ).loc cc0_scratch1) (fun b => (rowR b).set) row_disj row_cover (fun _ => Classical.choice (inferInstanceAs (Nonempty (Elt F .f32))))
theorem ml_join : (bigSep Finset.univ fun b : Fin 4 => iprop(∃ f, ptML c b f)) ⊢ anyBuf (F := F) c cc0_scratch2 :=
  parts_join (ℓ := (c : Thread nD τ).loc cc0_scratch2) (fun b => (mlrowR b).set) mlrow_disj mlrow_cover (fun _ => Classical.choice (inferInstanceAs (Nonempty (Elt F .f32))))
theorem a_join : (bigSep Finset.univ fun b : Fin 4 => iprop(∃ f, ptA c b f)) ⊢ anyBuf (F := F) c cc0_scratch3 :=
  parts_join (ℓ := (c : Thread nD τ).loc cc0_scratch3) (fun b => (mlrowR b).set) mlrow_disj mlrow_cover (fun _ => Classical.choice (inferInstanceAs (Nonempty (Elt F .f32))))
theorem or_join : (bigSep Finset.univ fun p : Fin 2 × Fin 4 => iprop(∃ f, ptOr c p.1 p.2 f)) ⊢ anyBuf (F := F) c cc0_scratch4 :=
  parts_join (ℓ := (c : Thread nD τ).loc cc0_scratch4) (fun p : Fin 2 × Fin 4 => (rrowR p.1 p.2).set) rrow_disj rrow_cover (fun _ => Classical.choice (inferInstanceAs (Nonempty (Elt F .bf16))))
theorem mlr_join : (bigSep Finset.univ fun p : Fin 2 × Fin 4 => iprop(∃ f, ptMlr c p.1 p.2 f)) ⊢ anyBuf (F := F) c cc0_scratch5 :=
  parts_join (ℓ := (c : Thread nD τ).loc cc0_scratch5) (fun p : Fin 2 × Fin 4 => (rmlR p.1 p.2).set) rml_disj rml_cover (fun _ => Classical.choice (inferInstanceAs (Nonempty (Elt F .f32))))
theorem kb_join : (bigSep Finset.univ fun s : Fin 4 => iprop(∃ f, ptK c s f)) ⊢ anyBuf (F := F) c cc0_scratch6 :=
  parts_join (ℓ := (c : Thread nD τ).loc cc0_scratch6) (fun b => (slotR b).set) slot_disj slot_cover (fun _ => Classical.choice (inferInstanceAs (Nonempty (Elt F .f32))))
theorem vb_join : (bigSep Finset.univ fun s : Fin 4 => iprop(∃ f, ptV c s f)) ⊢ anyBuf (F := F) c cc0_scratch7 :=
  parts_join (ℓ := (c : Thread nD τ).loc cc0_scratch7) (fun b => (slotR b).set) slot_disj slot_cover (fun _ => Classical.choice (inferInstanceAs (Nonempty (Elt F .f32))))
/-- The result's rows, all of one array, are the result. -/
theorem out_join (f : S4x256x1024.Idx → Elt F .f32) : (bigSep Finset.univ fun b : Fin 4 => ptOut (F := F) c b f) ⊢ ((c : Thread nD τ).loc cc0_stg3_0 ↦{fullShare} f : sProp 𝕄) :=
  Entails.of_eq (parts_eq (ℓ := (c : Thread nD τ).loc cc0_stg3_0) (fun b => (rowR b).set) row_disj row_cover f).symm

end Bufs

end Cert.KernelIdeal.Body

end
-- ==== Proof.Deal.lean ====
/- The ghost state of the exchange: made at launch, dealt to the devices — each cell's invariant to all, each device its
   own positions and the rights to pay its partners' cells — and the credit each device starts with. -/
module

public import proofs.«01_k».proof.Proof.Rows

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Idealize.ShloMosaic.ValueIdx

variable {F : FTy → Type} [FloatOps F]

local notation "𝕄" => MT nD τ sig Unit (Elt F) ℕ UU ℕ

variable (I : Dev nD → In F)

/-! ## The exchanges' numbers -/

/-- The sixteen transfers, by stage, batch row and kind. -/
def exE : (Fin 2 × Fin 4) × Fin 2 ≃ Fin 16 := Equiv.ofBijective (fun p => exId p.1.1 p.1.2 p.2) (by decide)

theorem bigSep_two (Φ : Fin 2 → sProp 𝕄) : bigSep Finset.univ Φ = iprop(Φ 0 ∗ Φ 1) := bigSep_univ_eq_bigSepL [0, 1] (by decide) (by decide) Φ

/-- Over the sixteen transfers: over the rows of each stage, both kinds. -/
theorem bigSep_ex (Φ : Fin 16 → sProp 𝕄) :
    bigSep Finset.univ Φ = iprop((bigSep Finset.univ fun b : Fin 4 => iprop(Φ (exId 0 b 0) ∗ Φ (exId 0 b 1))) ∗ (bigSep Finset.univ fun b : Fin 4 => iprop(Φ (exId 1 b 0) ∗ Φ (exId 1 b 1)))) := by
  rw [bigSep_univ_equiv exE Φ, bigSep_univ_prod, bigSep_univ_prod, bigSep_two]
  have h (s : Fin 2) (b : Fin 4) : bigSep Finset.univ (fun j : Fin 2 => Φ (exE ((s, b), j))) = iprop(Φ (exId s b 0) ∗ Φ (exId s b 1)) := bigSep_two _
  rw [bigSep_congr (fun b _ => h 0 b), bigSep_congr (fun b _ => h 1 b)]

/-! ## The cells and the rights to pay them -/

theorem csem_injective : Function.Injective csem := by decide
theorem kcell_injective : Function.Injective kcell := by
  rintro ⟨c, k⟩ ⟨c', k'⟩ h
  have h1 : c = c' := congrArg (fun g : GSem nD τ sig => g.1.1) h
  have h2 : csem k = csem k' := congrArg Prod.snd h
  rw [h1, csem_injective h2]
/-- All the exchange's cells. -/
def exCells : Finset (GSem nD τ sig) := Finset.univ.map ⟨kcell, kcell_injective⟩

/-- A device's cells' duties: its barrier's two, one for each departure and arrival. -/
abbrev TK : Type := Fin 2 ⊕ (Fin 2 × Fin 16)
/-- A duty's right, named. -/
abbrev tokOf : Dev nD × TK → GSem nD τ sig × ℕ × Fin 2
  | (c, .inl d) => (barCell c, 0, d)
  | (c, .inr p) => (kcell (c, .inr p), 0, 0)
theorem tokOf_injective : Function.Injective tokOf := by
  rintro ⟨c, d | p⟩ ⟨c', d' | p'⟩ h
  · have h1 : c = c' := congrArg (fun g : GSem nD τ sig × ℕ × Fin 2 => g.1.1.1) h
    have h2 : d = d' := congrArg (fun g : GSem nD τ sig × ℕ × Fin 2 => g.2.2) h
    rw [h1, h2]
  · have h1 : kcell (c, .inl ()) = kcell (c', .inr p') := congrArg Prod.fst h
    have := kcell_injective h1; cases this
  · have h1 : kcell (c, .inr p) = kcell (c', .inl ()) := congrArg Prod.fst h
    have := kcell_injective h1; cases this
  · have h1 : kcell (c, .inr p) = kcell (c', .inr p') := congrArg Prod.fst h
    have := kcell_injective h1; cases this; rfl
/-- All the rights. -/
def allToks : Finset (GSem nD τ sig × ℕ × Fin 2) := Finset.univ.map ⟨tokOf, tokOf_injective⟩

/-- The ghost element the launch starts from. -/
def u₀ : UU := (Rounds.initOf (Pipeline.cells cfgs cellOf_inj) (Pipeline.launchToks cfgs cellOf_inj), (Rounds.initOf exCells allToks, 1))

/-- The rights to pay device `c`'s own cells. -/
def ownToks (c : Dev nD) : sProp 𝕄 :=
  iprop((dutyTok ER (barCell c) 0 0 ∗ dutyTok ER (barCell c) 0 1)
    ∗ ((bigSep Finset.univ fun i : Fin 16 => dutyTok ER (sendCell c i) 0 0) ∗ bigSep Finset.univ fun i : Fin 16 => dutyTok ER (recvCell c i) 0 0))
/-- What the launch element deals device `c`. -/
def G (c : Dev nD) : sProp 𝕄 :=
  iprop((bigSep Finset.univ fun k : CK => roundState ER (rd I) (kcell (c, k)) 0)
    ∗ ((bigSep Finset.univ fun k : CK => atPos ER (kcell (c, k)) 0 ∅ 0) ∗ (bigSep Finset.univ fun k : CK => reached ER (kcell (c, k)) 0)) ∗ ownToks c)

theorem fund_ex : BI.own (ER (Rounds.initOf exCells allToks)) ⊢ (|==> bigSep Finset.univ (G (F := F) I) : sProp 𝕄) := by
  have hX (Φ : GSem nD τ sig → sProp 𝕄) : bigSep exCells Φ = bigSep Finset.univ fun c : Dev nD => bigSep Finset.univ fun k : CK => Φ (kcell (c, k)) := by
    unfold exCells; rw [bigSep_map, bigSep_univ_prod]; rfl
  have hT : bigSep allToks (fun x => (dutyTok ER x.1 x.2.1 x.2.2 : sProp 𝕄)) = bigSep Finset.univ fun c : Dev nD => ownToks c := by
    unfold allToks; rw [bigSep_map, bigSep_univ_prod]
    refine bigSep_congr fun c _ => ?_
    rw [bigSep_univ_sum, bigSep_univ_prod, bigSep_two, bigSep_two]
    rfl
  iintro HX
  imod (Rounds.fund ER (rd I) exCells allToks) $$ HX with ⟨Hst, Hr, Hat, Htok⟩
  imodintro
  ihave Hst' := (Entails.of_eq (hX fun g => roundState ER (rd I) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

/-- The slots' semaphores at zero. -/
def kvZero (c : Dev nD) : sProp 𝕄 := bigSep Finset.univ fun s : Fin 4 => iprop(semVal (((c : Thread nD τ), .dma (kvSem s 0)) : GSem nD τ sig) 0 ∗ semVal (((c : Thread nD τ), .dma (kvSem s 1)) : GSem nD τ sig) 0)
/-- The exchange's semaphores at zero. -/
def exZero (c : Dev nD) : sProp 𝕄 := iprop((bigSep Finset.univ fun i : Fin 16 => semVal (sendCell c i) 0) ∗ bigSep Finset.univ fun i : Fin 16 => semVal (recvCell c i) 0)

theorem ownSems0_eq (c : Dev nD) : (Pipeline.ownSems0 (Ix := Unit) (Name := ℕ) (U := UU) (Lvl := ℕ) (Val := Elt F) (τ := τ) osem c : sProp 𝕄)
    = iprop(kvZero c ∗ exZero c) := by
  unfold Pipeline.ownSems0 kvZero exZero
  rw [bigSep_univ_sum, bigSep_univ_prod, bigSep_univ_prod, bigSep_two]
  have h (s : Fin 4) : bigSep Finset.univ (fun j : Fin 2 => (semVal ((c.tc : Thread nD τ), osem (.inl (s, j))) 0 : sProp 𝕄))
      = iprop(semVal (((c : Thread nD τ), .dma (kvSem s 0)) : GSem nD τ sig) 0 ∗ semVal (((c : Thread nD τ), .dma (kvSem s 1)) : GSem nD τ sig) 0) := bigSep_two _
  rw [bigSep_congr (fun s _ => h s)]
  rfl
theorem unscopedSems0_eq (c : Dev nD) : (unscopedSems0 c : sProp 𝕄) = semVal (barCell c) 0 := by
  unfold unscopedSems0; rw [bigSep_eq_bigSepL_of_eq [SemLoc.reg barS] (by decide) (by decide)]; rfl
/-- The exchange's cells' counters, one by one. -/
theorem cells0_eq (c : Dev nD) : (bigSep Finset.univ fun k : CK => semVal (kcell (c, k)) 0 : sProp 𝕄) = iprop(semVal (barCell c) 0 ∗ exZero c) := by
  unfold exZero
  rw [bigSep_univ_sum, bigSep_univ_prod, bigSep_two, bigSep_univ_eq_bigSepL [()] (by decide) (by decide)]
  rfl

/-! ## Making the invariants, dealing the rights -/

theorem core_alloc (c : Dev nD) :
    iprop(Pipeline.ownSems0 (Ix := Unit) (Name := ℕ) (U := UU) (Lvl := ℕ) (Val := Elt F) (τ := τ) osem c ∗ unscopedSems0 c ∗ G I c)
      ⊢ |={Set.univ}=> iprop((bigSep Finset.univ fun k : CK => iprop(∃ κ : ℕ, cellInv ER (rd I) κ (kcell (c, k))))
          ∗ ((bigSep Finset.univ fun k : CK => atPos ER (kcell (c, k)) 0 ∅ 0) ∗ (bigSep Finset.univ fun k : CK => reached ER (kcell (c, k)) 0)) ∗ (ownToks c ∗ kvZero c)) := by
  rw [ownSems0_eq, unscopedSems0_eq]
  unfold G
  iintro ⟨⟨Hkv, Hex⟩, Hb, Hst, Hat, Htok⟩
  ihave Hv := (Entails.of_eq (cells0_eq (F := F) c).symm) $$ [Hb Hex]
  · isplitl [Hb] <;> iassumption
  imod (show iprop((bigSep Finset.univ fun k : CK => semVal (kcell (c, k)) 0) ∗ bigSep Finset.univ fun k : CK => roundState ER (rd I) (kcell (c, k)) 0)
      ⊢ (|={Set.univ}=> bigSep Finset.univ fun k : CK => iprop(∃ κ : ℕ, cellInv ER (rd I) κ (kcell (c, k))) : sProp 𝕄) from by
        rw [← bigSep_sep']
        exact (bigSep_mono fun k _ => (Rounds.body_intro ER (rd I) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-- What stands, before the levels are known. -/
def facts (K : Dev nD × CK → ℕ) : sProp 𝕄 :=
  iprop((bigSep Finset.univ fun p : Dev nD × CK => cellInv ER (rd I) (K p) (kcell p)) ∗ bigSep Finset.univ fun p : Dev nD × CK => reached ER (kcell p) 0)
instance facts_persistent (K : Dev nD × CK → ℕ) : BI.Persistent (facts (F := F) I K) := by unfold facts; infer_instance

/-- The rights device `c` pays with. -/
def payToks (c : Dev nD) : sProp 𝕄 :=
  iprop((dutyTok ER (barCell (par 0 c)) 0 0 ∗ dutyTok ER (barCell (par 1 c)) 0 1)
    ∗ ((bigSep Finset.univ fun i : Fin 16 => dutyTok ER (sendCell c i) 0 0) ∗ bigSep Finset.univ fun i : Fin 16 => dutyTok ER (recvCell (par (exS i.val) c) i) 0 0))
/-- Device `c`'s own part: its positions, its rights, its slots' semaphores. -/
def linear (c : Dev nD) : sProp 𝕄 := iprop((bigSep Finset.univ fun k : CK => atPos ER (kcell (c, k)) 0 ∅ 0) ∗ (payToks c ∗ kvZero c))
/-- What device `c` starts from. -/
def G' (c : Dev nD) : sProp 𝕄 := iprop(∃ K, facts I K ∗ linear c)

/-- Each arrival, as its payer names it. -/
def acrossE : Dev nD × Fin 16 ≃ Dev nD × Fin 16 :=
  ⟨fun p => (par (exS p.2.val) p.1, p.2), fun p => (par (exS p.2.val) p.1, p.2), fun p => by simp only [par_par], fun p => by simp only [par_par]⟩

/-- The rights dealt around: each to the partner who pays. -/
theorem toks_around : (bigSep Finset.univ fun c : Dev nD => (ownToks c : sProp 𝕄)) ⊢ bigSep Finset.univ fun c : Dev nD => payToks c := by
  unfold ownToks payToks
  rw [bigSep_sep', bigSep_sep', bigSep_sep', bigSep_sep', bigSep_sep', bigSep_sep',
    bigSep_univ_equiv (parE 0) (fun c : Dev nD => (dutyTok ER (barCell c) 0 0 : sProp 𝕄)),
    bigSep_univ_equiv (parE 1) (fun c : Dev nD => (dutyTok ER (barCell c) 0 1 : sProp 𝕄)),
    ← bigSep_univ_prod (fun p : Dev nD × Fin 16 => (dutyTok ER (recvCell p.1 p.2) 0 0 : sProp 𝕄)),
    bigSep_univ_equiv acrossE (fun p : Dev nD × Fin 16 => (dutyTok ER (recvCell p.1 p.2) 0 0 : sProp 𝕄)), bigSep_univ_prod]
  exact BIBase.Entails.refl

/-- What holds throughout beside each of a family. -/
theorem bigSep_beside {J : Type} [DecidableEq J] {S : Finset J} {R : sProp 𝕄} [BI.Persistent R] {Φ Ψ : J → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CK => iprop(∃ κ : ℕ, cellInv ER (rd I) κ (kcell (c, k))))
          ∗ ((bigSep Finset.univ fun k : CK => atPos ER (kcell (c, k)) 0 ∅ 0) ∗ (bigSep Finset.univ fun k : CK => reached ER (kcell (c, k)) 0)) ∗ (ownToks c ∗ kvZero c)) : sProp 𝕄)
      ⊢ bigSep Finset.univ (G' I) := by
  rw [bigSep_sep', bigSep_sep', bigSep_sep', bigSep_sep', ← bigSep_univ_prod (fun p : Dev nD × CK => iprop(∃ κ : ℕ, cellInv ER (rd I) κ (kcell p))),
    ← bigSep_univ_prod (fun p : Dev nD × CK => (reached ER (kcell p) 0 : sProp 𝕄))]
  iintro ⟨HI, ⟨Hat, #HR⟩, Htok, Hkv⟩
  ihave HK := (BI.bigSep_exists_pi Finset.univ (fun (p : Dev nD × CK) (κ : ℕ) => (cellInv ER (rd I) κ (kcell p) : sProp 𝕄))) $$ HI
  icases HK with ⟨%K, #HI⟩
  ihave Htk := (toks_around (F := F)) $$ Htok
  have one (c : Dev nD) : iprop(facts I K ∗ linear c) ⊢ G' I c := by
    iintro H; unfold G'; iexists K; iexact H
  iapply (bigSep_beside (R := facts I K) fun c _ => one c)
  isplitr
  · unfold facts; isplitl; · iexact HI
    iexact HR
  · unfold linear
    rw [bigSep_sep', bigSep_sep']
    isplitl [Hat]; · iexact Hat
    isplitl [Htk] <;> iassumption

/-- From every device's semaphores at zero and ghost state, what each device starts from. -/
theorem glob : (bigSep Finset.univ fun c => iprop(Pipeline.ownSems0 (Ix := Unit) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => core_alloc I c).trans (bigSep_fupd _ _)).trans (BI.fupd_mono (regroup I))

/-! ## The credit at launch -/

/-- The credit for a list of exchanges. -/
def credL (c : Dev nD) : List (Fin 2 × Fin 4) → sProp 𝕄
  | [] => iprop(emp)
  | x :: l => iprop(credL c l ∗ recvCreds c x.1 x.2)

theorem credL_intro (c : Dev nD) : ∀ l, (Pipeline.launchCred (fun d => owedL d l) c : sProp 𝕄) ⊢ credL c l
  | [] => Entails.of_eq (Pipeline.launchCred_zero c)
  | x :: l => by
    show Pipeline.launchCred (fun d => owedL d l + due d x 1 + due d x 0) c ⊢ iprop(credL c l ∗ recvCreds c x.1 x.2)
    rw [Pipeline.launchCred_add (fun d => owedL d l + due d x 1) (fun d => due d x 0), Pipeline.launchCred_add (fun d => owedL d l) (fun d => due d x 1)]
    unfold due
    iintro ⟨⟨Hl, H1⟩, H0⟩
    ihave Hl := (credL_intro c l) $$ Hl
    ihave H1 := (Pipeline.launchCred_tallyAt (.dma (recvSem (exId x.1 x.2 1))) (par x.1) (par x.1) (par_par x.1) (par_par x.1) () (amt (1 : Fin 2).val) c) $$ H1
    ihave H0 := (Pipeline.launchCred_tallyAt (.dma (recvSem (exId x.1 x.2 0))) (par x.1) (par x.1) (par_par x.1) (par_par x.1) () (amt (0 : Fin 2).val) c) $$ H0
    unfold recvCreds
    isplitl [Hl]; · iexact Hl
    isplitl [H0] <;> iassumption

/-- The launch credit of device `c`: two units of its barrier, and every arrival. -/
theorem creds (c : Dev nD) : (Pipeline.launchCred O₀ c : sProp 𝕄)
    ⊢ iprop(cred (tallyAt (barCell c) () 2) ∗ (bigSep Finset.univ fun b => recvCreds c 0 b) ∗ (bigSep Finset.univ fun b => recvCreds c 1 b)) := by
  unfold O₀
  rw [Pipeline.launchCred_add (fun d => owedL d order + tallyAt (barCell (par 1 d)) () 1) (fun d => tallyAt (barCell (par 0 d)) () 1),
    Pipeline.launchCred_add (fun d => owedL d order) (fun d => tallyAt (barCell (par 1 d)) () 1)]
  iintro ⟨⟨Hl, H1⟩, H0⟩
  ihave Hl := (credL_intro (F := F) c order) $$ Hl
  ihave H1 := (Pipeline.launchCred_tallyAt (.reg barS) (par 1) (par 1) (par_par 1) (par_par 1) () 1 c) $$ H1
  ihave H0 := (Pipeline.launchCred_tallyAt (.reg barS) (par 0) (par 0) (par_par 0) (par_par 0) () 1 c) $$ H0
  ihave Hb := ((cred_add (tallyAt (barCell c) () 1) (tallyAt (barCell c) () 1)).2) $$ [H1 H0]
  · isplitl [H1] <;> iassumption
  rw [show tallyAt (barCell c) () 2 = (tallyAt (barCell c) () 1 + tallyAt (barCell c) () 1 : CellTallies nD τ sig Unit) from (tallyAt_add _ _ 1 1).symm, bigSep_four, bigSep_four]
  isplitl [Hb]; · iexact Hb
  simp only [credL]
  icases Hl with ⟨⟨⟨⟨⟨⟨⟨⟨-, A⟩, B⟩, C⟩, D⟩, E⟩, H⟩, J⟩, K⟩
  isplitl [K J E C]
  · isplitl [K]; · iexact K
    isplitl [J]; · iexact J
    isplitl [E] <;> iassumption
  · isplitl [H]; · iexact H
    isplitl [D]; · iexact D
    isplitl [B] <;> iassumption

end Cert.KernelIdeal.Body

end
-- ==== Proof.Assemble.lean ====
/- What a device holds when its kernel starts, sorted into what the body's triple asks for; and what the triple leaves,
   gathered into what the launch asks back. -/
module

public import proofs.«01_k».proof.Proof.Deal

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Idealize.ShloMosaic.ValueIdx

variable {F : FTy → Type} [FloatOps F]

local notation "𝕄" => MT nD τ sig Unit (Elt F) ℕ UU ℕ

variable (I : Dev nD → In F) (c : Dev nD)

/-! ## The buffers -/

/-- The kernel's scratch buffers, each whole at some contents. -/
def bufs : sProp 𝕄 :=
  iprop(anyBuf c cc0_scratch0 ∗ anyBuf c cc0_scratch1 ∗ anyBuf c cc0_scratch2 ∗ anyBuf c cc0_scratch3 ∗ anyBuf c cc0_scratch4
    ∗ anyBuf c cc0_scratch5 ∗ anyBuf c cc0_scratch6 ∗ anyBuf c cc0_scratch7 ∗ anyBuf c cc0_scratch8)

theorem raw_split : iprop(anyBuf c cc0_scratch0 ∗ anyBuf c cc0_scratch1 ∗ anyBuf c cc0_scratch2 ∗ anyBuf c cc0_scratch3) ⊢ bigSep Finset.univ fun b : Fin 4 => rawRow (F := F) c b := by
  unfold rawRow
  rw [bigSep_sep', bigSep_sep', bigSep_sep']
  iintro ⟨A, B, C, D⟩
  ihave A := (q_split (F := F) c) $$ A
  ihave B := (o_split (F := F) c) $$ B
  ihave C := (ml_split (F := F) c) $$ C
  ihave D := (a_split (F := F) c) $$ D
  isplitl [A]; · iexact A
  isplitl [B]; · iexact B
  isplitl [C] <;> iassumption
theorem raw_join : (bigSep Finset.univ fun b : Fin 4 => rawRow (F := F) c b) ⊢ iprop(anyBuf c cc0_scratch0 ∗ anyBuf c cc0_scratch1 ∗ anyBuf c cc0_scratch2 ∗ anyBuf c cc0_scratch3) := by
  unfold rawRow
  rw [bigSep_sep', bigSep_sep', bigSep_sep']
  iintro ⟨A, B, C, D⟩
  ihave A := (q_join (F := F) c) $$ A
  ihave B := (o_join (F := F) c) $$ B
  ihave C := (ml_join (F := F) c) $$ C
  ihave D := (a_join (F := F) c) $$ D
  isplitl [A]; · iexact A
  isplitl [B]; · iexact B
  isplitl [C] <;> iassumption

theorem or_split2 : anyBuf (F := F) c cc0_scratch4 ⊢ iprop((bigSep Finset.univ fun b : Fin 4 => iprop(∃ f, ptOr c 0 b f)) ∗ bigSep Finset.univ fun b : Fin 4 => iprop(∃ f, ptOr c 1 b f)) :=
  BIBase.Entails.trans (or_split c) (Entails.of_eq (by rw [bigSep_univ_prod, bigSep_two]))
theorem mlr_split2 : anyBuf (F := F) c cc0_scratch5 ⊢ iprop((bigSep Finset.univ fun b : Fin 4 => iprop(∃ f, ptMlr c 0 b f)) ∗ bigSep Finset.univ fun b : Fin 4 => iprop(∃ f, ptMlr c 1 b f)) :=
  BIBase.Entails.trans (mlr_split c) (Entails.of_eq (by rw [bigSep_univ_prod, bigSep_two]))
theorem lands_split : iprop(anyBuf c cc0_scratch4 ∗ anyBuf c cc0_scratch5) ⊢ iprop(barPay (F := F) c 0 ∗ barPay c 1) := by
  unfold barPay
  rw [bigSep_sep', bigSep_sep']
  iintro ⟨A, B⟩
  ihave A := (or_split2 (F := F) c) $$ A
  ihave B := (mlr_split2 (F := F) c) $$ B
  icases A with ⟨A0, A1⟩
  icases B with ⟨B0, B1⟩
  isplitl [A0 B0]
  · isplitl [A0] <;> iassumption
  · isplitl [A1] <;> iassumption
theorem lands_join : iprop((bigSep Finset.univ fun b => lands (F := F) c 0 b) ∗ (bigSep Finset.univ fun b => lands c 1 b)) ⊢ iprop(anyBuf (F := F) c cc0_scratch4 ∗ anyBuf c cc0_scratch5) := by
  unfold lands
  rw [bigSep_sep', bigSep_sep']
  iintro ⟨⟨A0, B0⟩, ⟨A1, B1⟩⟩
  isplitl [A0 A1]
  · iapply (or_join (F := F) c)
    rw [bigSep_univ_prod, bigSep_two]
    isplitl [A0] <;> iassumption
  · iapply (mlr_join (F := F) c)
    rw [bigSep_univ_prod, bigSep_two]
    isplitl [B0] <;> iassumption

/-! ## The device's keys and values -/

/-- The device's keys and values, whole. -/
def kvArr : sProp 𝕄 := iprop(((c : Thread nD τ).loc main_arg3 ↦{fullShare} (I c).K) ∗ ((c : Thread nD τ).loc main_arg4 ↦{fullShare} (I c).V))
/-- The share of them that no slot reads. -/
def kvKeep : sProp 𝕄 := iprop(((c : Thread nD τ).loc main_arg3 ↦{Transfers.shareDrop fullShare 4} (I c).K) ∗ ((c : Thread nD τ).loc main_arg4 ↦{Transfers.shareDrop fullShare 4} (I c).V))

/-- A buffer's shares. -/
theorem shares_split {ℓ : Loc nD τ sig} (f : Buf (Elt F) ℓ) : (ℓ ↦{fullShare} f : sProp 𝕄) ⊢ iprop((ℓ ↦{Transfers.shareDrop fullShare 4} f) ∗ bigSep Finset.univ (fun i : Fin 4 => ℓ ↦{Transfers.shareTok fullShare 4 i} f)) :=
  Transfers.pointsTo_toks_split fullShare 4
theorem shares_join {ℓ : Loc nD τ sig} (f : Buf (Elt F) ℓ) : iprop((ℓ ↦{Transfers.shareDrop fullShare 4} f) ∗ bigSep Finset.univ (fun i : Fin 4 => ℓ ↦{Transfers.shareTok fullShare 4 i} f)) ⊢ (ℓ ↦{fullShare} f : sProp 𝕄) :=
  Transfers.pointsTo_toks_join fullShare 4

theorem idle_split : iprop(kvArr I c ∗ anyBuf c cc0_scratch6 ∗ anyBuf c cc0_scratch7 ∗ kvZero c) ⊢ iprop(kvKeep I c ∗ bigSep Finset.univ fun s : Fin 4 => idle I c s) := by
  unfold kvArr kvKeep kvZero idle idleK idleV
  simp only [bigSep_sep']
  iintro ⟨⟨HK, HV⟩, A, B, ⟨Z0, Z1⟩⟩
  ihave A := (kb_split (F := F) c) $$ A
  ihave B := (vb_split (F := F) c) $$ B
  ihave HK := (shares_split (F := F) (ℓ := (c : Thread nD τ).loc main_arg3) (I c).K) $$ HK
  ihave HV := (shares_split (F := F) (ℓ := (c : Thread nD τ).loc main_arg4) (I c).V) $$ HV
  icases HK with ⟨HK, TK⟩
  icases HV with ⟨HV, TV⟩
  isplitl [HK HV]
  · isplitl [HK] <;> iassumption
  unfold arrK arrV
  isplitl [TK A Z0]
  · isplitl [TK]; · iexact TK
    isplitl [A] <;> iassumption
  · isplitl [TV]; · iexact TV
    isplitl [B] <;> iassumption
theorem idle_join : iprop(kvKeep I c ∗ bigSep Finset.univ fun s : Fin 4 => idle I c s) ⊢ iprop(kvArr I c ∗ anyBuf c cc0_scratch6 ∗ anyBuf c cc0_scratch7 ∗ kvZero c) := by
  unfold kvArr kvKeep kvZero idle idleK idleV
  simp only [bigSep_sep']
  iintro ⟨⟨HK, HV⟩, ⟨TK, A, Z0⟩, TV, B, Z1⟩
  unfold arrK arrV
  ihave A := (kb_join (F := F) c) $$ A
  ihave B := (vb_join (F := F) c) $$ B
  isplitl [HK HV TK TV]
  · isplitl [HK TK]
    · iapply (shares_join (F := F) (ℓ := (c : Thread nD τ).loc main_arg3) (I c).K)
      isplitl [HK] <;> iassumption
    · iapply (shares_join (F := F) (ℓ := (c : Thread nD τ).loc main_arg4) (I c).V)
      isplitl [HV] <;> iassumption
  isplitl [A]; · iexact A
  isplitl [B]; · iexact B
  isplitl [Z0] <;> iassumption

/-! ## The exchange's part -/

/-- A device's positions, by cell. -/
theorem pos_eq : (bigSep Finset.univ fun k : CK => atPos ER (kcell (c, k)) 0 ∅ 0 : sProp 𝕄)
    = iprop(atPos ER (barCell c) 0 ∅ 0 ∗ (bigSep Finset.univ fun i : Fin 16 => atPos ER (sendCell c i) 0 ∅ 0) ∗ bigSep Finset.univ fun i : Fin 16 => atPos ER (recvCell c i) 0 ∅ 0) := by
  rw [bigSep_univ_sum, bigSep_univ_prod, bigSep_two, bigSep_univ_eq_bigSepL [()] (by decide) (by decide)]
  rfl

theorem starts_intro : iprop((bigSep Finset.univ fun i : Fin 16 => atPos ER (sendCell c i) 0 ∅ 0) ∗ bigSep Finset.univ fun i : Fin 16 => atPos ER (recvCell c i) 0 ∅ 0)
    ⊢ (iprop((bigSep Finset.univ fun b => starts c 0 b) ∗ bigSep Finset.univ fun b => starts c 1 b) : sProp 𝕄) := by
  unfold starts
  rw [bigSep_ex, bigSep_ex]
  simp only [bigSep_sep']
  iintro ⟨⟨⟨A, B⟩, C, D⟩, ⟨⟨A', B'⟩, C', D'⟩⟩
  isplitl [A B A' B']
  · isplitl [A A']
    · isplitl [A] <;> iassumption
    · isplitl [B] <;> iassumption
  · isplitl [C C']
    · isplitl [C] <;> iassumption
    · isplitl [D] <;> iassumption
theorem zeros_elim : (iprop((bigSep Finset.univ fun b => zeros c 0 b) ∗ bigSep Finset.univ fun b => zeros c 1 b) : sProp 𝕄) ⊢ exZero c := by
  unfold zeros exZero
  rw [bigSep_ex, bigSep_ex]
  simp only [bigSep_sep']
  iintro ⟨⟨⟨A, A'⟩, B, B'⟩, ⟨C, C'⟩, D, D'⟩
  isplitl [A B C D]
  · isplitl [A B]
    · isplitl [A] <;> iassumption
    · isplitl [C] <;> iassumption
  · isplitl [A' B']
    · isplitl [A'] <;> iassumption
    · isplitl [C'] <;> iassumption

theorem exS_id (s : Fin 2) (b : Fin 4) (j : Fin 2) : par (exS (8 * s.val + 2 * b.val + j.val)) c = par s c := by rw [show exS (8 * s.val + 2 * b.val + j.val) = s from exS_exId s b j]
theorem toks_intro : iprop((bigSep Finset.univ fun i : Fin 16 => dutyTok ER (sendCell c i) 0 0) ∗ bigSep Finset.univ fun i : Fin 16 => dutyTok ER (recvCell (par (exS i.val) c) i) 0 0)
    ⊢ (iprop((bigSep Finset.univ fun b => exToks c 0 b) ∗ bigSep Finset.univ fun b => exToks c 1 b) : sProp 𝕄) := by
  unfold exToks toks
  rw [bigSep_ex, bigSep_ex]
  simp only [bigSep_sep', exS_id]
  iintro ⟨⟨⟨A, B⟩, C, D⟩, ⟨⟨A', B'⟩, C', D'⟩⟩
  isplitl [A B A' B']
  · isplitl [A A']
    · isplitl [A] <;> iassumption
    · isplitl [B] <;> iassumption
  · isplitl [C C']
    · isplitl [C] <;> iassumption
    · isplitl [D] <;> iassumption

/-! ## The start and the end -/

/-- What device `c` starts from, beside its buffers. -/
def start : sProp 𝕄 :=
  iprop(G' I c ∗ (cred (tallyAt (barCell c) () 2) ∗ (bigSep Finset.univ fun b => recvCreds c 0 b) ∗ (bigSep Finset.univ fun b => recvCreds c 1 b)) ∗ levAts L lv ∗ kvArr I c)
/-- What device `c` holds when its kernel starts. -/
def Φ₀ : sProp 𝕄 := iprop(start I c ∗ bufs c)
/-- What device `c` holds when its kernel has run. -/
def Φ₁ : sProp 𝕄 := iprop((semVal (barCell c) 0 ∗ kvArr I c) ∗ (kvZero c ∗ exZero c) ∗ bufs c)
/-- The windows' staging buffers before the run, the result's at some contents. -/
def staged : sProp 𝕄 := iprop(ptX I c ∗ ptWq I c ∗ ptWo I c ∗ anyBuf c cc0_stg3_0)
/-- The windows' staging buffers after the run. -/
def stagedOut : sProp 𝕄 := iprop(ptX I c ∗ ptWq I c ∗ ptWo I c ∗ ((c : Thread nD τ).loc cc0_stg3_0 ↦{fullShare} (OUT I c : S4x256x1024.Idx → Elt F .f32)))

theorem pre_intro : iprop(Φ₀ I c ∗ owing c (O₀ c) ∗ staged I c) ⊢ ∃ K, progPre I c K ∗ kvKeep I c := by
  unfold Φ₀ start bufs staged G' linear payToks
  iintro ⟨⟨⟨⟨%K, Hf, Hat, ⟨Hbt, Htk⟩, Hkv⟩, ⟨Hc2, Hr0, Hr1⟩, Hlev, Harr⟩, S0, S1, S2, S3, S4, S5, S6, S7, S8⟩, Ho, Hx, Hwq, Hwo, Hout⟩
  iexists K
  ihave Hraw := (raw_split (F := F) c) $$ [S0 S1 S2 S3]
  · isplitl [S0]; · iexact S0
    isplitl [S1]; · iexact S1
    isplitl [S2] <;> iassumption
  ihave Hland := (lands_split (F := F) c) $$ [S4 S5]
  · isplitl [S4] <;> iassumption
  ihave Hidle := (idle_split I c) $$ [Harr S6 S7 Hkv]
  · isplitl [Harr]; · iexact Harr
    isplitl [S6]; · iexact S6
    isplitl [S7] <;> iassumption
  icases Hidle with ⟨Hkeep, Hidle⟩
  ihave Hout := (out_split (F := F) c) $$ Hout
  ihave Hat := (Entails.of_eq (pos_eq (F := F) c)) $$ Hat
  icases Hat with ⟨Hab, Hat⟩
  ihave Hst := (starts_intro (F := F) c) $$ Hat
  icases Hst with ⟨Hst0, Hst1⟩
  ihave Htk := (toks_intro (F := F) c) $$ Htk
  icases Htk with ⟨Ht0, Ht1⟩
  isplitr [Hkeep]
  · unfold progPre exWait facts records anyBuf ptW
    simp only [bigSep_sep']
    icases Hf with ⟨Hf1, Hf2⟩
    isplitl [Hf1 Hf2 Hlev]
    · isplitl [Hf1]; · iexact Hf1
      isplitl [Hf2] <;> iassumption
    isplitl [Hbt Hc2 Hab Hland Ho]
    · isplitl [Hbt Hc2 Hab]
      · isplitl [Hbt]; · iexact Hbt
        isplitl [Hc2] <;> iassumption
      isplitl [Hland] <;> iassumption
    isplitl [Hraw]; · iexact Hraw
    isplitl [Ht0 Ht1 Hr0 Hr1 Hst0 Hst1]
    · isplitl [Ht0]; · iexact Ht0
      isplitl [Ht1]; · iexact Ht1
      isplitl [Hr0 Hst0]
      · isplitl [Hr0] <;> iassumption
      · isplitl [Hr1] <;> iassumption
    isplitl [Hidle]; · iexact Hidle
    isplitr [Hout]
    · isplitl [Hx]; · iexact Hx
      isplitl [Hwq]; · iexact Hwq
      isplitl [Hwo]; · iexact Hwo
      iexact S8
    iexact Hout
  · iexact Hkeep

theorem post_elim : iprop(progPost I c ∗ kvKeep I c) ⊢ iprop(Φ₁ I c ∗ owing c 0 ∗ stagedOut I c) := by
  unfold progPost doneRow Φ₁ stagedOut bufs
  simp only [bigSep_sep']
  iintro ⟨⟨⟨Hb, Ho⟩, ⟨Hraw, ⟨Hl0, Hl1⟩, ⟨Hz0, Hz1⟩, Hout⟩, Hidle, Hx, Hwq, Hwo, Hw⟩, Hkeep⟩
  ihave Hraw := (raw_join (F := F) c) $$ Hraw
  icases Hraw with ⟨S0, S1, S2, S3⟩
  ihave Hland := (lands_join (F := F) c) $$ [Hl0 Hl1]
  · isplitl [Hl0] <;> iassumption
  icases Hland with ⟨S4, S5⟩
  ihave Hi := (idle_join I c) $$ [Hkeep Hidle]
  · isplitl [Hkeep] <;> iassumption
  icases Hi with ⟨Harr, S6, S7, Hkv⟩
  ihave Hex := (zeros_elim (F := F) c) $$ [Hz0 Hz1]
  · isplitl [Hz0] <;> iassumption
  ihave Hout := (out_join (F := F) c (OUT I c)) $$ Hout
  isplitl [Hb Harr Hkv Hex S0 S1 S2 S3 S4 S5 S6 S7 Hw]
  · isplitl [Hb Harr]
    · isplitl [Hb] <;> iassumption
    isplitl [Hkv Hex]
    · isplitl [Hkv] <;> iassumption
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    unfold anyBuf ptW; iexact Hw
  isplitl [Ho]; · iexact Ho
  isplitl [Hx]; · iexact Hx
  isplitl [Hwq]; · iexact Hwq
  isplitl [Hwo] <;> iassumption

end Cert.KernelIdeal.Body

end
-- ==== Proof.StructEq.lean ====
/- The printed body is the short program of Struct.lean. -/
module

public import proofs.«01_k».proof.Proof.Struct

@[expose] public section

noncomputable section

namespace Cert.KernelIdeal.Body

open Idealize.ShloMosaic Idealize.ShloMosaic.TcCoe Idealize.SL.Sem
open Cert.KernelIdeal.Gen

variable {F : FTy → Type} [FloatOps F]

set_option maxRecDepth 1000000 in
/-- The printed body, on the buffers the launch hands it, is `prog`. -/
theorem body_eq : bodyAt0 (F := F) t0_0 = prog (F := F) := by
  chain_rfl

end Cert.KernelIdeal.Body

end
-- ==== Proof.Launch.lean ====
/- The launch: every device's kernel run from its body's triple, for any float values. From any memory with every counter
   at zero the run ends, each device's result array holding `OUT` of the devices' arguments, the arguments as they were,
   and every counter at zero. -/
module

public import proofs.«01_k».proof.Proof.Assemble
public import proofs.«01_k».proof.Proof.StructEq
public import proofs.«01_k».proof.Proof.Gen.KernelIdeal.Launch
public import proofs.«01_k».proof.Proof.Gen.KernelIdeal.Points
public import Idealize.ShloMosaic.Lib.Pipeline.CollectiveSegs

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.KernelIdeal.Gen Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-- Device `c`'s arguments in the starting memory. -/
def inOf (c : Dev nD) : In F where
  x := m ((c : Thread nD τ).loc main_arg0)
  wq := m ((c : Thread nD τ).loc main_arg1)
  wo := m ((c : Thread nD τ).loc main_arg2)
  K := m ((c : Thread nD τ).loc main_arg3)
  V := m ((c : Thread nD τ).loc main_arg4)

/-- The starting state. -/
def s₀ : MemSt nD τ sig (Elt F) := ⟨m, fun _ => 0, ρ⟩

/-- The one custom_call's data on each device: the arrays it starts from, its windows' staging buffers after the body,
    what is held and owed before and after it. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (inOf m c).x
    | ⟨1, _⟩ => (inOf m c).wq
    | ⟨2, _⟩ => (inOf m c).wo
    | ⟨3, _⟩ => OUT (inOf m) c
  Φ t := match t with
    | ⟨0, _⟩ => Φ₀ (inOf m) c
    | ⟨_ + 1, _⟩ => Φ₁ (inOf m) c
  q _ := fullShare
  owed t := match t with
    | ⟨0, _⟩ => O₀ c
    | ⟨_ + 1, _⟩ => 0

theorem fetch_0 (t : Fin cfg0.N) : (cfg0.win (0 : Fin 4)).fetch t = true := by rw [fin_N0 t]; rfl
theorem fetch_1 (t : Fin cfg0.N) : (cfg0.win (1 : Fin 4)).fetch t = true := by rw [fin_N0 t]; rfl
theorem fetch_2 (t : Fin cfg0.N) : (cfg0.win (2 : Fin 4)).fetch t = true := by rw [fin_N0 t]; rfl

/-- Each input window stages its whole array. -/
theorem before_0 (c : Dev nD) (d) : (dats m ρ 0 c).before (0 : Fin 4) t0_0 d = (inOf m c).x := by
  unfold Dat.before; rw [if_pos (fetch_0 t0_0)]
  exact Memref.read_access_unit_zero (Elt F) main_arg0 (off := fun a => win0_0.index (0 : Fin 1) a * main_arg0.ty.shape.size a)
    (funext fun a => by fin_cases a <;> decide) (fun a => by fin_cases a <;> decide) _
theorem before_1 (c : Dev nD) (d) : (dats m ρ 0 c).before (1 : Fin 4) t0_0 d = (inOf m c).wq := by
  unfold Dat.before; rw [if_pos (fetch_1 t0_0)]
  exact Memref.read_access_unit_zero (Elt F) main_arg1 (off := fun a => win0_1.index (0 : Fin 1) a * main_arg1.ty.shape.size a)
    (funext fun a => by fin_cases a <;> decide) (fun a => by fin_cases a <;> decide) _
theorem before_2 (c : Dev nD) (d) : (dats m ρ 0 c).before (2 : Fin 4) t0_0 d = (inOf m c).wo := by
  unfold Dat.before; rw [if_pos (fetch_2 t0_0)]
  exact Memref.read_access_unit_zero (Elt F) main_arg2 (off := fun a => win0_2.index (0 : Fin 1) a * main_arg2.ty.shape.size a)
    (funext fun a => by fin_cases a <;> decide) (fun a => by fin_cases a <;> decide) _

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at known contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body is run from, -/
def bodyPre (c : Dev nD) : sProp 𝕄 :=
  iprop(Φ₀ (inOf m) c ∗ (dats m ρ 0 c).owesAt () (t0_0 : Fin cfg0.N).castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))
/-- and what it leaves. -/
def bodyPost (c : Dev nD) : sProp 𝕄 :=
  iprop(Φ₁ (inOf m) c ∗ (dats m ρ 0 c).owesAt () (t0_0 : Fin cfg0.N).succ ∗ stg c cc0_stg0_0 (inOf m c).x ∗ stg c cc0_stg1_0 (inOf m c).wq
    ∗ stg c cc0_stg2_0 (inOf m c).wo ∗ stg c cc0_stg3_0 (OUT (inOf m) c))

theorem post_pack (c : Dev nD) : iprop(Φ₁ (inOf m) c ∗ owing c 0 ∗ stagedOut (inOf m) c) ⊢ bodyPost m ρ c := by
  unfold owing stagedOut bodyPost Dat.owesAt Pipeline.owesWithin ptX ptWq ptWo
  rw [show (dats m ρ 0 c).owed (t0_0 : Fin cfg0.N).succ = 0 from rfl]
  iintro ⟨HP, ⟨%W, Ho⟩, A, B, C, D⟩
  isplitl [HP]; · iexact HP
  isplitl [Ho]
  · iexists W
    isplitr; · ipureintro; exact fun _ _ => Or.inl trivial
    iexact Ho
  isplitl [A]
  · iexists _; isplitr; · (ipureintro; rfl)
    iexact A
  isplitl [B]
  · iexists _; isplitr; · (ipureintro; rfl)
    iexact B
  isplitl [C]
  · iexists _; isplitr; · (ipureintro; rfl)
    iexact C
  iexists _; isplitr; · (ipureintro; rfl)
  iexact D

theorem pre_unpack (c : Dev nD) : bodyPre m ρ c ⊢ iprop(Φ₀ (inOf m) c ∗ owing c (O₀ c) ∗ staged (inOf m) c) := by
  unfold owing staged bodyPre Dat.owesAt Pipeline.owesWithin ptX ptWq ptWo anyBuf
  rw [show (dats m ρ 0 c).owed (t0_0 : Fin cfg0.N).castSucc = O₀ c from rfl]
  simp only [before_0, before_1, before_2]
  iintro ⟨HP, ⟨%W, -, Ho⟩, ⟨%d0, %f0, %h0, A⟩, ⟨%d1, %f1, %h1, B⟩, ⟨%d2, %f2, %h2, C⟩, ⟨%d3, %f3, %h3, D⟩⟩
  subst h0 h1 h2
  isplitl [HP]; · iexact HP
  isplitl [Ho]; · iexists W; iexact Ho
  isplitl [A]; · iexact A
  isplitl [B]; · iexact B
  isplitl [C]; · iexact C
  iexists f3; iexact D

/-- The body as the launch calls it. -/
theorem body_row : defs₀ (F := F) .tc cfg0.body (cfg0.bodyArgs t0_0 (cfg0.slots t0_0)) = prog :=
  Eq.trans (b := bodyAt0 (F := F) t0_0) rfl body_eq

/-- The body's triple in the form the launch asks for. -/
theorem body_obligation (c : Dev nD) : BodyObligation (dats (F := F) m ρ 0 c) (defs₀ (F := F)) 𝒱₀ () Set.univ := fun t => by
  rw [fin_N0 t]
  rw [bigSep_W0, bigSep_W0, body_row]
  simp only [owns_whole]
  generalize hp : prog (F := F) = p
  show bodyPre m ρ c ⊢ wp frame (wpE (defs₀ (F := F)) 𝒱₀ c none) Set.univ p (fun _ => bodyPost m ρ c)
  subst hp
  iintro H
  ihave H := (pre_unpack m ρ c) $$ H
  ihave H := (pre_intro (inOf m) c) $$ H
  icases H with ⟨%K, H, Hk⟩
  iapply (prog_run (inOf m) c K (fun _ => bodyPost m ρ c))
  isplitl [H]; · iexact H
  iintro H
  iapply (post_pack m ρ c)
  iapply (post_elim (inOf m) c)
  isplitl [H] <;> iassumption

/-! ## The launch's side conditions -/

theorem ownSemFacts : Pipeline.OwnSemFacts cfg0.spec osem := by decide

theorem share_eq (c : Dev nD) (w : Fin cfg0.W) : (dats m ρ 0 c).share w = fullShare := by unfold Dat.share; split <;> rfl

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_stage c _ (by fin_cases w <;> fin_cases s <;> decide)
    · show _ ⊢ MayWait _ _ _ 0
      rw [MayWait_zero]; iintro -; iempintro

theorem start_of (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (inOf m) c)
      ⊢ |={Set.univ}=> iprop(start (inOf m) c ∗ emp) := by
  rw [Pipeline.unscopedRestP_none, unscopedRest0_eq]
  iintro ⟨Harr, Hlev, Hcr, -, HG⟩
  ihave Hc := (creds (F := F) c) $$ Hcr
  imodintro
  unfold start kvArr
  isplitl
  · isplitl [HG]; · iexact HG
    isplitl [Hc]; · iexact Hc
    isplitl [Hlev]; · iexact Hlev
    iexact Harr
  · iempintro

theorem start_bufs (c : Dev nD) :
    iprop(start (inOf m) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ (inOf m) c from rfl, scopedRest0_eq]
  unfold Φ₀ bufs anyBuf
  iintro ⟨Hs, -, Hr⟩
  isplitl [Hs]; · iexact Hs
  iexact Hr

theorem end_bufs (c : Dev nD) :
    (dats m ρ 0 c).Φ (Fin.last cfg0.N) ⊢ iprop((unscopedSems0 c ∗ kvArr (inOf m) c) ∗ Pipeline.ownSems0 osem c ∗ Pipeline.scopedRest cfg0.spec c) := by
  rw [show (dats m ρ 0 c).Φ (Fin.last cfg0.N) = Φ₁ (inOf m) c from rfl, scopedRest0_eq, ownSems0_eq, unscopedSems0_eq]
  unfold Φ₁ bufs anyBuf
  iintro H; iexact H

/-- What the memory holds of device `c`'s K and V and its own counters at the end. -/
def QY (c : Dev nD) (s : MemSt nD τ sig (Elt F)) : Prop :=
  (s.mem ((c : Thread nD τ).loc main_arg3) = m ((c : Thread nD τ).loc main_arg3) ∧ s.mem ((c : Thread nD τ).loc main_arg4) = m ((c : Thread nD τ).loc main_arg4))
    ∧ ∀ sm : SemLoc sig, sm.isScoped .tc = false → s.sem ((c.tc : Thread nD τ), sm) = 0

theorem read_end (c : Dev nD) (s' : Phys nD τ sig (Elt F)) :
    iprop((unscopedSems0 c ∗ kvArr (inOf m) c) ∗ emp ∗ SI s') ⊢ (|={Set.univ}=> iprop(⌜QY m c s'.mem⌝ ∗ SI s') : sProp 𝕄) := by
  unfold kvArr
  iintro ⟨⟨Hu, HK, HV⟩, -, HSI⟩
  icombine HSI HK gives %hK
  icombine HSI HV gives %hV
  imod (unscopedSems0_read (X := unscopedSems0 c) (c := c) fupd_intro s') $$ [Hu HSI] with H
  · isplitl [Hu] <;> iassumption
  icases H with ⟨%h, HSI⟩
  imodintro
  isplitr
  · ipureintro; exact ⟨⟨funext fun i => hK i (Finset.mem_univ _), funext fun i => hV i (Finset.mem_univ _)⟩, h⟩
  · iexact HSI

/-! ## The run -/

/-- What the final memory holds: the result and the arguments. -/
def QC (r : PUnit × MemSt nD τ sig (Elt F)) : Prop := ∀ c : Dev nD,
  r.2.mem ((c : Thread nD τ).loc main_v1) = OUT (inOf m) c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)

/-- The result array at the end. -/
theorem final_out (c : Dev nD) : (dats m ρ 0 c).arrAt (3 : Fin 4) cfg0.N = OUT (inOf m) c := by
  have h : ((cfg0.win (3 : Fin 4)).blk (0 : Fin 1)).view.read (Elt F) ((dats m ρ 0 c).arrAt (3 : Fin 4) cfg0.N) = OUT (inOf m) c := by
    rw [show cfg0.N = ((0 : Fin 1) : Fin cfg0.N).val + 1 from rfl, (dats m ρ 0 c).arrAt_succ (3 : Fin 4) (0 : Fin 1)]
    rw [show (cfg0.win (3 : Fin 4)).flush (0 : Fin 1) = true from by decide, if_pos rfl]
    exact View.read_write_univ _ _
  exact (Memref.read_access_unit_zero (Elt F) main_v1 (off := fun a => win0_3.index (0 : Fin 1) a * main_v1.ty.shape.size a)
    (funext fun a => by fin_cases a <;> decide) (fun a => by fin_cases a <;> decide) _).symm.trans h

set_option maxRecDepth 32000 in
/-- From any memory with every counter at zero, for any float values: every fair run of the four devices' kernels ends,
    each device's result is `OUT` of the arguments, the arguments are unchanged and every counter is zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (inOf m)) (G' := G' (inOf m)) (u₀ := u₀)
    (hu₀ := by
      unfold u₀
      iintro Hu
      ihave H := (ownU_pair _ _) $$ Hu
      icases H with ⟨HP, HX⟩
      ihave HX := (own_pair_emb embR _ _) $$ HX
      icases HX with ⟨HX, -⟩
      imod (fund_ex (inOf m)) $$ HX with HG
      imodintro
      isplitl [HP] <;> iassumption)
    (hglob := glob (inOf m))
    (hA := fun _ _ => rfl) (hpf := fun _ k => k.elim0)
    (X := start (inOf m)) (Y := fun c => iprop(unscopedSems0 c ∗ kvArr (inOf m) c)) (Z := fun _ => iprop(emp))
    (hX := start_of m ρ) (hin := start_bufs m ρ) (hout := end_bufs m ρ)
    (QY := QY m) (hY := read_end m)
    (hQ := fun _ h hs => ⟨fun c => ⟨((h c).1 (3 : Fin 4)).trans (final_out m ρ c),
        ((h c).1 (0 : Fin 4)).trans ((dats m ρ 0 c).arrAt_in (0 : Fin 4) rfl _),
        ((h c).1 (1 : Fin 4)).trans ((dats m ρ 0 c).arrAt_in (1 : Fin 4) rfl _),
        ((h c).1 (2 : Fin 4)).trans ((dats m ρ 0 c).arrAt_in (2 : Fin 4) rfl _),
        (h c).2.2.1.1, (h c).2.2.1.2⟩, sem_eq_zero hs fun c => (h c).2.2.2⟩)

end Cert.KernelIdeal.Body

end
-- ==== Proof.Frames.lean ====
/- The frames: each program, from any memory with every counter at zero, ends with its arguments unchanged and every
   counter at zero. The kernel's two readings share one run (Launch.lean), the idealized kernel's text being the kernel's. -/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Cert.Proof

open Idealize.ShloMosaic Idealize.SL.Sem

/-- The idealized kernel over the ideal floats. -/
theorem frame_kernelIdeal : Cert.quiescent_KernelIdeal (hKernelIdeal := Cert.KernelIdeal.Gen.facts) := fun m ρ _ =>
  (θ_run Cert.KernelIdeal.defs _ _).mono (fun _ h => ⟨fun c => (h.1 c).2, h.2⟩) (Cert.KernelIdeal.Body.run_main (F := Ideal) m ρ)

/-- The kernel's run over bit patterns, of the idealized kernel's text. -/
theorem run_bits (m : (ℓ : Loc Cert.KernelIdeal.nD Cert.KernelIdeal.τ Cert.KernelIdeal.sig) → Buf (Elt Bits) ℓ) (ρ : Dev Cert.KernelIdeal.nD → PrngReg) :
    θ_run (Cert.KernelIdeal.defs (F := Bits)) (onTc (τ := Cert.KernelIdeal.τ) (Cert.KernelIdeal.main (F := Bits))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run Cert.KernelIdeal.defs _ _).mono (fun _ h => ⟨fun c => (h.1 c).2, h.2⟩) (Cert.KernelIdeal.Body.run_main (F := Bits) m ρ)

set_option maxRecDepth 100000 in
/-- The two programs' body tables are one. -/
theorem defs₀_eq : Cert.Kernel.defs₀ (F := Bits) = Cert.KernelIdeal.defs₀ (F := Bits) := by
  unfold Cert.Kernel.defs₀ Cert.KernelIdeal.defs₀
  refine congrArg (Defs.onTc (nD := Cert.Kernel.nD) (τ := Cert.Kernel.τ) (sig := Cert.Kernel.sig)) ?_
  funext l a
  match l, a with
  | 0, (t, s) => rfl
theorem defs_eq : Cert.Kernel.defs (F := Bits) = Cert.KernelIdeal.defs (F := Bits) := by
  unfold Cert.Kernel.defs Cert.KernelIdeal.defs
  exact congrArg (Pipeline.defs (Cert.Kernel.pcfgs (F := Bits))) defs₀_eq

/-- The kernel over bit patterns. -/
theorem frame_kernel : Cert.quiescent_Kernel (hKernel := Cert.Kernel.Gen.facts) := fun m ρ _ => by
  rw [defs_eq]
  exact run_bits m ρ

/-- The reference, which declares no semaphore. -/
theorem frame_reference : Cert.quiescent_ReferenceIdeal (hReferenceIdeal := Cert.ReferenceIdeal.Gen.facts) := fun m ρ _ =>
  (θ_run Cert.ReferenceIdeal.defs _ _).mono (fun _ h => ⟨fun c => (h c).2, Idealize.ShloMosaic.sem_eq_zero_of_no_sems (by decide) _⟩) (Cert.ReferenceIdeal.Value.run (F := Ideal) m ρ)

end Cert.Proof

end
-- ==== Proof.Online.lean ====
/- Softmax-weighted sums taken part by part. A part is a set of keys; its running state is a number `m`, the sum `l`
   of the weights `exp (s - m)`, and the weighted sum `o` of the values. Two states merge, a state takes up a further
   block of keys, and the quotient of a final state does not depend on the order in which its parts were taken. The
   scores are real; the values may be infinite. -/
module

public import Idealize.ShloMosaic.PureOps.Ideal
public import Idealize.ShloMosaic.PureOps.Ideal.Laws

@[expose] public section

noncomputable section

namespace Cert.Softmax

open Idealize.ShloMosaic
open scoped BigOperators

/-! ## Sums of extended reals -/

/-- A sum times a nonnegative real is the sum of the products. -/
theorem sum_mul_coe {ι : Type} (t : Finset ι) (f : ι → EReal) {a : ℝ} (ha : 0 ≤ a) :
    (∑ i ∈ t, f i) * (a : EReal) = ∑ i ∈ t, f i * (a : EReal) := by
  classical
  induction t using Finset.induction_on with
  | empty => simp
  | insert i t hi ih =>
    rw [Finset.sum_insert hi, Finset.sum_insert hi, ← ih]
    exact EReal.right_distrib_of_nonneg_of_ne_top (EReal.coe_nonneg.mpr ha) (EReal.coe_ne_top a) _ _

/-- A sum of reals is real. -/
theorem coe_sum {ι : Type} (t : Finset ι) (f : ι → ℝ) : ((∑ i ∈ t, f i : ℝ) : EReal) = ∑ i ∈ t, (f i : EReal) := by
  classical
  induction t using Finset.induction_on with
  | empty => simp
  | insert i t hi ih => rw [Finset.sum_insert hi, Finset.sum_insert hi, ← ih, EReal.coe_add]

/-- The greatest of finitely many reals, above minus infinity, is real. -/
theorem fold_max_coe {n : ℕ} [NeZero n] (s : Fin n → ℝ) :
    ∃ M : ℝ, Finset.univ.fold max (⊥ : EReal) (fun j => (s j : EReal)) = (M : EReal) := by
  classical
  have key : ∀ t : Finset (Fin n), t.Nonempty → ∃ M : ℝ, t.fold max (⊥ : EReal) (fun j => (s j : EReal)) = (M : EReal) := by
    intro t ht
    induction ht using Finset.Nonempty.cons_induction with
    | singleton a => exact ⟨s a, by simp⟩
    | cons a t ha ht ih =>
      obtain ⟨M, hM⟩ := ih
      exact ⟨max (s a) M, by rw [Finset.fold_cons, hM]; exact (EReal.coe_strictMono.monotone.map_max).symm⟩
  exact key _ ⟨0, Finset.mem_univ _⟩

/-! ## Parts -/

/-- The weights of a block of keys with scores `s`, summed, relative to `M`. -/
def W {n : ℕ} (s : Fin n → ℝ) (M : ℝ) : ℝ := ∑ j, Real.exp (s j - M)
/-- The values of a block of keys, each at its weight relative to `M`, summed. -/
def N {n : ℕ} (s : Fin n → ℝ) (v : Fin n → EReal) (M : ℝ) : EReal := ∑ j, ((Real.exp (s j - M) : ℝ) : EReal) * v j

/-- `w` and `n` are a part's sum of weights and weighted sum of values, as functions of the number that the weights
    are relative to. -/
structure Part (w : ℝ → ℝ) (n : ℝ → EReal) : Prop where
  /-- A sum of weights is positive. -/
  pos : ∀ M, 0 < w M
  /-- Another base scales the sum of the weights, -/
  w_scale : ∀ M M', w M * Real.exp (M - M') = w M'
  /-- and the weighted sum alike. -/
  n_scale : ∀ M M', n M * ((Real.exp (M - M') : ℝ) : EReal) = n M'

/-- A block of keys is a part. -/
theorem part_block {n : ℕ} [NeZero n] (s : Fin n → ℝ) (v : Fin n → EReal) : Part (W s) (N s v) where
  pos M := Finset.sum_pos (fun j _ => Real.exp_pos _) ⟨0, Finset.mem_univ _⟩
  w_scale M M' := by
    unfold W
    rw [Finset.sum_mul]
    exact Finset.sum_congr rfl fun j _ => by rw [← Real.exp_add]; congr 1; ring
  n_scale M M' := by
    unfold N
    rw [sum_mul_coe _ _ (Real.exp_pos _).le]
    refine Finset.sum_congr rfl fun j _ => ?_
    rw [mul_right_comm, ← EReal.coe_mul, ← Real.exp_add]
    congr 3; ring

/-- Two parts together are a part. -/
theorem Part.add {w w' : ℝ → ℝ} {n n' : ℝ → EReal} (h : Part w n) (h' : Part w' n') : Part (w + w') (n + n') where
  pos M := add_pos (h.pos M) (h'.pos M)
  w_scale M M' := by rw [Pi.add_apply, Pi.add_apply, add_mul, h.w_scale, h'.w_scale]
  n_scale M M' := by
    rw [Pi.add_apply, Pi.add_apply,
      EReal.right_distrib_of_nonneg_of_ne_top (EReal.coe_nonneg.mpr (Real.exp_pos _).le) (EReal.coe_ne_top _), h.n_scale, h'.n_scale]

/-- The state `m`, `l`, `o` is that of the part `w`, `n`. -/
def State (w : ℝ → ℝ) (n : ℝ → EReal) (m l o : EReal) : Prop := ∃ M : ℝ, m = (M : EReal) ∧ l = ((w M : ℝ) : EReal) ∧ o = n M

/-- A state, its numbers written otherwise. -/
theorem State.of_eq {w : ℝ → ℝ} {n : ℝ → EReal} {m l l' o o' : EReal} (hs : State w n m l o) (hl : l' = l) (ho : o' = o) : State w n m l' o' := by
  rw [hl, ho]; exact hs

/-- A part's normalised output. -/
def quot (w : ℝ → ℝ) (n : ℝ → EReal) : EReal := n 0 * ((1 / w 0 : ℝ) : EReal)

/-- A part's normalised output may be taken relative to any number. -/
theorem Part.quot_eq {w : ℝ → ℝ} {n : ℝ → EReal} (h : Part w n) (M : ℝ) : n M * ((1 / w M : ℝ) : EReal) = quot w n := by
  unfold quot
  rw [← h.n_scale M 0, ← h.w_scale M 0, mul_assoc, ← EReal.coe_mul]
  congr 2
  have h1 := (h.pos M).ne'
  have h2 := (Real.exp_pos (M - 0)).ne'
  field_simp

/-- Dividing a state's weighted sum by its sum of weights gives the part's normalised output. -/
theorem State.div {w : ℝ → ℝ} {n : ℝ → EReal} (h : Part w n) {m l o : EReal} (hs : State w n m l o) : Ideal.div o l = quot w n := by
  obtain ⟨M, rfl, rfl, rfl⟩ := hs
  rw [Ideal.div_coe (h.pos M).ne']
  exact h.quot_eq M

/-- Exponentials of differences of reals. -/
theorem exp_sub_coe (a b : ℝ) : Ideal.exp ((a : EReal) - (b : EReal)) = ((Real.exp (a - b) : ℝ) : EReal) := by
  rw [← EReal.coe_sub]; rfl

/-- The weight with which an old state enters a new one. -/
theorem State.scale {w : ℝ → ℝ} {n : ℝ → EReal} (h : Part w n) {m l o : EReal} (hs : State w n m l o) (M' : ℝ) :
    l * Ideal.exp (m - (M' : EReal)) = ((w M' : ℝ) : EReal) ∧ o * Ideal.exp (m - (M' : EReal)) = n M' := by
  obtain ⟨M, rfl, rfl, rfl⟩ := hs
  rw [exp_sub_coe]
  exact ⟨by rw [← EReal.coe_mul, h.w_scale], h.n_scale M M'⟩

/-- The greater of two states' bases is real. -/
theorem State.max_coe {w w' : ℝ → ℝ} {n n' : ℝ → EReal} {m l o m' l' o' : EReal} (hs : State w n m l o) (hs' : State w' n' m' l' o') :
    ∃ M : ℝ, max m m' = (M : EReal) := by
  obtain ⟨M, rfl, -⟩ := hs
  obtain ⟨M', rfl, -⟩ := hs'
  exact ⟨max M M', (EReal.coe_strictMono.monotone.map_max).symm⟩

/-- Two states merge into the state of the two parts together. -/
theorem State.merge {w w' : ℝ → ℝ} {n n' : ℝ → EReal} (h : Part w n) (h' : Part w' n') {m l o m' l' o' : EReal}
    (hs : State w n m l o) (hs' : State w' n' m' l' o') :
    State (w + w') (n + n') (max m m') (l * Ideal.exp (m - max m m') + l' * Ideal.exp (m' - max m m'))
      (o * Ideal.exp (m - max m m') + o' * Ideal.exp (m' - max m m')) := by
  obtain ⟨M, hM⟩ := hs.max_coe hs'
  rw [hM]
  obtain ⟨e1, e2⟩ := hs.scale h M
  obtain ⟨e3, e4⟩ := hs'.scale h' M
  exact ⟨M, rfl, by rw [e1, e3, ← EReal.coe_add]; rfl, by rw [e2, e4]; rfl⟩

/-- Merging two states with weights that are already divided by the merged sum gives the normalised output. -/
theorem State.mergeDiv {w w' : ℝ → ℝ} {n n' : ℝ → EReal} (h : Part w n) (h' : Part w' n') {m l o m' l' o' : EReal}
    (hs : State w n m l o) (hs' : State w' n' m' l' o') :
    o * Ideal.div (Ideal.exp (m - max m m')) (l * Ideal.exp (m - max m m') + l' * Ideal.exp (m' - max m m'))
      + o' * Ideal.div (Ideal.exp (m' - max m m')) (l * Ideal.exp (m - max m m') + l' * Ideal.exp (m' - max m m')) = quot (w + w') (n + n') := by
  obtain ⟨M, hM⟩ := hs.max_coe hs'
  rw [hM]
  obtain ⟨e1, e2⟩ := hs.scale h M
  obtain ⟨e3, e4⟩ := hs'.scale h' M
  rw [e1, e3, ← EReal.coe_add]
  have hne : w M + w' M ≠ 0 := ((h.add h').pos M).ne'
  rw [Ideal.div_coe hne, Ideal.div_coe hne, ← mul_assoc, ← mul_assoc, e2, e4,
    ← EReal.right_distrib_of_nonneg_of_ne_top (EReal.coe_nonneg.mpr (by have : 0 < w M + w' M := (h.add h').pos M; positivity)) (EReal.coe_ne_top _)]
  exact (h.add h').quot_eq M

/-- The sum of a block's weights, computed at a real base. -/
theorem sum_exp {n : ℕ} (s : Fin n → ℝ) (M : ℝ) : ∑ j, Ideal.exp ((s j : EReal) - (M : EReal)) = ((W s M : ℝ) : EReal) := by
  unfold W
  rw [coe_sum]
  exact Finset.sum_congr rfl fun j _ => exp_sub_coe _ _

/-- A block's weighted sum, computed at a real base. -/
theorem sum_exp_mul {n : ℕ} (s : Fin n → ℝ) (v : Fin n → EReal) (M : ℝ) :
    ∑ j, Ideal.exp ((s j : EReal) - (M : EReal)) * v j = N s v M :=
  Finset.sum_congr rfl fun j _ => by rw [exp_sub_coe]

/-- A block's own state: relative to its greatest score. -/
theorem state_block {n : ℕ} [NeZero n] (s : Fin n → ℝ) (v : Fin n → EReal) {m : EReal}
    (hm : m = Finset.univ.fold max (⊥ : EReal) (fun j => (s j : EReal))) :
    State (W s) (N s v) m (∑ j, Ideal.exp ((s j : EReal) - m)) (∑ j, Ideal.exp ((s j : EReal) - m) * v j) := by
  obtain ⟨M, hM⟩ := fold_max_coe s
  rw [hm, hM]
  exact ⟨M, rfl, sum_exp s M, sum_exp_mul s v M⟩

/-- The first block that the running state takes up. -/
theorem state_first {n : ℕ} [NeZero n] (s : Fin n → ℝ) (v : Fin n → EReal) {m' : EReal}
    (hm : m' = max ⊥ (Finset.univ.fold max (⊥ : EReal) (fun j => (s j : EReal)))) :
    State (W s) (N s v) m' (0 * Ideal.exp (⊥ - m') + ∑ j, Ideal.exp ((s j : EReal) - m'))
      (0 * Ideal.exp (⊥ - m') + ∑ j, v j * Ideal.exp ((s j : EReal) - m')) := by
  rw [zero_mul, zero_add, zero_add]
  simp only [mul_comm (v _)]
  exact state_block s v (by rw [hm, max_eq_right bot_le])

/-- The running state takes up a further block. -/
theorem State.next {w : ℝ → ℝ} {n' : ℝ → EReal} (h : Part w n') {m l o : EReal} (hs : State w n' m l o)
    {n : ℕ} [NeZero n] (s : Fin n → ℝ) (v : Fin n → EReal) {m' : EReal}
    (hm : m' = max m (Finset.univ.fold max (⊥ : EReal) (fun j => (s j : EReal)))) :
    State (w + W s) (n' + N s v) m' (l * Ideal.exp (m - m') + ∑ j, Ideal.exp ((s j : EReal) - m'))
      (o * Ideal.exp (m - m') + ∑ j, v j * Ideal.exp ((s j : EReal) - m')) := by
  obtain ⟨M, hM⟩ := hs.max_coe (state_block s v rfl)
  rw [hm, hM]
  simp only [mul_comm (v _)]
  obtain ⟨e1, e2⟩ := hs.scale h M
  rw [e1, e2, sum_exp, sum_exp_mul]
  exact ⟨M, rfl, (EReal.coe_add _ _).symm, rfl⟩

/-! ## Real entries -/

/-- An extended real that is a real number. -/
def IsReal (x : EReal) : Prop := ((x.toReal : ℝ) : EReal) = x

theorem isReal_coe (r : ℝ) : IsReal (r : EReal) := by unfold IsReal; rw [EReal.toReal_coe]
theorem isReal_of_lt {x : EReal} (h : ⊥ < x) (h' : x < ⊤) : IsReal x := EReal.coe_toReal h'.ne h.ne'
theorem IsReal.mul {x y : EReal} (hx : IsReal x) (hy : IsReal y) : IsReal (x * y) := by
  rw [← hx, ← hy, ← EReal.coe_mul]; exact isReal_coe _
theorem isReal_sum {ι : Type} (t : Finset ι) (f : ι → EReal) (h : ∀ i, IsReal (f i)) : IsReal (∑ i ∈ t, f i) := by
  have e : ∑ i ∈ t, f i = ((∑ i ∈ t, (f i).toReal : ℝ) : EReal) := by
    rw [coe_sum]; exact Finset.sum_congr rfl fun i _ => (h i).symm
  rw [e]; exact isReal_coe _

end Cert.Softmax

end
-- ==== Proof.Consts.lean ====
/- The constants that the programs and the precondition name, as extended reals. -/
module

public import proofs.«01_k».proof.Proof.Online
public import Idealize.ShloMosaic.Lib.IdealHost

@[expose] public section

noncomputable section

namespace Cert.Softmax

open Idealize.ShloMosaic

/-- Minus infinity. -/
theorem const_bot : Ideal.ofBits .f32 0xFF800000#32 = (⊥ : EReal) := by
  simp [Ideal.ofBits, Ideal.ieee]
/-- Infinity. -/
theorem const_top : Ideal.ofBits .f32 0x7F800000#32 = (⊤ : EReal) := by
  simp [Ideal.ofBits, Ideal.ieee]
/-- The scale of the scores is a nonnegative real. -/
theorem const_scale : ∃ a : ℝ, 0 ≤ a ∧ Ideal.ofBits .f32 0x3DB504F3#32 = (a : EReal) := by
  refine ⟨(11863283 : ℝ) * (2 : ℝ) ^ (-27 : ℤ), by positivity, ?_⟩
  simp [Ideal.ofBits, Ideal.ieee]

end Cert.Softmax

end
-- ==== Proof.Finite.lean ====
/- What the precondition says: the rows, the query weights and the keys are real. -/
module

public import proofs.«01_k».proof.Pre_finite_scores_KernelIdeal
public import proofs.«01_k».proof.Pre_finite_scores_ReferenceIdeal
public import proofs.«01_k».proof.Proof.Consts
public import Idealize.ShloMosaic.Lib.Pointwise

@[expose] public section

noncomputable section

namespace Cert.Proof

open Idealize.ShloMosaic Cert.Softmax

/-- The side conditions of the precondition over one device's arrays. -/
theorem pre_facts : Cert.Pre_finite_scores_KernelIdeal.Facts := ⟨by decide, by decide, by decide⟩
/-- The side conditions of the precondition over the whole arrays. -/
theorem pre_facts_whole : Cert.Pre_finite_scores_ReferenceIdeal.Facts := ⟨by decide, by decide, by decide⟩

/-- An entry that both comparisons let through is real. -/
theorem isReal_of_mask {z lo hi : EReal} (hlo : lo = ⊥) (hhi : hi = ⊤)
    (h : IntOp.andi (FloatOps.cmpf (F := Ideal) (φ := .f32) .olt lo z) (FloatOps.cmpf (F := Ideal) (φ := .f32) .olt z hi) = 1#1) : IsReal z := by
  subst hlo hhi
  have hc : ∀ a b : EReal, ¬ a < b → FloatOps.cmpf (F := Ideal) (φ := .f32) .olt a b = 0#1 := fun a b hn => by
    show BitVec.ofBool (decide (a < b)) = 0#1
    rw [decide_eq_false hn]; rfl
  refine isReal_of_lt ?_ ?_
  · by_contra hn
    rw [hc _ _ hn] at h
    revert h; generalize FloatOps.cmpf (F := Ideal) (φ := .f32) .olt z ⊤ = r; revert r; decide
  · by_contra hn
    rw [hc _ _ hn] at h
    revert h; generalize FloatOps.cmpf (F := Ideal) (φ := .f32) .olt ⊥ z = r; revert r; decide

open Cert.Pre_finite_scores_KernelIdeal

/-- The rows are real. -/
theorem pre_x (hP : Facts) (x : FVec Ideal S4x256x1024 .f32) (wq wo : FVec Ideal S1024x1024 .f32) (K V : FVec Ideal S4x1024x8x128 .f32)
    (h : (fn x wq wo K V).1 = fun _ => 1#1) (i : S4x256x1024.Idx) : IsReal (x i) :=
  isReal_of_mask const_bot const_top (congrFun h i)
/-- The query weights are real. -/
theorem pre_wq (hP : Facts) (x : FVec Ideal S4x256x1024 .f32) (wq wo : FVec Ideal S1024x1024 .f32) (K V : FVec Ideal S4x1024x8x128 .f32)
    (h : (fn x wq wo K V).2.1 = fun _ => 1#1) (i : S1024x1024.Idx) : IsReal (wq i) :=
  isReal_of_mask const_bot const_top (congrFun h i)
/-- The keys are real. -/
theorem pre_K (hP : Facts) (x : FVec Ideal S4x256x1024 .f32) (wq wo : FVec Ideal S1024x1024 .f32) (K V : FVec Ideal S4x1024x8x128 .f32)
    (h : (fn x wq wo K V).2.2 = fun _ => 1#1) (i : S4x1024x8x128.Idx) : IsReal (K i) :=
  isReal_of_mask const_bot const_top (congrFun h i)

end Cert.Proof

end
-- ==== Proof.KerPoints.lean ====
/- What the kernel computes on tiles, read at an index, over the extended reals; and then every buffer of the run read
   at an index, in terms of the buffers of the stage before. -/
module

public import proofs.«01_k».proof.Proof.Values
public import Idealize.ShloMosaic.Lib.Pointwise

@[expose] public section

set_option maxRecDepth 16384

noncomputable section

namespace Cert.KernelIdeal.Body

open Idealize.ShloMosaic Idealize.ShloMosaic.TcCoe Idealize.SL.Sem
open Cert.KernelIdeal.Gen
open scoped BigOperators

/-! ## The terms of the body -/

section Terms

/-- The scaled queries. -/
theorem pay3_apply (x : S1x256x1024.Idx → EReal) (w : S1024x1024.Idx → EReal) (i : Fin 256) (e : Fin 1024) :
    (k0_pay3 (F := Ideal) x w (ix3 (0 : Fin 1) i e) : EReal) = (∑ k : Fin 1024, x (ix3 (0 : Fin 1) i k) * w (ix2 k e)) * Ideal.ofBits .f32 0x3DB504F3#32 := by
  pointwise [k0_pay3]
/-- Rounding changes nothing. -/
theorem pay2_apply (w : S1024x1024.Idx → EReal) (i e : Fin 1024) : (k0_pay2 (F := Ideal) w (ix2 i e) : EReal) = w (ix2 i e) := by
  pointwise [k0_pay2]
/-- A tile's greatest scores. -/
theorem pay10_apply (q : S1x256x128.Idx → EReal) (k : S1x1024x128.Idx → EReal) (i : Fin 256) :
    (k0_pay10 (F := Ideal) q k (ix3 (0 : Fin 1) i (0 : Fin 1)) : EReal) = (Finset.univ : Finset (Fin 1024)).fold max (Ideal.ofBits .f32 0xFF800000#32)
      (fun j => ∑ e : Fin 128, q (ix3 (0 : Fin 1) i e) * k (ix3 (0 : Fin 1) j e)) := by
  pointwise [k0_pay10, k0_pay5, k0_pay4]
/-- A tile's sums of weights. -/
theorem pay11_apply (q : S1x256x128.Idx → EReal) (k : S1x1024x128.Idx → EReal) (i : Fin 256) :
    (k0_pay11 (F := Ideal) q k (ix3 (0 : Fin 1) i (0 : Fin 1)) : EReal) = ∑ j : Fin 1024, Ideal.exp ((∑ e : Fin 128, q (ix3 (0 : Fin 1) i e) * k (ix3 (0 : Fin 1) j e))
      - (Finset.univ : Finset (Fin 1024)).fold max (Ideal.ofBits .f32 0xFF800000#32)
        (fun j => ∑ e : Fin 128, q (ix3 (0 : Fin 1) i e) * k (ix3 (0 : Fin 1) j e))) := by
  pointwise [k0_pay11, k0_pay6, k0_pay5, k0_pay4]
/-- A tile's weighted sums of values. -/
theorem pay8_apply (q : S1x256x128.Idx → EReal) (k v : S1x1024x128.Idx → EReal) (i : Fin 256) (d : Fin 128) :
    (k0_pay8 (F := Ideal) q k v (ix3 (0 : Fin 1) i d) : EReal) = ∑ j : Fin 1024, Ideal.exp ((∑ e : Fin 128, q (ix3 (0 : Fin 1) i e) * k (ix3 (0 : Fin 1) j e))
      - (Finset.univ : Finset (Fin 1024)).fold max (Ideal.ofBits .f32 0xFF800000#32)
        (fun j => ∑ e : Fin 128, q (ix3 (0 : Fin 1) i e) * k (ix3 (0 : Fin 1) j e))) * v (ix3 (0 : Fin 1) j d) := by
  pointwise [k0_pay8, k0_pay7, k0_pay6, k0_pay5, k0_pay4]
/-- The same, rounded. -/
theorem pay9_apply (q : S1x256x128.Idx → EReal) (k v : S1x1024x128.Idx → EReal) (i : Fin 256) (d : Fin 128) :
    (k0_pay9 (F := Ideal) q k v (ix3 (0 : Fin 1) i d) : EReal) = ∑ j : Fin 1024, Ideal.exp ((∑ e : Fin 128, q (ix3 (0 : Fin 1) i e) * k (ix3 (0 : Fin 1) j e))
      - (Finset.univ : Finset (Fin 1024)).fold max (Ideal.ofBits .f32 0xFF800000#32)
        (fun j => ∑ e : Fin 128, q (ix3 (0 : Fin 1) i e) * k (ix3 (0 : Fin 1) j e))) * v (ix3 (0 : Fin 1) j d) := by
  pointwise [k0_pay9, k0_pay7, k0_pay6, k0_pay5, k0_pay4]

variable (a : S1x256x16.Idx → EReal) (r : S1x1x256x16.Idx → EReal) (i : Fin 256) (h : Fin 8)

/-- The merged maximum of head `h`. -/
def mx : EReal := max (a (ix3 (0 : Fin 1) i (⟨h.val, by omega⟩ : Fin 16))) (r (ix4 (0 : Fin 1) (0 : Fin 1) i (⟨h.val, by omega⟩ : Fin 16)))
/-- The merged sum of head `h`. -/
def sm : EReal := a (ix3 (0 : Fin 1) i (⟨8 + h.val, by omega⟩ : Fin 16)) * Ideal.exp (a (ix3 (0 : Fin 1) i (⟨h.val, by omega⟩ : Fin 16)) - mx a r i h)
  + r (ix4 (0 : Fin 1) (0 : Fin 1) i (⟨8 + h.val, by omega⟩ : Fin 16)) * Ideal.exp (r (ix4 (0 : Fin 1) (0 : Fin 1) i (⟨h.val, by omega⟩ : Fin 16)) - mx a r i h)

theorem newM_apply : (as8 (F := Ideal) (newM a r) (ix3 (0 : Fin 1) i h) : EReal) = mx a r i h := by
  pointwise [as8, newM, ownM, rcvM, mx]
theorem newL_apply : (as8 (F := Ideal) (newL a r) (ix3 (0 : Fin 1) i h) : EReal) = sm a r i h := by
  pointwise [as8, wgtA, wgtB, newL, newM, ownM, ownL, rcvM, rcvL, sm, mx]
theorem wgtA_apply : (as8 (F := Ideal) (wgtA a r) (ix3 (0 : Fin 1) i h) : EReal) = Ideal.exp (a (ix3 (0 : Fin 1) i (⟨h.val, by omega⟩ : Fin 16)) - mx a r i h) := by
  pointwise [as8, wgtA, newM, ownM, rcvM, mx]
theorem wgtB_apply : (as8 (F := Ideal) (wgtB a r) (ix3 (0 : Fin 1) i h) : EReal)
    = Ideal.exp (r (ix4 (0 : Fin 1) (0 : Fin 1) i (⟨h.val, by omega⟩ : Fin 16)) - mx a r i h) := by
  pointwise [as8, wgtB, newM, ownM, rcvM, mx]
theorem divA_apply : (as8 (F := Ideal) (divf (wgtA a r) (newL a r)) (ix3 (0 : Fin 1) i h) : EReal)
    = Ideal.div (Ideal.exp (a (ix3 (0 : Fin 1) i (⟨h.val, by omega⟩ : Fin 16)) - mx a r i h)) (sm a r i h) := by
  pointwise [as8, wgtA, wgtB, newL, newM, ownM, ownL, rcvM, rcvL, sm, mx]
theorem divB_apply : (as8 (F := Ideal) (divf (wgtB a r) (newL a r)) (ix3 (0 : Fin 1) i h) : EReal)
    = Ideal.div (Ideal.exp (r (ix4 (0 : Fin 1) (0 : Fin 1) i (⟨h.val, by omega⟩ : Fin 16)) - mx a r i h)) (sm a r i h) := by
  pointwise [as8, wgtA, wgtB, newL, newM, ownM, ownL, rcvM, rcvL, sm, mx]

/-- A merged tile. -/
theorem mixF_apply (o : S1x256x128.Idx → EReal) (wa wb : S1x256x1.Idx → EReal) (t : S1x1x256x128.Idx → EReal) (d : Fin 128) :
    (tileF (F := Ideal) (mix o wa t wb) (ix3 (0 : Fin 1) i d) : EReal)
      = o (ix3 (0 : Fin 1) i d) * wa (ix3 (0 : Fin 1) i (0 : Fin 1)) + t (ix4 (0 : Fin 1) (0 : Fin 1) i d) * wb (ix3 (0 : Fin 1) i (0 : Fin 1)) := by
  pointwise [tileF, mix]
theorem mixB_apply (o : S1x256x128.Idx → EReal) (wa wb : S1x256x1.Idx → EReal) (t : S1x1x256x128.Idx → EReal) (d : Fin 128) :
    (tileB (F := Ideal) (mix o wa t wb) (ix3 (0 : Fin 1) i d) : EReal)
      = o (ix3 (0 : Fin 1) i d) * wa (ix3 (0 : Fin 1) i (0 : Fin 1)) + t (ix4 (0 : Fin 1) (0 : Fin 1) i d) * wb (ix3 (0 : Fin 1) i (0 : Fin 1)) := by
  pointwise [tileB, mix]
/-- The projected row. -/
theorem proj_apply (q : S1x256x1024.Idx → EReal) (w : S1024x1024.Idx → EReal) (e : Fin 1024) :
    (proj (F := Ideal) q w (ix3 (0 : Fin 1) i e) : EReal) = ∑ k : Fin 1024, q (ix3 (0 : Fin 1) i k) * w (ix2 k e) := by
  pointwise [proj, k0_pay1, k0_pay560]

end Terms

end Cert.KernelIdeal.Body

end
-- ==== Proof.KerValues.lean ====
/- Every buffer of the run read at an index, over the extended reals, in terms of the buffers of the stage before. -/
module

public import proofs.«01_k».proof.Proof.KerPoints

@[expose] public section

noncomputable section

namespace Cert.KernelIdeal.Body

open Idealize.ShloMosaic Idealize.ShloMosaic.TcCoe Idealize.SL.Sem
open Cert.KernelIdeal.Gen
open scoped BigOperators

/-- Column `d` of head `h`. -/
def headCol (h : Fin 8) (d : Fin 128) : Fin 1024 := ⟨128 * h.val + d.val, by omega⟩
/-- Where head `h` keeps its maximum. -/
def maxCol (h : Fin 8) : Fin 16 := ⟨h.val, by omega⟩
/-- Where head `h` keeps its sum. -/
def sumCol (h : Fin 8) : Fin 16 := ⟨8 + h.val, by omega⟩

section Blocks
variable {α : Type}

theorem sub_row_apply (f : S4x256x1024.Idx → α) (b : Fin 4) (i : Fin 256) (e : Fin 1024) : sub (rowR b) f (ix3 (0 : Fin 1) i e) = f (ix3 b i e) :=
  congrArg f (row_emb b (ix3 (0 : Fin 1) i e))
theorem sub_tile_apply (f : S4x256x1024.Idx → α) (b : Fin 4) (h : Fin 8) (i : Fin 256) (d : Fin 128) :
    sub (tileR b h) f (ix3 (0 : Fin 1) i d) = f (ix3 b i (headCol h d)) :=
  congrArg f (tile_emb b h (ix3 (0 : Fin 1) i d))
theorem sub_mlrow_apply (f : S4x256x16.Idx → α) (b : Fin 4) (i : Fin 256) (j : Fin 16) : sub (mlrowR b) f (ix3 (0 : Fin 1) i j) = f (ix3 b i j) :=
  congrArg f (mlrow_emb b (ix3 (0 : Fin 1) i j))
theorem sub_col_apply (f : S4x256x16.Idx → α) (b : Fin 4) (j : Fin 16) (i : Fin 256) :
    sub (colR b j) f (ix3 (0 : Fin 1) i (0 : Fin 1)) = f (ix3 b i j) :=
  congrArg f (col_emb b j (ix3 (0 : Fin 1) i (0 : Fin 1)))
theorem rowFn_apply (P : Fin 4 → S1x256x1024.Idx → α) (b : Fin 4) (i : Fin 256) (e : Fin 1024) : rowFn P (ix3 b i e) = P b (ix3 (0 : Fin 1) i e) := rfl
theorem colFn_apply (P : Fin 4 → Fin 16 → S1x256x1.Idx → α) (b : Fin 4) (j : Fin 16) (i : Fin 256) :
    colFn P (ix3 b i j) = P b j (ix3 (0 : Fin 1) i (0 : Fin 1)) := rfl
theorem tileFn_apply (P : Fin 4 → Fin 8 → S1x256x128.Idx → α) (b : Fin 4) (h : Fin 8) (i : Fin 256) (d : Fin 128) :
    tileFn P (ix3 b i (headCol h d)) = P b h (ix3 (0 : Fin 1) i d) :=
  (sub_tile_apply (tileFn P) b h i d).symm.trans (congrFun (sub_tileFn P b h) _)
theorem halfFn_max (P : Fin 4 → Fin 2 → S1x256x8.Idx → α) (b : Fin 4) (h : Fin 8) (i : Fin 256) :
    halfFn P (ix3 b i (maxCol h)) = P b 0 (ix3 (0 : Fin 1) i h) := by
  have e : (halfR b 0).emb (ix3 (0 : Fin 1) i h) = ix3 b i (maxCol h) :=
    (half_emb b 0 (ix3 (0 : Fin 1) i h)).trans (congrArg (ix3 b i) (Fin.ext (by show 8 * 0 + h.val = h.val; omega)))
  rw [← e]; exact congrFun (sub_halfFn P b 0) (ix3 (0 : Fin 1) i h)
theorem halfFn_sum (P : Fin 4 → Fin 2 → S1x256x8.Idx → α) (b : Fin 4) (h : Fin 8) (i : Fin 256) :
    halfFn P (ix3 b i (sumCol h)) = P b 1 (ix3 (0 : Fin 1) i h) := by
  have e : (halfR b 1).emb (ix3 (0 : Fin 1) i h) = ix3 b i (sumCol h) :=
    (half_emb b 1 (ix3 (0 : Fin 1) i h)).trans (congrArg (ix3 b i) (Fin.ext (by show 8 * 1 + h.val = 8 + h.val; omega)))
  rw [← e]; exact congrFun (sub_halfFn P b 1) (ix3 (0 : Fin 1) i h)

end Blocks

variable (I : Dev nD → In Ideal) (c : Dev nD)

/-- The device's rows, as extended reals, -/
def xE : S4x256x1024.Idx → EReal := (I c).x
/-- its query weights, -/
def wqE : S1024x1024.Idx → EReal := (I c).wq
/-- its output weights, -/
def woE : S1024x1024.Idx → EReal := (I c).wo
/-- its keys, -/
def kE : S4x1024x8x128.Idx → EReal := (I c).K
/-- its values. -/
def vE : S4x1024x8x128.Idx → EReal := (I c).V

/-- The scaled query of row `i` of batch row `b`, column `e`. -/
def qK (b : Fin 4) (i : Fin 256) (e : Fin 1024) : EReal := (∑ k : Fin 1024, xE I c (ix3 b i k) * wqE I c (ix2 k e)) * Ideal.ofBits .f32 0x3DB504F3#32
/-- The score of query `i` and the device's key `j`. -/
def sK (b : Fin 4) (h : Fin 8) (i : Fin 256) (j : Fin 1024) : EReal := ∑ e : Fin 128, qK I c b i (headCol h e) * kE I c (ix4 b j h e)
/-- The greatest score of query `i` on the device. -/
def mK (b : Fin 4) (h : Fin 8) (i : Fin 256) : EReal := (Finset.univ : Finset (Fin 1024)).fold max (Ideal.ofBits .f32 0xFF800000#32) (sK I c b h i)
/-- The device's sum of weights of query `i`. -/
def lK (b : Fin 4) (h : Fin 8) (i : Fin 256) : EReal := ∑ j : Fin 1024, Ideal.exp (sK I c b h i j - mK I c b h i)
/-- The device's weighted sum of values of query `i`. -/
def oK (b : Fin 4) (h : Fin 8) (i : Fin 256) (d : Fin 128) : EReal := ∑ j : Fin 1024, Ideal.exp (sK I c b h i j - mK I c b h i) * vE I c (ix4 b j h d)

variable (b : Fin 4) (h : Fin 8) (i : Fin 256) (d : Fin 128)

theorem Q0_apply (e : Fin 1024) : Q0 I c (ix3 b i e) = qK I c b i e := by
  refine (rowFn_apply _ b i e).trans ((pay3_apply _ _ i e).trans ?_)
  unfold qK
  congr 1
  refine Finset.sum_congr rfl fun k _ => ?_
  rw [sub_row_apply]
  exact congrArg _ (pay2_apply _ k e)

theorem qT_apply (e : Fin 128) : qT I c b h (ix3 (0 : Fin 1) i e) = qK I c b i (headCol h e) :=
  (sub_tile_apply (Q0 I c) b h i e).trans (Q0_apply I c b i (headCol h e))

/-- The scores as the tiles compute them. -/
theorem score_eq (j : Fin 1024) :
    (∑ e : Fin 128, (qT I c b h : S1x256x128.Idx → EReal) (ix3 (0 : Fin 1) i e) * (kB I c b h : S1x1024x128.Idx → EReal) (ix3 (0 : Fin 1) j e)) = sK I c b h i j :=
  Finset.sum_congr rfl fun e _ => congrArg (· * (kB I c b h : S1x1024x128.Idx → EReal) (ix3 (0 : Fin 1) j e)) (qT_apply I c b h i e)

theorem ML0_atMax : ML0 I c (ix3 b i (maxCol h)) = mK I c b h i := by
  refine (colFn_apply _ b (maxCol h) i).trans ?_
  beta_reduce
  rw [dif_pos (show (maxCol h).val < 8 from h.isLt)]
  refine (pay10_apply _ _ i).trans ?_
  unfold mK
  congr 1
  exact funext fun j => score_eq I c b h i j

theorem fold_eq : (Finset.univ : Finset (Fin 1024)).fold max (Ideal.ofBits .f32 0xFF800000#32)
      (fun j => ∑ e : Fin 128, (qT I c b h : S1x256x128.Idx → EReal) (ix3 (0 : Fin 1) i e) * (kB I c b h : S1x1024x128.Idx → EReal) (ix3 (0 : Fin 1) j e)) = mK I c b h i := by
  unfold mK
  congr 1
  exact funext fun j => score_eq I c b h i j

theorem ML0_atSum : ML0 I c (ix3 b i (sumCol h)) = lK I c b h i := by
  refine (colFn_apply _ b (sumCol h) i).trans ?_
  beta_reduce
  rw [dif_neg (show ¬ (sumCol h).val < 8 by show ¬ 8 + h.val < 8; omega)]
  have e : (⟨(sumCol h).val - 8, by have := h.isLt; show 8 + h.val - 8 < 8; omega⟩ : Fin 8) = h := Fin.ext (by show 8 + h.val - 8 = h.val; omega)
  rw [e]
  refine (pay11_apply _ _ i).trans ?_
  rw [fold_eq]
  exact Finset.sum_congr rfl fun j _ => by rw [score_eq]

theorem O0f_apply : O0f I c (ix3 b i (headCol h d)) = oK I c b h i d := by
  refine (tileFn_apply _ b h i d).trans ((pay8_apply _ _ _ i d).trans ?_)
  rw [fold_eq]
  exact Finset.sum_congr rfl fun j _ => by rw [score_eq]; rfl
theorem O0b_apply : O0b I c (ix3 b i (headCol h d)) = oK I c b h i d := by
  refine (tileFn_apply _ b h i d).trans ((pay9_apply _ _ _ i d).trans ?_)
  rw [fold_eq]
  exact Finset.sum_congr rfl fun j _ => by rw [score_eq]; rfl

/-! ## The first merge -/

/-- The maximum merged over the first pair, -/
def mK1 : EReal := max (mK I c b h i) (mK I (par 0 c) b h i)
/-- the sum, -/
def lK1 : EReal := lK I c b h i * Ideal.exp (mK I c b h i - mK1 I c b h i) + lK I (par 0 c) b h i * Ideal.exp (mK I (par 0 c) b h i - mK1 I c b h i)
/-- the weighted sum. -/
def oK1 : EReal := oK I c b h i d * Ideal.exp (mK I c b h i - mK1 I c b h i) + oK I (par 0 c) b h i d * Ideal.exp (mK I (par 0 c) b h i - mK1 I c b h i)

/-- The merged maximum of two buffers, -/
theorem mx_eq (f g : S4x256x16.Idx → Elt Ideal .f32) :
    mx (mlOf f b) (mlRcv g b) i h = max (f (ix3 b i (maxCol h)) : EReal) (g (ix3 b i (maxCol h))) := by
  unfold mx
  exact congrArg (max · (g (ix3 b i (maxCol h)) : EReal)) (sub_mlrow_apply f b i (maxCol h))
/-- and the merged sum. -/
theorem sm_eq (f g : S4x256x16.Idx → Elt Ideal .f32) :
    sm (mlOf f b) (mlRcv g b) i h = (f (ix3 b i (sumCol h)) : EReal) * Ideal.exp ((f (ix3 b i (maxCol h)) : EReal) - mx (mlOf f b) (mlRcv g b) i h)
      + (g (ix3 b i (sumCol h)) : EReal) * Ideal.exp ((g (ix3 b i (maxCol h)) : EReal) - mx (mlOf f b) (mlRcv g b) i h) := by
  have e1 : mlOf f b (ix3 (0 : Fin 1) i (maxCol h)) = f (ix3 b i (maxCol h)) := sub_mlrow_apply f b i (maxCol h)
  have e2 : mlOf f b (ix3 (0 : Fin 1) i (sumCol h)) = f (ix3 b i (sumCol h)) := sub_mlrow_apply f b i (sumCol h)
  rw [← e1, ← e2]; rfl

theorem mx0 : mx (mlOf (ML0 I c) b) (mlRcv (ML0 I (par 0 c)) b) i h = mK1 I c b h i := by
  rw [mx_eq, ML0_atMax, ML0_atMax]; rfl
theorem sm0 : sm (mlOf (ML0 I c) b) (mlRcv (ML0 I (par 0 c)) b) i h = lK1 I c b h i := by
  rw [sm_eq, mx0, ML0_atMax, ML0_atMax, ML0_atSum, ML0_atSum]; rfl

theorem ML1_atMax : ML1 I c (ix3 b i (maxCol h)) = mK1 I c b h i :=
  (halfFn_max _ b h i).trans ((newM_apply _ _ i h).trans (mx0 I c b h i))
theorem ML1_atSum : ML1 I c (ix3 b i (sumCol h)) = lK1 I c b h i :=
  (halfFn_sum _ b h i).trans ((newL_apply _ _ i h).trans (sm0 I c b h i))
theorem A0_own : A0 I c (ix3 b i (maxCol h)) = Ideal.exp (mK I c b h i - mK1 I c b h i) := by
  refine (halfFn_max _ b h i).trans ((wgtA_apply _ _ i h).trans ?_)
  rw [mx0]
  exact congrArg (fun y : EReal => Ideal.exp (y - mK1 I c b h i)) ((sub_mlrow_apply _ b i (maxCol h)).trans (ML0_atMax I c b h i))
theorem A0_rcv : A0 I c (ix3 b i (sumCol h)) = Ideal.exp (mK I (par 0 c) b h i - mK1 I c b h i) := by
  refine (halfFn_sum _ b h i).trans ((wgtB_apply _ _ i h).trans ?_)
  rw [mx0]
  exact congrArg (fun y : EReal => Ideal.exp (y - mK1 I c b h i)) (ML0_atMax I (par 0 c) b h i)

/-- A merged tile of two buffers. -/
theorem mix_eq (f : S4x256x1024.Idx → EReal) (g : S4x256x1024.Idx → EReal) (a : S4x256x16.Idx → EReal) :
    (sub (tileR b h) f (ix3 (0 : Fin 1) i d)) * (wA (F := Ideal) a b h : S1x256x1.Idx → EReal) (ix3 (0 : Fin 1) i (0 : Fin 1))
      + (tRcv (F := Ideal) g b h : S1x1x256x128.Idx → EReal) (ix4 (0 : Fin 1) (0 : Fin 1) i d) * (wB (F := Ideal) a b h : S1x256x1.Idx → EReal) (ix3 (0 : Fin 1) i (0 : Fin 1))
      = f (ix3 b i (headCol h d)) * a (ix3 b i (maxCol h)) + g (ix3 b i (headCol h d)) * a (ix3 b i (sumCol h)) := by
  have e1 : (wA (F := Ideal) a b h : S1x256x1.Idx → EReal) (ix3 (0 : Fin 1) i (0 : Fin 1)) = a (ix3 b i (maxCol h)) := sub_col_apply a b (maxCol h) i
  have e2 : (wB (F := Ideal) a b h : S1x256x1.Idx → EReal) (ix3 (0 : Fin 1) i (0 : Fin 1)) = a (ix3 b i (sumCol h)) := sub_col_apply a b (sumCol h) i
  rw [e1, e2, sub_tile_apply]; rfl

theorem O1f_apply : O1f I c (ix3 b i (headCol h d)) = oK1 I c b h i d := by
  refine (tileFn_apply _ b h i d).trans ((mixF_apply i _ _ _ _ d).trans ((mix_eq b h i d _ _ _).trans ?_))
  rw [O0f_apply, O0b_apply, A0_own, A0_rcv]; rfl
theorem O1b_apply : O1b I c (ix3 b i (headCol h d)) = oK1 I c b h i d := by
  refine (tileFn_apply _ b h i d).trans ((mixB_apply i _ _ _ _ d).trans ((mix_eq b h i d _ _ _).trans ?_))
  rw [O0f_apply, O0b_apply, A0_own, A0_rcv]; rfl

/-! ## The second merge and the projection -/

/-- The maximum merged over all devices, -/
def mK2 : EReal := max (mK1 I c b h i) (mK1 I (par 1 c) b h i)
/-- the sum, -/
def lK2 : EReal := lK1 I c b h i * Ideal.exp (mK1 I c b h i - mK2 I c b h i) + lK1 I (par 1 c) b h i * Ideal.exp (mK1 I (par 1 c) b h i - mK2 I c b h i)
/-- the normalised output. -/
def oK2 : EReal := oK1 I c b h i d * Ideal.div (Ideal.exp (mK1 I c b h i - mK2 I c b h i)) (lK2 I c b h i)
  + oK1 I (par 1 c) b h i d * Ideal.div (Ideal.exp (mK1 I (par 1 c) b h i - mK2 I c b h i)) (lK2 I c b h i)

theorem mx1 : mx (mlOf (ML1 I c) b) (mlRcv (ML1 I (par 1 c)) b) i h = mK2 I c b h i := by
  rw [mx_eq, ML1_atMax, ML1_atMax]; rfl
theorem sm1 : sm (mlOf (ML1 I c) b) (mlRcv (ML1 I (par 1 c)) b) i h = lK2 I c b h i := by
  rw [sm_eq, mx1, ML1_atMax, ML1_atMax, ML1_atSum, ML1_atSum]; rfl

theorem A1_own : A1 I c (ix3 b i (maxCol h)) = Ideal.div (Ideal.exp (mK1 I c b h i - mK2 I c b h i)) (lK2 I c b h i) := by
  refine (halfFn_max _ b h i).trans ((divA_apply _ _ i h).trans ?_)
  rw [mx1, sm1]
  exact congrArg (fun y : EReal => Ideal.div (Ideal.exp (y - mK2 I c b h i)) (lK2 I c b h i)) ((sub_mlrow_apply _ b i (maxCol h)).trans (ML1_atMax I c b h i))
theorem A1_rcv : A1 I c (ix3 b i (sumCol h)) = Ideal.div (Ideal.exp (mK1 I (par 1 c) b h i - mK2 I c b h i)) (lK2 I c b h i) := by
  refine (halfFn_sum _ b h i).trans ((divB_apply _ _ i h).trans ?_)
  rw [mx1, sm1]
  exact congrArg (fun y : EReal => Ideal.div (Ideal.exp (y - mK2 I c b h i)) (lK2 I c b h i)) (ML1_atMax I (par 1 c) b h i)

theorem O2b_apply : O2b I c (ix3 b i (headCol h d)) = oK2 I c b h i d := by
  refine (tileFn_apply _ b h i d).trans ((mixB_apply i _ _ _ _ d).trans ((mix_eq b h i d _ _ _).trans ?_))
  rw [O1f_apply, O1b_apply, A1_own, A1_rcv]; rfl

/-- The result, read at an index. -/
theorem OUT_apply (e : Fin 1024) : OUT I c (ix3 b i e)
    = ∑ k : Fin 1024, oK2 I c b (⟨k.val / 128, by omega⟩ : Fin 8) i (⟨k.val % 128, by omega⟩ : Fin 128) * woE I c (ix2 k e) := by
  refine (rowFn_apply _ b i e).trans ((proj_apply i _ _ e).trans (Finset.sum_congr rfl fun k _ => ?_))
  have ek : headCol (⟨k.val / 128, by omega⟩ : Fin 8) (⟨k.val % 128, by omega⟩ : Fin 128) = k := Fin.ext (by show 128 * (k.val / 128) + k.val % 128 = k.val; omega)
  have e1 : sub (rowR b) (O2b I c) (ix3 (0 : Fin 1) i k) = oK2 I c b (⟨k.val / 128, by omega⟩ : Fin 8) i (⟨k.val % 128, by omega⟩ : Fin 128) := by
    rw [sub_row_apply, ← O2b_apply, ek]
  have e2 : woB I c (ix2 k e) = woE I c (ix2 k e) := pay2_apply _ k e
  rw [e1, e2]

end Cert.KernelIdeal.Body

end
-- ==== Proof.KerSoftmax.lean ====
/- The kernel's normalised outputs over the extended reals: at real scores each is the normalised output of the four
   devices' keys together. -/
module

public import proofs.«01_k».proof.Proof.KerValues
public import proofs.«01_k».proof.Proof.Consts

@[expose] public section

noncomputable section

namespace Cert.KernelIdeal.Body

open Idealize.ShloMosaic Cert.Softmax
open scoped BigOperators

variable (I : Dev nD → In Ideal) (b : Fin 4) (h : Fin 8) (i : Fin 256) (d : Fin 128)

/-- One column of a device's values. -/
def vcol (c : Dev nD) : Fin 1024 → EReal := fun j => vE I c (ix4 b j h d)

variable (s : Dev nD → Fin 1024 → ℝ) (hs : ∀ c j, sK I c b h i j = ((s c j : ℝ) : EReal))
include hs

/-- A device's own state. -/
theorem own_state (c : Dev nD) : State (W (s c)) (N (s c) (vcol I b h d c)) (mK I c b h i) (lK I c b h i) (oK I c b h i d) := by
  have hm : mK I c b h i = (Finset.univ : Finset (Fin 1024)).fold max (⊥ : EReal) (fun j => ((s c j : ℝ) : EReal)) := by
    unfold mK
    rw [const_bot]
    congr 1
    exact funext (hs c)
  have key := state_block (s c) (vcol I b h d c) hm
  unfold lK oK
  simp only [hs]
  exact key

/-- A pair's state. -/
theorem pair_state (c : Dev nD) :
    State (W (s c) + W (s (par 0 c))) (N (s c) (vcol I b h d c) + N (s (par 0 c)) (vcol I b h d (par 0 c))) (mK1 I c b h i) (lK1 I c b h i) (oK1 I c b h i d) :=
  State.merge (part_block _ _) (part_block _ _) (own_state I b h i d s hs c) (own_state I b h i d s hs (par 0 c))

/-- The normalised output, by the order in which the devices' parts are merged. -/
theorem merged (c : Dev nD) :
    oK2 I c b h i d = quot ((W (s c) + W (s (par 0 c))) + (W (s (par 1 c)) + W (s (par 0 (par 1 c)))))
      ((N (s c) (vcol I b h d c) + N (s (par 0 c)) (vcol I b h d (par 0 c)))
        + (N (s (par 1 c)) (vcol I b h d (par 1 c)) + N (s (par 0 (par 1 c))) (vcol I b h d (par 0 (par 1 c))))) :=
  State.mergeDiv ((part_block _ _).add (part_block _ _)) ((part_block _ _).add (part_block _ _))
    (pair_state I b h i d s hs c) (pair_state I b h i d s hs (par 1 c))

omit hs in
/-- The four devices that a device's result takes in are all of them. -/
theorem four {A : Type} [AddCommMonoid A] (f : Dev nD → A) (c : Dev nD) :
    (f c + f (par 0 c)) + (f (par 1 c) + f (par 0 (par 1 c))) = ((f (0 : Fin 4) + f (1 : Fin 4)) + f (2 : Fin 4)) + f (3 : Fin 4) := by
  have hc : c = (0 : Fin 4) ∨ c = (1 : Fin 4) ∨ c = (2 : Fin 4) ∨ c = (3 : Fin 4) := by revert c; decide
  rcases hc with rfl | rfl | rfl | rfl
  · rw [show par 0 (0 : Fin 4) = (1 : Fin 4) by decide, show par 1 (0 : Fin 4) = (3 : Fin 4) by decide, show par 0 (3 : Fin 4) = (2 : Fin 4) by decide]; abel
  · rw [show par 0 (1 : Fin 4) = (0 : Fin 4) by decide, show par 1 (1 : Fin 4) = (2 : Fin 4) by decide, show par 0 (2 : Fin 4) = (3 : Fin 4) by decide]; abel
  · rw [show par 0 (2 : Fin 4) = (3 : Fin 4) by decide, show par 1 (2 : Fin 4) = (1 : Fin 4) by decide, show par 0 (1 : Fin 4) = (0 : Fin 4) by decide]; abel
  · rw [show par 0 (3 : Fin 4) = (2 : Fin 4) by decide, show par 1 (3 : Fin 4) = (0 : Fin 4) by decide, show par 0 (0 : Fin 4) = (1 : Fin 4) by decide]; abel

/-- The normalised output is that of all four devices' keys. -/
theorem oK2_eq (c : Dev nD) :
    oK2 I c b h i d = quot (((W (s (0 : Fin 4)) + W (s (1 : Fin 4))) + W (s (2 : Fin 4))) + W (s (3 : Fin 4)))
      (((N (s (0 : Fin 4)) (vcol I b h d (0 : Fin 4)) + N (s (1 : Fin 4)) (vcol I b h d (1 : Fin 4))) + N (s (2 : Fin 4)) (vcol I b h d (2 : Fin 4)))
        + N (s (3 : Fin 4)) (vcol I b h d (3 : Fin 4))) := by
  rw [merged I b h i d s hs c]
  congr 1
  · exact four (fun c => W (s c)) c
  · exact four (fun c => N (s c) (vcol I b h d c)) c

end Cert.KernelIdeal.Body

end
-- ==== Proof.RefSteps.lean ====
/- The reference's result taken apart: its queries, and the step by which its running maxima, sums and outputs take
   up one block of keys and values; and what each reads at an index, over the extended reals. -/
module

public import proofs.«01_k».proof.Proof.Gen.ReferenceIdeal.Run
public import Idealize.ShloMosaic.Lib.Pointwise

@[expose] public section

set_option maxRecDepth 16384

noncomputable section

namespace Cert.ReferenceIdeal.Steps

open Cert.ReferenceIdeal Cert.ReferenceIdeal.Gen Idealize.ShloMosaic Idealize.ShloMosaic.TcCoe Idealize.SL.Sem
open scoped BigOperators

variable {F : FTy → Type} [FloatOps F]

/-! ## The terms -/

/-- The queries, by head. -/
def queries (x : FVec F S4x256x1024 .f32) (wq : FVec F S1024x1024 .f32) : FVec F S4x256x8x128 .f32 :=
  shapeCast S4x256x8x128 (Host.dotGeneral dot_S4x256x1024_S1024x1024_S4x256x1024_2_0_01_1_n_n none x wq) shapeCasts_S4x256x1024_S4x256x8x128
/-- Block `c` of the keys or of the values. -/
def part0 (K : FVec F S4x4096x8x128 .f32) : FVec F S4x1024x8x128 .f32 := extractStridedSlice S4x1024x8x128 ![0, 0, 0, 0] K slices_S4x4096x8x128_S4x1024x8x128_0_0_0_0
def part1 (K : FVec F S4x4096x8x128 .f32) : FVec F S4x1024x8x128 .f32 := extractStridedSlice S4x1024x8x128 ![0, 1024, 0, 0] K slices_S4x4096x8x128_S4x1024x8x128_0_1024_0_0
def part2 (K : FVec F S4x4096x8x128 .f32) : FVec F S4x1024x8x128 .f32 := extractStridedSlice S4x1024x8x128 ![0, 2048, 0, 0] K slices_S4x4096x8x128_S4x1024x8x128_0_2048_0_0
def part3 (K : FVec F S4x4096x8x128 .f32) : FVec F S4x1024x8x128 .f32 := extractStridedSlice S4x1024x8x128 ![0, 3072, 0, 0] K slices_S4x4096x8x128_S4x1024x8x128_0_3072_0_0
/-- The scaled scores of a block of keys. -/
def scores (q : FVec F S4x256x8x128 .f32) (K : FVec F S4x1024x8x128 .f32) : FVec F S4x8x256x1024 .f32 :=
  mulf (Host.dotGeneral dot_S4x256x8x128_S4x1024x8x128_S4x8x256x1024_3_3_1_1_02_02 none q K)
    (broadcastInDim S4x8x256x1024 ![] bcast_S_S4x8x256x1024 (constant S_ .f32 0x3DB504F3#32))
/-- The new running maxima. -/
def maxN (m : FVec F S4x8x256x1 .f32) (s : FVec F S4x8x256x1024 .f32) : FVec F S4x8x256x1 .f32 :=
  maximumf m (broadcastInDim S4x8x256x1 ![0, 1, 2] bcast_S4x8x256_S4x8x256x1_0_1_2
    (Host.reduce FloatOps.maximumf s (constant S_ .f32 0xFF800000#32) reducesTo_S4x8x256x1024_S4x8x256_d3 h_S_))
/-- The factor by which what was accumulated is rescaled. -/
def factor (m m' : FVec F S4x8x256x1 .f32) : FVec F S4x8x256x1 .f32 := Host.exp (subf m m')
/-- The weights of a block of keys. -/
def weights (s : FVec F S4x8x256x1024 .f32) (m' : FVec F S4x8x256x1 .f32) : FVec F S4x8x256x1024 .f32 :=
  Host.exp (subf s (broadcastInDim S4x8x256x1024 ![0, 1, 2, 3] bcast_S4x8x256x1_S4x8x256x1024_0_1_2_3 m'))
/-- The new running sums. -/
def sumN (l a : FVec F S4x8x256x1 .f32) (p : FVec F S4x8x256x1024 .f32) : FVec F S4x8x256x1 .f32 :=
  addf (mulf l a) (broadcastInDim S4x8x256x1 ![0, 1, 2] bcast_S4x8x256_S4x8x256x1_0_1_2
    (Host.reduceAdd p (constant S_ .f32 0x00000000#32) reducesTo_S4x8x256x1024_S4x8x256_d3 h_S_))
/-- A column per query, spread over a head's dimensions. -/
def spread (a : FVec F S4x8x256x1 .f32) : FVec F S4x256x8x128 .f32 :=
  broadcastInDim S4x256x8x128 ![0, 1, 2, 3] bcast_S4x256x8x1_S4x256x8x128_0_1_2_3 (transpose S4x256x8x1 [0, 2, 1, 3] a transposes_S4x8x256x1_S4x256x8x1_0_2_1_3)
/-- The new running outputs. -/
def outN (o : FVec F S4x256x8x128 .f32) (a : FVec F S4x8x256x1 .f32) (V : FVec F S4x1024x8x128 .f32) (p : FVec F S4x8x256x1024 .f32) : FVec F S4x256x8x128 .f32 :=
  addf (mulf o (spread a))
    (transpose S4x256x8x128 [0, 3, 1, 2] (Host.dotGeneral dot_S4x1024x8x128_S4x8x256x1024_S4x8x128x256_1_3_3_2_02_01 none V p) transposes_S4x8x128x256_S4x256x8x128_0_3_1_2)
/-- The normalised outputs, projected. -/
def final (o : FVec F S4x256x8x128 .f32) (l : FVec F S4x8x256x1 .f32) (wo : FVec F S1024x1024 .f32) : FVec F S4x256x1024 .f32 :=
  Host.dotGeneral dot_S4x256x1024_S1024x1024_S4x256x1024_2_0_01_1_n_n none (shapeCast S4x256x1024 (Host.divf o (spread l)) shapeCasts_S4x256x8x128_S4x256x1024) wo

/-- The running maxima before the first block, -/
def m0 : FVec F S4x8x256x1 .f32 := broadcastInDim S4x8x256x1 ![] bcast_S_S4x8x256x1 (constant S_ .f32 0xFF800000#32)
/-- the running sums, -/
def l0 : FVec F S4x8x256x1 .f32 := broadcastInDim S4x8x256x1 ![] bcast_S_S4x8x256x1 (constant S_ .f32 0x00000000#32)
/-- and the running outputs. -/
def o0 : FVec F S4x256x8x128 .f32 := broadcastInDim S4x256x8x128 ![] bcast_S_S4x256x8x128 (constant S_ .f32 0x00000000#32)

/-- A running state: maxima, sums, outputs. -/
structure St (F : FTy → Type) [FloatOps F] where
  /-- The running maxima. -/
  m : FVec F S4x8x256x1 .f32
  /-- The running sums. -/
  l : FVec F S4x8x256x1 .f32
  /-- The running outputs. -/
  o : FVec F S4x256x8x128 .f32

/-- The state takes up a block of keys and values. -/
def St.step (t : St F) (q : FVec F S4x256x8x128 .f32) (K V : FVec F S4x1024x8x128 .f32) : St F where
  m := maxN t.m (scores q K)
  l := sumN t.l (factor t.m (maxN t.m (scores q K))) (weights (scores q K) (maxN t.m (scores q K)))
  o := outN t.o (factor t.m (maxN t.m (scores q K))) V (weights (scores q K) (maxN t.m (scores q K)))

/-- The state after all four blocks. -/
def last (q : FVec F S4x256x8x128 .f32) (K V : FVec F S4x4096x8x128 .f32) : St F :=
  ((((⟨m0, l0, o0⟩ : St F).step q (part0 K) (part0 V)).step q (part1 K) (part1 V)).step q (part2 K) (part2 V)).step q (part3 K) (part3 V)

/-- The reference's result. -/
def result (x : FVec F S4x256x1024 .f32) (wq wo : FVec F S1024x1024 .f32) (K V : FVec F S4x4096x8x128 .f32) : FVec F S4x256x1024 .f32 :=
  final (last (queries x wq) K V).o (last (queries x wq) K V).l wo

/-- The reference computes `result` of its arguments. -/
theorem res_eq (m : (ℓ : Loc nD τ sig) → Buf (Elt F) ℓ) (c : Dev nD) :
    Value.res_main_v101 m c = result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

/-! ## Read at an index, over the extended reals -/

/-- A reduction along the last axis of the scores, read at an index. -/
theorem reduce_apply {α : Type} (f : α → α → α) [Std.Commutative f] [Std.Associative f] (s : S4x8x256x1024.Idx → α) (init : S_.Idx → α)
    (hr : S4x8x256x1024.ReducesTo [3] S4x8x256) (hu : 0 < S_.numel) (b : Fin 4) (h : Fin 8) (i : Fin 256) :
    Host.reduce f s init hr hu (ix3 b h i) = (Finset.univ : Finset (Fin 1024)).fold f (init (Shape.Idx.first hu)) (fun j => s (ix4 b h i j)) :=
  (Host.reduce_eq_fold f s init hr hu (ix3 b h i)).trans (hr.fold_fiber_r4_a3 (ix3 b h i) f _ s)

/-- The greatest score of a query, read at an index. -/
theorem reduce_max_apply (s : FVec Ideal S4x8x256x1024 .f32) (init : FVec Ideal S_ .f32)
    (hr : S4x8x256x1024.ReducesTo [3] S4x8x256) (hu : 0 < S_.numel) (b : Fin 4) (h : Fin 8) (i : Fin 256) :
    Host.reduce FloatOps.maximumf s init hr hu (ix3 b h i) = (Finset.univ : Finset (Fin 1024)).fold max (init (Shape.Idx.first hu)) (fun j => s (ix4 b h i j)) :=
  reduce_apply (α := EReal) max s init hr hu b h i

/-- A column per query, put beside the scores. -/
theorem column_apply (r : FVec Ideal S4x8x256 .f32) (b : Fin 4) (h : Fin 8) (i : Fin 256) :
    broadcastInDim S4x8x256x1 ![0, 1, 2] bcast_S4x8x256_S4x8x256x1_0_1_2 r (ix4 b h i (0 : Fin 1)) = r (ix3 b h i) := by
  pointwise []

/-- The queries. -/
theorem queries_apply (x : FVec Ideal S4x256x1024 .f32) (wq : FVec Ideal S1024x1024 .f32) (b : Fin 4) (i : Fin 256) (h : Fin 8) (e : Fin 128) :
    queries x wq (ix4 b i h e) = ∑ k : Fin 1024, x (ix3 b i k) * wq (ix2 k (⟨h.val * 128 + e.val, by omega⟩ : Fin 1024)) := by
  pointwise [queries]

theorem part0_apply (K : FVec Ideal S4x4096x8x128 .f32) (b : Fin 4) (j : Fin 1024) (h : Fin 8) (e : Fin 128) :
    part0 K (ix4 b j h e) = K (ix4 b (⟨1024 * 0 + j.val, by omega⟩ : Fin 4096) h e) := by
  pointwise [part0]
theorem part1_apply (K : FVec Ideal S4x4096x8x128 .f32) (b : Fin 4) (j : Fin 1024) (h : Fin 8) (e : Fin 128) :
    part1 K (ix4 b j h e) = K (ix4 b (⟨1024 * 1 + j.val, by omega⟩ : Fin 4096) h e) := by
  pointwise [part1]
theorem part2_apply (K : FVec Ideal S4x4096x8x128 .f32) (b : Fin 4) (j : Fin 1024) (h : Fin 8) (e : Fin 128) :
    part2 K (ix4 b j h e) = K (ix4 b (⟨1024 * 2 + j.val, by omega⟩ : Fin 4096) h e) := by
  pointwise [part2]
theorem part3_apply (K : FVec Ideal S4x4096x8x128 .f32) (b : Fin 4) (j : Fin 1024) (h : Fin 8) (e : Fin 128) :
    part3 K (ix4 b j h e) = K (ix4 b (⟨1024 * 3 + j.val, by omega⟩ : Fin 4096) h e) := by
  pointwise [part3]

/-- The scores. -/
theorem scores_apply (q : FVec Ideal S4x256x8x128 .f32) (K : FVec Ideal S4x1024x8x128 .f32) (b : Fin 4) (h : Fin 8) (i : Fin 256) (j : Fin 1024) :
    scores q K (ix4 b h i j) = (∑ e : Fin 128, q (ix4 b i h e) * K (ix4 b j h e)) * Ideal.ofBits .f32 0x3DB504F3#32 := by
  pointwise [scores]

/-- The new maxima. -/
theorem maxN_apply (m : FVec Ideal S4x8x256x1 .f32) (s : FVec Ideal S4x8x256x1024 .f32) (b : Fin 4) (h : Fin 8) (i : Fin 256) :
    maxN m s (ix4 b h i (0 : Fin 1))
      = max (m (ix4 b h i (0 : Fin 1))) ((Finset.univ : Finset (Fin 1024)).fold max (Ideal.ofBits .f32 0xFF800000#32) (fun j => s (ix4 b h i j))) :=
  congrArg (max (m (ix4 b h i (0 : Fin 1)))) ((column_apply _ b h i).trans (reduce_max_apply s (constant S_ .f32 0xFF800000#32) _ _ b h i))

/-- The new sums. -/
theorem sumN_apply (l m m' : FVec Ideal S4x8x256x1 .f32) (s : FVec Ideal S4x8x256x1024 .f32) (b : Fin 4) (h : Fin 8) (i : Fin 256) :
    sumN l (factor m m') (weights s m') (ix4 b h i (0 : Fin 1))
      = l (ix4 b h i (0 : Fin 1)) * Ideal.exp (m (ix4 b h i (0 : Fin 1)) - m' (ix4 b h i (0 : Fin 1)))
        + ∑ j : Fin 1024, Ideal.exp (s (ix4 b h i j) - m' (ix4 b h i (0 : Fin 1))) := by
  pointwise [sumN, factor, weights]

/-- The new outputs. -/
theorem outN_apply (o : FVec Ideal S4x256x8x128 .f32) (m m' : FVec Ideal S4x8x256x1 .f32) (V : FVec Ideal S4x1024x8x128 .f32)
    (s : FVec Ideal S4x8x256x1024 .f32) (b : Fin 4) (h : Fin 8) (i : Fin 256) (d : Fin 128) :
    outN o (factor m m') V (weights s m') (ix4 b i h d)
      = o (ix4 b i h d) * Ideal.exp (m (ix4 b h i (0 : Fin 1)) - m' (ix4 b h i (0 : Fin 1)))
        + ∑ j : Fin 1024, V (ix4 b j h d) * Ideal.exp (s (ix4 b h i j) - m' (ix4 b h i (0 : Fin 1))) := by
  pointwise [outN, factor, weights, spread]

/-- The result. -/
theorem final_apply (o : FVec Ideal S4x256x8x128 .f32) (l : FVec Ideal S4x8x256x1 .f32) (wo : FVec Ideal S1024x1024 .f32) (b : Fin 4) (i : Fin 256) (e : Fin 1024) :
    final o l wo (ix3 b i e) = ∑ k : Fin 1024,
      Ideal.div (o (ix4 b i (⟨k.val / 128, by omega⟩ : Fin 8) (⟨k.val % 128, by omega⟩ : Fin 128))) (l (ix4 b (⟨k.val / 128, by omega⟩ : Fin 8) i (0 : Fin 1))) * wo (ix2 k e) := by
  pointwise [final, spread]

theorem m0_apply (b : Fin 4) (h : Fin 8) (i : Fin 256) : (m0 : FVec Ideal S4x8x256x1 .f32) (ix4 b h i (0 : Fin 1)) = Ideal.ofBits .f32 0xFF800000#32 := by
  pointwise [m0]
theorem l0_apply (b : Fin 4) (h : Fin 8) (i : Fin 256) : (l0 : FVec Ideal S4x8x256x1 .f32) (ix4 b h i (0 : Fin 1)) = 0 := by
  pointwise [l0]
theorem o0_apply (b : Fin 4) (i : Fin 256) (h : Fin 8) (d : Fin 128) : (o0 : FVec Ideal S4x256x8x128 .f32) (ix4 b i h d) = 0 := by
  pointwise [o0]

end Cert.ReferenceIdeal.Steps

end
-- ==== Proof.RefValue.lean ====
/- The reference's normalised outputs over the extended reals: at real scores each is the normalised output of the
   four blocks of keys together. -/
module

public import proofs.«01_k».proof.Proof.RefSteps
public import proofs.«01_k».proof.Proof.Consts

@[expose] public section

noncomputable section

namespace Cert.ReferenceIdeal.Steps

open Cert.ReferenceIdeal Cert.Softmax Idealize.ShloMosaic
open scoped BigOperators

variable (q : FVec Ideal S4x256x8x128 .f32) (b : Fin 4) (h : Fin 8) (i : Fin 256) (d : Fin 128)

/-- The values of one column, as extended reals. -/
def col (V : S4x1024x8x128.Idx → EReal) : Fin 1024 → EReal := fun j => V (ix4 b j h d)

/-- The state of query `i`, read at dimension `d`, is that of the part `w`, `n`. -/
def Holds (t : St Ideal) (w : ℝ → ℝ) (n : ℝ → EReal) : Prop :=
  State w n (t.m (ix4 b h i (0 : Fin 1))) (t.l (ix4 b h i (0 : Fin 1))) (t.o (ix4 b i h d))

/-- The first block. -/
theorem holds_first (K V : FVec Ideal S4x1024x8x128 .f32) (s : Fin 1024 → ℝ) (hs : ∀ j, scores q K (ix4 b h i j) = ((s j : ℝ) : EReal)) :
    Holds b h i d ((⟨m0, l0, o0⟩ : St Ideal).step q K V) (W s) (N s (col b h d V)) := by
  have hm : maxN m0 (scores q K) (ix4 b h i (0 : Fin 1)) = max ⊥ ((Finset.univ : Finset (Fin 1024)).fold max (⊥ : EReal) (fun j => ((s j : ℝ) : EReal))) := by
    rw [maxN_apply, m0_apply, const_bot]; simp only [hs]
  have key := state_first s (col b h d V) hm
  have hl := sumN_apply l0 m0 (maxN m0 (scores q K)) (scores q K) b h i
  have ho := outN_apply o0 m0 (maxN m0 (scores q K)) V (scores q K) b h i d
  simp only [hs, m0_apply, l0_apply, const_bot] at hl
  simp only [hs, m0_apply, o0_apply, const_bot] at ho
  exact key.of_eq hl ho

/-- A further block. -/
theorem holds_next {t : St Ideal} {w : ℝ → ℝ} {n : ℝ → EReal} (hp : Part w n) (ht : Holds b h i d t w n)
    (K V : FVec Ideal S4x1024x8x128 .f32) (s : Fin 1024 → ℝ) (hs : ∀ j, scores q K (ix4 b h i j) = ((s j : ℝ) : EReal)) :
    Holds b h i d (t.step q K V) (w + W s) (n + N s (col b h d V)) := by
  have hm : maxN t.m (scores q K) (ix4 b h i (0 : Fin 1))
      = max (t.m (ix4 b h i (0 : Fin 1)) : EReal) ((Finset.univ : Finset (Fin 1024)).fold max (⊥ : EReal) (fun j => ((s j : ℝ) : EReal))) := by
    rw [maxN_apply, const_bot]; simp only [hs]
  have key := State.next hp ht s (col b h d V) hm
  have hl := sumN_apply t.l t.m (maxN t.m (scores q K)) (scores q K) b h i
  have ho := outN_apply t.o t.m (maxN t.m (scores q K)) V (scores q K) b h i d
  simp only [hs] at hl ho
  exact key.of_eq hl ho

/-- The normalised output of query `i`: that of all four blocks of keys. -/
theorem last_div (K V : FVec Ideal S4x4096x8x128 .f32) (s : Fin 4 → Fin 1024 → ℝ)
    (h0 : ∀ j, scores q (part0 K) (ix4 b h i j) = ((s 0 j : ℝ) : EReal)) (h1 : ∀ j, scores q (part1 K) (ix4 b h i j) = ((s 1 j : ℝ) : EReal))
    (h2 : ∀ j, scores q (part2 K) (ix4 b h i j) = ((s 2 j : ℝ) : EReal)) (h3 : ∀ j, scores q (part3 K) (ix4 b h i j) = ((s 3 j : ℝ) : EReal)) :
    Ideal.div ((last q K V).o (ix4 b i h d)) ((last q K V).l (ix4 b h i (0 : Fin 1)))
      = quot (((W (s 0) + W (s 1)) + W (s 2)) + W (s 3))
          (((N (s 0) (col b h d (part0 V)) + N (s 1) (col b h d (part1 V))) + N (s 2) (col b h d (part2 V))) + N (s 3) (col b h d (part3 V))) := by
  have p0 := part_block (s 0) (col b h d (part0 V))
  have p1 := p0.add (part_block (s 1) (col b h d (part1 V)))
  have p2 := p1.add (part_block (s 2) (col b h d (part2 V)))
  have p3 := p2.add (part_block (s 3) (col b h d (part3 V)))
  have e0 := holds_first q b h i d (part0 K) (part0 V) (s 0) h0
  have e1 := holds_next q b h i d p0 e0 (part1 K) (part1 V) (s 1) h1
  have e2 := holds_next q b h i d p1 e1 (part2 K) (part2 V) (s 2) h2
  have e3 := holds_next q b h i d p2 e2 (part3 K) (part3 V) (s 3) h3
  exact State.div p3 e3

end Cert.ReferenceIdeal.Steps

end
-- ==== Proof.Equal.lean ====
/- At real rows, query weights and keys, the kernel's result on every device is the reference's result. -/
module

public import proofs.«01_k».proof.Proof.KerSoftmax
public import proofs.«01_k».proof.Proof.RefValue
public import Idealize.ShloMosaic.Lib.Layout

@[expose] public section

noncomputable section

namespace Cert.Proof

open Idealize.ShloMosaic Cert.Softmax Cert.KernelIdeal.Body
open Cert.KernelIdeal (nD)
open Cert.ReferenceIdeal (S4x256x1024 S1024x1024 S4x4096x8x128 S4x1024x8x128)
open Cert.ReferenceIdeal.Steps (queries scores part0 part1 part2 part3 last result)
open scoped BigOperators

/-- Position `j` of block `c`. -/
def at4 (c : Fin 4) (j : Fin 1024) : Fin 4096 := ⟨1024 * c.val + j.val, by omega⟩

/-- An entry of a device's block of the keys or values. -/
theorem block_apply4 (c : Fin 4) (A : S4x4096x8x128.Idx → EReal) (b : Fin 4) (j : Fin 1024) (h : Fin 8) (e : Fin 128) :
    Layout.block ⟨4, ![4, 1024, 8, 128]⟩ ⟨4, ![4, 4096, 8, 128]⟩ 1 4 c A (by decide) (ix4 b j h e) = A (ix4 b (at4 c j) h e) := by
  rw [Layout.block_apply]
  refine congrArg A (funext fun a => Fin.ext ?_)
  rw [Layout.Tiles.idx_val]
  match a with
  | ⟨0, _⟩ => rfl
  | ⟨1, _⟩ => show c.val * 1024 + j.val = 1024 * c.val + j.val; omega
  | ⟨2, _⟩ => rfl
  | ⟨3, _⟩ => rfl

variable (I : Dev nD → In Ideal) (X : S4x256x1024.Idx → EReal) (WQ WO : S1024x1024.Idx → EReal) (K V : S4x4096x8x128.Idx → EReal)

/-- The devices' inputs are the whole arrays', the keys and the values by blocks. -/
structure Shared : Prop where
  /-- The rows. -/
  x : ∀ c, xE I c = X
  /-- The query weights. -/
  wq : ∀ c, wqE I c = WQ
  /-- The output weights. -/
  wo : ∀ c, woE I c = WO
  /-- The keys. -/
  K : ∀ (c : Dev nD) b j h e, kE I c (ix4 b j h e) = K (ix4 b (at4 c j) h e)
  /-- The values. -/
  V : ∀ (c : Dev nD) b j h e, vE I c (ix4 b j h e) = V (ix4 b (at4 c j) h e)

/-- The inputs that enter the scores are real. -/
structure Reals : Prop where
  /-- The rows. -/
  x : ∀ c i, IsReal (xE I c i)
  /-- The query weights. -/
  wq : ∀ c i, IsReal (wqE I c i)
  /-- The keys. -/
  K : ∀ c i, IsReal (kE I c i)

variable {I X WQ WO K V}

/-- Then the scores are real. -/
theorem Reals.score (hr : Reals I) (c : Dev nD) (b : Fin 4) (h : Fin 8) (i : Fin 256) (j : Fin 1024) : IsReal (sK I c b h i j) := by
  obtain ⟨a, -, ha⟩ := const_scale
  refine isReal_sum _ _ fun e => IsReal.mul ?_ (hr.K _ _)
  unfold qK
  rw [ha]
  exact (isReal_sum _ _ fun k => (hr.x _ _).mul (hr.wq _ _)).mul (isReal_coe a)

/-- The reference's score is the kernel's: it scales the product where the kernel scales the query. -/
theorem Shared.score (hs : Shared I X WQ WO K V) (c : Dev nD) (P : S4x1024x8x128.Idx → EReal) (b : Fin 4) (h : Fin 8) (i : Fin 256)
    (hP : ∀ j e, P (ix4 b j h e) = K (ix4 b (at4 c j) h e)) (j : Fin 1024) :
    scores (F := Ideal) (queries X WQ) P (ix4 b h i j) = sK I c b h i j := by
  obtain ⟨a, ha0, ha⟩ := const_scale
  refine (Cert.ReferenceIdeal.Steps.scores_apply (queries X WQ) P b h i j).trans ?_
  rw [ha]
  refine (sum_mul_coe _ _ ha0).trans (Finset.sum_congr rfl fun e _ => ?_)
  have e1 : (queries (F := Ideal) X WQ (ix4 b i h e) : EReal) = ∑ k : Fin 1024, xE I c (ix3 b i k) * wqE I c (ix2 k (headCol h e)) := by
    refine (Cert.ReferenceIdeal.Steps.queries_apply X WQ b i h e).trans (Finset.sum_congr rfl fun k _ => ?_)
    rw [hs.x, hs.wq]
    exact congrArg (fun z => X (ix3 b i k) * WQ (ix2 k z)) (Fin.ext (by show h.val * 128 + e.val = 128 * h.val + e.val; omega))
  have e2 : P (ix4 b j h e) = kE I c (ix4 b j h e) := (hP j e).trans (hs.K c b j h e).symm
  show (queries (F := Ideal) X WQ (ix4 b i h e) : EReal) * P (ix4 b j h e) * (a : EReal) = qK I c b i (headCol h e) * kE I c (ix4 b j h e)
  rw [e1, e2]
  unfold qK
  rw [ha]
  exact mul_right_comm _ _ _

/-- One normalised output: the reference's is the kernel's. -/
theorem Shared.normalised (hs : Shared I X WQ WO K V) (hr : Reals I) (c : Dev nD) (b : Fin 4) (h : Fin 8) (i : Fin 256) (d : Fin 128) :
    Ideal.div ((last (F := Ideal) (queries X WQ) K V).o (ix4 b i h d)) ((last (F := Ideal) (queries X WQ) K V).l (ix4 b h i (0 : Fin 1)))
      = oK2 I c b h i d := by
  have hv : ∀ (c : Dev nD) (P : S4x1024x8x128.Idx → EReal), (∀ j, P (ix4 b j h d) = V (ix4 b (at4 c j) h d)) →
      Cert.ReferenceIdeal.Steps.col b h d P = vcol I b h d c := fun c P hP => funext fun j => (hP j).trans (hs.V c b j h d).symm
  rw [oK2_eq I b h i d (fun c j => (sK I c b h i j).toReal) (fun c j => (hr.score c b h i j).symm) c,
    Cert.ReferenceIdeal.Steps.last_div (queries X WQ) b h i d K V (fun c j => (sK I c b h i j).toReal)
      (fun j => (hs.score (0 : Fin 4) _ b h i (fun j e => Cert.ReferenceIdeal.Steps.part0_apply K b j h e) j).trans (hr.score _ b h i j).symm)
      (fun j => (hs.score (1 : Fin 4) _ b h i (fun j e => Cert.ReferenceIdeal.Steps.part1_apply K b j h e) j).trans (hr.score _ b h i j).symm)
      (fun j => (hs.score (2 : Fin 4) _ b h i (fun j e => Cert.ReferenceIdeal.Steps.part2_apply K b j h e) j).trans (hr.score _ b h i j).symm)
      (fun j => (hs.score (3 : Fin 4) _ b h i (fun j e => Cert.ReferenceIdeal.Steps.part3_apply K b j h e) j).trans (hr.score _ b h i j).symm),
    hv (0 : Fin 4) (part0 (F := Ideal) V) (fun j => Cert.ReferenceIdeal.Steps.part0_apply V b j h d),
    hv (1 : Fin 4) (part1 (F := Ideal) V) (fun j => Cert.ReferenceIdeal.Steps.part1_apply V b j h d),
    hv (2 : Fin 4) (part2 (F := Ideal) V) (fun j => Cert.ReferenceIdeal.Steps.part2_apply V b j h d),
    hv (3 : Fin 4) (part3 (F := Ideal) V) (fun j => Cert.ReferenceIdeal.Steps.part3_apply V b j h d)]

/-- The kernel's result on every device is the reference's. -/
theorem Shared.out_eq (hs : Shared I X WQ WO K V) (hr : Reals I) (c : Dev nD) : OUT I c = result (F := Ideal) X WQ WO K V := by
  funext y
  obtain ⟨b, i, e, rfl⟩ : ∃ (b : Fin 4) (i : Fin 256) (e : Fin 1024), y = ix3 b i e := ⟨y 0, y 1, y 2, ValueIdx.eq_ix3 y⟩
  refine (OUT_apply I c b i e).trans (Eq.symm ?_)
  refine (Cert.ReferenceIdeal.Steps.final_apply _ _ WO b i e).trans (Finset.sum_congr rfl fun k _ => ?_)
  rw [hs.normalised hr c, hs.wo]

end Cert.Proof

end
-- ==== Proof.Algebraic.lean ====
/- The kernel, on four devices, ends with the reference's result on every device, over the extended reals, given that
   the rows, the query weights and the keys are real. -/
module

public import proofs.«01_k».proof.Proof.Frames
public import proofs.«01_k».proof.Proof.Equal
public import proofs.«01_k».proof.Proof.Finite

@[expose] public section

noncomputable section

namespace Cert.Proof

open Idealize.ShloMosaic Idealize.SL.Sem Cert.Softmax Cert.KernelIdeal.Body

/-- The kernel's run under the precondition. -/
theorem frame_kernelIdeal_pre :
    Cert.quiescent_KernelIdeal_pre_finite_scores_KernelIdeal (hKernelIdeal := Cert.KernelIdeal.Gen.facts) (hPre_finite_scores_KernelIdeal := pre_facts) :=
  fun m ρ _ => frame_kernelIdeal m ρ trivial

/-- The reference's run under the precondition. -/
theorem frame_reference_pre :
    Cert.quiescent_ReferenceIdeal_pre_finite_scores_ReferenceIdeal (hReferenceIdeal := Cert.ReferenceIdeal.Gen.facts)
      (hPre_finite_scores_ReferenceIdeal := pre_facts_whole) :=
  fun m ρ _ => frame_reference m ρ trivial

/-- The kernel computes the reference's result. -/
theorem algebraic : Cert.algebraic_KernelIdeal_ReferenceIdeal_pre_finite_scores_KernelIdeal (hKernelIdeal := Cert.KernelIdeal.Gen.facts)
    (hReferenceIdeal := Cert.ReferenceIdeal.Gen.facts) (hPre_finite_scores_KernelIdeal := pre_facts) := fun m g m' g' hP hA => by
  have hs : Shared (inOf m) (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) :=
    { x := fun c => (hA c).1
      wq := fun c => (hA c).2.1
      wo := fun c => (hA c).2.2.1
      K := fun c b j h e => (congrFun (hA c).2.2.2.1 (ix4 b j h e)).trans (block_apply4 c _ b j h e)
      V := fun c b j h e => (congrFun (hA c).2.2.2.2 (ix4 b j h e)).trans (block_apply4 c _ b j h e) }
  have hr : Reals (inOf m) :=
    { x := fun c i => pre_x pre_facts _ _ _ _ _ (hP c).1 i
      wq := fun c i => pre_wq pre_facts _ _ _ _ _ (hP c).2.1 i
      K := fun c i => pre_K pre_facts _ _ _ _ _ (hP c).2.2 i }
  refine ⟨Cert.ReferenceIdeal.Value.res_main_v101 m' (0 : Dev Cert.ReferenceIdeal.nD), ?_, ?_⟩
  · refine (θ_run Cert.KernelIdeal.defs _ _).mono (fun _ h c => ?_) (run_main (F := Ideal) m g)
    refine ⟨((h.1 c).1).trans ?_, (h.1 c).2⟩
    exact (hs.out_eq hr c).trans (Cert.ReferenceIdeal.Steps.res_eq m' (0 : Dev Cert.ReferenceIdeal.nD)).symm
  · exact (θ_run Cert.ReferenceIdeal.defs _ _).mono (fun _ h => h (0 : Dev Cert.ReferenceIdeal.nD)) (Cert.ReferenceIdeal.Value.run (F := Ideal) m' g')

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Finite
public import proofs.«01_k».proof.Proof.Algebraic

@[expose] public section

noncomputable section

namespace Cert.Proof

/-- Everything that the certificate claims. -/
theorem claim : Cert.Claim := ⟨Cert.Kernel.Gen.facts, Cert.KernelIdeal.Gen.facts, Cert.ReferenceIdeal.Gen.facts, pre_facts, pre_facts_whole,
  frame_kernel, frame_kernelIdeal, frame_kernelIdeal_pre, frame_reference, frame_reference_pre, trivial, algebraic⟩

end Cert.Proof

end
